-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x45x64 : Shape := ⟨4, ![2, 1024, 45, 64]⟩
abbrev S2x45 : Shape := ⟨2, ![2, 45]⟩
abbrev S2x1024x5x64 : Shape := ⟨4, ![2, 1024, 5, 64]⟩
abbrev S2x5 : Shape := ⟨2, ![2, 5]⟩
abbrev S2x5x64 : Shape := ⟨3, ![2, 5, 64]⟩
abbrev S2x1024x2880 : Shape := ⟨3, ![2, 1024, 2880]⟩
abbrev S2880x45 : Shape := ⟨2, ![2880, 45]⟩
abbrev S45 : Shape := ⟨1, ![45]⟩
abbrev S_ : Shape := ⟨0, ![]⟩

class Facts : Prop where
  bcast_S_S2x1024x2880 : S_.BroadcastsInDim S2x1024x2880 (![] : Fin 0 → Fin S2x1024x2880.rank)
  reducesTo_S2x1024x2880_S_d0_1_2 : S2x1024x2880.ReducesTo [0, 1, 2] S_
  h_S_ : 0 < S_.numel
  bcast_S_S2880x45 : S_.BroadcastsInDim S2880x45 (![] : Fin 0 → Fin S2880x45.rank)
  reducesTo_S2880x45_S_d0_1 : S2880x45.ReducesTo [0, 1] S_

variable [Facts]

def fn {F : FTy → Type} [FloatOps F] (main_arg0 : FVec F S2x1024x45x64 .fp8e4m3) (main_arg1 : FVec F S2x45 .f32) (main_arg2 : FVec F S2x1024x5x64 .fp8e4m3) (main_arg3 : FVec F S2x5 .f32) (main_arg4 : FVec F S2x1024x5x64 .fp8e4m3) (main_arg5 : FVec F S2x5x64 .f32) (main_arg6 : FVec F S2x1024x2880 .bf16) (main_arg7 : FVec F S2880x45 .f32) (main_arg8 : FVec F S45 .f32) : IVec S_ 1 :=
  let main_v0 : FVec F S2x1024x2880 .bf16 := Host.absf main_arg6
  let main_cst : FVec F S_ .bf16 := constant S_ .bf16 0x7F80#16
  let main_v1 : FVec F S2x1024x2880 .bf16 := broadcastInDim S2x1024x2880 ![] bcast_S_S2x1024x2880 main_cst
  let main_v2 : IVec S2x1024x2880 1 := cmpf .olt main_v0 main_v1
  let main_c : IVec S_ 1 := constantI S_ 1 1#1
  let main_v3 : IVec S_ 1 := (fun x v => Host.reduce IntOp.andi x v reducesTo_S2x1024x2880_S_d0_1_2 h_S_) main_v2 main_c
  let main_v4 : FVec F S2880x45 .f32 := Host.absf main_arg7
  let main_cst_0 : FVec F S_ .f32 := constant S_ .f32 0x7F800000#32
  let main_v5 : FVec F S2880x45 .f32 := broadcastInDim S2880x45 ![] bcast_S_S2880x45 main_cst_0
  let main_v6 : IVec S2880x45 1 := cmpf .olt main_v4 main_v5
  let main_c_1 : IVec S_ 1 := constantI S_ 1 1#1
  let main_v7 : IVec S_ 1 := (fun x v => Host.reduce IntOp.andi x v reducesTo_S2880x45_S_d0_1 h_S_) main_v6 main_c_1
  let main_v8 : IVec S_ 1 := andi main_v3 main_v7
  main_v8
-- ==== Kernel.lean ====
abbrev S2x1024x45x64 : Shape := ⟨4, ![2, 1024, 45, 64]⟩
abbrev S2x45 : Shape := ⟨2, ![2, 45]⟩
abbrev S2x1024x5x64 : Shape := ⟨4, ![2, 1024, 5, 64]⟩
abbrev S2x5 : Shape := ⟨2, ![2, 5]⟩
abbrev S2x5x64 : Shape := ⟨3, ![2, 5, 64]⟩
abbrev S2x1024x2880 : Shape := ⟨3, ![2, 1024, 2880]⟩
abbrev S2880x45 : Shape := ⟨2, ![2880, 45]⟩
abbrev S45 : Shape := ⟨1, ![45]⟩
abbrev S2x45x64x1024 : Shape := ⟨4, ![2, 45, 64, 1024]⟩
abbrev S2x5x64x1024 : Shape := ⟨4, ![2, 5, 64, 1024]⟩
abbrev S5x2x64 : Shape := ⟨3, ![5, 2, 64]⟩
abbrev S2x2880x1024 : Shape := ⟨3, ![2, 2880, 1024]⟩
abbrev S45x2880 : Shape := ⟨2, ![45, 2880]⟩
abbrev S45x1 : Shape := ⟨2, ![45, 1]⟩
abbrev S2x45x1x1024 : Shape := ⟨4, ![2, 45, 1, 1024]⟩
abbrev S1x2880x512 : Shape := ⟨3, ![1, 2880, 512]⟩
abbrev S1x45x1x512 : Shape := ⟨4, ![1, 45, 1, 512]⟩
abbrev S144x2880 : Shape := ⟨2, ![144, 2880]⟩
abbrev S45x128 : Shape := ⟨2, ![45, 128]⟩
abbrev S46x2880 : Shape := ⟨2, ![46, 2880]⟩
abbrev S2880x512 : Shape := ⟨2, ![2880, 512]⟩
abbrev S144x512 : Shape := ⟨2, ![144, 512]⟩
abbrev S48x512 : Shape := ⟨2, ![48, 512]⟩
abbrev S45x512 : Shape := ⟨2, ![45, 512]⟩
abbrev S1x512 : Shape := ⟨2, ![1, 512]⟩
abbrev S1x1x1x512 : Shape := ⟨4, ![1, 1, 1, 512]⟩
abbrev S128x128 : Shape := ⟨2, ![128, 128]⟩
abbrev S1x128 : Shape := ⟨2, ![1, 128]⟩
abbrev S1x1x1x128 : Shape := ⟨4, ![1, 1, 1, 128]⟩
abbrev S1x9x64x1024 : Shape := ⟨4, ![1, 9, 64, 1024]⟩
abbrev S1x1x64x1024 : Shape := ⟨4, ![1, 1, 64, 1024]⟩
abbrev S1x45x1x1024 : Shape := ⟨4, ![1, 45, 1, 1024]⟩
abbrev S1x9x1x1024 : Shape := ⟨4, ![1, 9, 1, 1024]⟩
abbrev S1024x64 : Shape := ⟨2, ![1024, 64]⟩
abbrev S64x1024 : Shape := ⟨2, ![64, 1024]⟩
abbrev S64x128 : Shape := ⟨2, ![64, 128]⟩
abbrev S1024x128 : Shape := ⟨2, ![1024, 128]⟩
abbrev S1x1x64 : Shape := ⟨3, ![1, 1, 64]⟩
abbrev S1x64 : Shape := ⟨2, ![1, 64]⟩
abbrev S128x64 : Shape := ⟨2, ![128, 64]⟩
abbrev S1x1 : Shape := ⟨2, ![1, 1]⟩
abbrev S256x64 : Shape := ⟨2, ![256, 64]⟩
abbrev S1x1x64x256 : Shape := ⟨4, ![1, 1, 64, 256]⟩
abbrev S64x256 : Shape := ⟨2, ![64, 256]⟩
abbrev S256x256 : Shape := ⟨2, ![256, 256]⟩
abbrev S256x128 : Shape := ⟨2, ![256, 128]⟩
abbrev S256 : Shape := ⟨1, ![256]⟩
abbrev S1x256 : Shape := ⟨2, ![1, 256]⟩
abbrev S1x1x1x256 : Shape := ⟨4, ![1, 1, 1, 256]⟩
abbrev S512x64 : Shape := ⟨2, ![512, 64]⟩
abbrev S512x256 : Shape := ⟨2, ![512, 256]⟩
abbrev S512x128 : Shape := ⟨2, ![512, 128]⟩
abbrev S64x512 : Shape := ⟨2, ![64, 512]⟩
abbrev S768x64 : Shape := ⟨2, ![768, 64]⟩
abbrev S768x256 : Shape := ⟨2, ![768, 256]⟩
abbrev S768x128 : Shape := ⟨2, ![768, 128]⟩
abbrev S64x768 : Shape := ⟨2, ![64, 768]⟩
abbrev S1024x256 : Shape := ⟨2, ![1024, 256]⟩
abbrev S2x45x1024 : Shape := ⟨3, ![2, 45, 1024]⟩
abbrev S2x1024x45 : Shape := ⟨3, ![2, 1024, 45]⟩

abbrev nBuf : Space → Nat
  | .hbm => 26
  | .vmem => 27
  | .smem => 2
  | _ => 0

abbrev bufTy : (tb : Table) → Fin (tcTables nBuf tb) → BufTy
  | .hbm, ⟨0, _⟩ => ⟨S2x1024x45x64, .fp8e4m3⟩
  | .hbm, ⟨1, _⟩ => ⟨S2x45, .f32⟩
  | .hbm, ⟨2, _⟩ => ⟨S2x1024x5x64, .fp8e4m3⟩
  | .hbm, ⟨3, _⟩ => ⟨S2x5, .f32⟩
  | .hbm, ⟨4, _⟩ => ⟨S2x1024x5x64, .fp8e4m3⟩
  | .hbm, ⟨5, _⟩ => ⟨S2x5x64, .f32⟩
  | .hbm, ⟨6, _⟩ => ⟨S2x1024x2880, .bf16⟩
  | .hbm, ⟨7, _⟩ => ⟨S2880x45, .f32⟩
  | .hbm, ⟨8, _⟩ => ⟨S45, .f32⟩
  | .hbm, ⟨9, _⟩ => ⟨S2x45x64x1024, .fp8e4m3⟩
  | .hbm, ⟨10, _⟩ => ⟨S2x5x64x1024, .fp8e4m3⟩
  | .hbm, ⟨11, _⟩ => ⟨S2x5x64x1024, .fp8e4m3⟩
  | .hbm, ⟨12, _⟩ => ⟨S5x2x64, .f32⟩
  | .hbm, ⟨13, _⟩ => ⟨S2x2880x1024, .bf16⟩
  | .hbm, ⟨14, _⟩ => ⟨S45x2880, .f32⟩
  | .hbm, ⟨15, _⟩ => ⟨S45x1, .f32⟩
  | .hbm, ⟨16, _⟩ => ⟨S2x45x1x1024, .f32⟩
  | .hbm, ⟨17, _⟩ => ⟨S2x45x1x1024, .f32⟩
  | .hbm, ⟨18, _⟩ => ⟨S2x45x64x1024, .bf16⟩
  | .hbm, ⟨19, _⟩ => ⟨S2x45x1x1024, .f32⟩
  | .hbm, ⟨20, _⟩ => ⟨S2x2880x1024, .bf16⟩
  | .hbm, ⟨21, _⟩ => ⟨S2x1024x2880, .bf16⟩
  | .hbm, ⟨22, _⟩ => ⟨S2x45x1024, .f32⟩
  | .hbm, ⟨23, _⟩ => ⟨S2x1024x45, .f32⟩
  | .hbm, ⟨24, _⟩ => ⟨S2x45x1024, .f32⟩
  | .hbm, ⟨25, _⟩ => ⟨S2x1024x45, .f32⟩
  | .local _ .vmem, ⟨0, _⟩ => ⟨S1x2880x512, .bf16⟩
  | .local _ .vmem, ⟨1, _⟩ => ⟨S1x2880x512, .bf16⟩
  | .local _ .vmem, ⟨2, _⟩ => ⟨S45x2880, .f32⟩
  | .local _ .vmem, ⟨3, _⟩ => ⟨S45x1, .f32⟩
  | .local _ .vmem, ⟨4, _⟩ => ⟨S1x45x1x512, .f32⟩
  | .local _ .vmem, ⟨5, _⟩ => ⟨S1x45x1x512, .f32⟩
  | .local _ .vmem, ⟨6, _⟩ => ⟨S1x45x1x512, .f32⟩
  | .local _ .vmem, ⟨7, _⟩ => ⟨S1x45x1x512, .f32⟩
  | .local _ .vmem, ⟨8, _⟩ => ⟨S144x2880, .bf16⟩
  | .local _ .vmem, ⟨9, _⟩ => ⟨S45x128, .f32⟩
  | .local _ .vmem, ⟨10, _⟩ => ⟨S1x9x64x1024, .fp8e4m3⟩
  | .local _ .vmem, ⟨11, _⟩ => ⟨S1x9x64x1024, .fp8e4m3⟩
  | .local _ .vmem, ⟨12, _⟩ => ⟨S1x1x64x1024, .fp8e4m3⟩
  | .local _ .vmem, ⟨13, _⟩ => ⟨S1x1x64x1024, .fp8e4m3⟩
  | .local _ .vmem, ⟨14, _⟩ => ⟨S1x1x64x1024, .fp8e4m3⟩
  | .local _ .vmem, ⟨15, _⟩ => ⟨S1x1x64x1024, .fp8e4m3⟩
  | .local _ .vmem, ⟨16, _⟩ => ⟨S5x2x64, .f32⟩
  | .local _ .vmem, ⟨17, _⟩ => ⟨S1x45x1x1024, .f32⟩
  | .local _ .vmem, ⟨18, _⟩ => ⟨S1x45x1x1024, .f32⟩
  | .local _ .vmem, ⟨19, _⟩ => ⟨S1x9x64x1024, .bf16⟩
  | .local _ .vmem, ⟨20, _⟩ => ⟨S1x9x64x1024, .bf16⟩
  | .local _ .vmem, ⟨21, _⟩ => ⟨S1x9x1x1024, .f32⟩
  | .local _ .vmem, ⟨22, _⟩ => ⟨S1x9x1x1024, .f32⟩
  | .local _ .vmem, ⟨23, _⟩ => ⟨S1024x64, .fp8e4m3⟩
  | .local _ .vmem, ⟨24, _⟩ => ⟨S64x1024, .bf16⟩
  | .local _ .vmem, ⟨25, _⟩ => ⟨S64x128, .f32⟩
  | .local _ .vmem, ⟨26, _⟩ => ⟨S1024x128, .f32⟩
  | .local _ .smem, ⟨0, _⟩ => ⟨S2x45, .f32⟩
  | .local _ .smem, ⟨1, _⟩ => ⟨S2x5, .f32⟩
  | _, _ => ⟨S2x1024x45x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2880x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S45x2880 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S45x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x45x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x45x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 5], ![false, false]⟩

def k1_off1 (i : grid1.Coords) : Fin 3 → Nat :=
  let arg1 : BitVec 32 := BitVec.ofNat 32 (i 1).val
  let v14 : Index := Scalar.indexCast arg1
  let arg0 : BitVec 32 := BitVec.ofNat 32 (i 0).val
  let v15 : Index := Scalar.indexCast arg0
  let c0_11 : Index := 0#32
  ![v14.toNat, v15.toNat, 0]
@[reducible] def k1_t1_loop : Scf.Loop 32 :=
  let c0_i32 : BitVec 32 := 0#32
  let c9_i32 : BitVec 32 := 9#32
  let v25 : BitVec 32 := Scalar.addi c0_i32 c9_i32
  let c1_i32 : BitVec 32 := 1#32
  ⟨c0_i32, v25, c1_i32⟩
def k1_off2 (i : grid1.Coords) (k1_t1 : Fin k1_t1_loop.trips) : Fin 2 → Nat :=
  let arg0 : BitVec 32 := BitVec.ofNat 32 (i 0).val
  let v28 : Index := Scalar.indexCast arg0
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v29 : Index := Scalar.indexCast v27
  ![v28.toNat, v29.toNat]
def k1_off3 (i : grid1.Coords) : Fin 2 → Nat :=
  let arg0 : BitVec 32 := BitVec.ofNat 32 (i 0).val
  let v31 : Index := Scalar.indexCast arg0
  let arg1 : BitVec 32 := BitVec.ofNat 32 (i 1).val
  let v32 : Index := Scalar.indexCast arg1
  ![v31.toNat, v32.toNat]
def k1_off4 (i : grid1.Coords) (k1_t1 : Fin k1_t1_loop.trips) : Fin 4 → Nat :=
  let c0_17 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v37 : Index := Scalar.indexCast v27
  let c0_18 : Index := 0#32
  let c0_19 : Index := 0#32
  ![0, v37.toNat, 0, 0]
def k1_off5 (i : grid1.Coords) (k1_t1 : Fin k1_t1_loop.trips) : Fin 4 → Nat :=
  let c0_23 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v48 : Index := Scalar.indexCast v27
  let c0_24 : Index := 0#32
  let c128 : Index := 128#32
  ![0, v48.toNat, 0, 128]
def k1_off6 (i : grid1.Coords) (k1_t1 : Fin k1_t1_loop.trips) : Fin 4 → Nat :=
  let c0_28 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v59 : Index := Scalar.indexCast v27
  let c0_29 : Index := 0#32
  let c256 : Index := 256#32
  ![0, v59.toNat, 0, 256]
def k1_off7 (i : grid1.Coords) (k1_t1 : Fin k1_t1_loop.trips) : Fin 4 → Nat :=
  let c0_33 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v70 : Index := Scalar.indexCast v27
  let c0_34 : Index := 0#32
  let c384 : Index := 384#32
  ![0, v70.toNat, 0, 384]
def k1_off8 (i : grid1.Coords) (k1_t1 : Fin k1_t1_loop.trips) : Fin 4 → Nat :=
  let c0_38 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v81 : Index := Scalar.indexCast v27
  let c0_39 : Index := 0#32
  let c512 : Index := 512#32
  ![0, v81.toNat, 0, 512]
def k1_off9 (i : grid1.Coords) (k1_t1 : Fin k1_t1_loop.trips) : Fin 4 → Nat :=
  let c0_43 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v92 : Index := Scalar.indexCast v27
  let c0_44 : Index := 0#32
  let c640 : Index := 640#32
  ![0, v92.toNat, 0, 640]
def k1_off10 (i : grid1.Coords) (k1_t1 : Fin k1_t1_loop.trips) : Fin 4 → Nat :=
  let c0_48 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v103 : Index := Scalar.indexCast v27
  let c0_49 : Index := 0#32
  let c768 : Index := 768#32
  ![0, v103.toNat, 0, 768]
def k1_off11 (i : grid1.Coords) (k1_t1 : Fin k1_t1_loop.trips) : Fin 4 → Nat :=
  let c0_53 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v114 : Index := Scalar.indexCast v27
  let c0_54 : Index := 0#32
  let c896 : Index := 896#32
  ![0, v114.toNat, 0, 896]
def k1_off12 (k1_t1 : Fin k1_t1_loop.trips) : Fin 4 → Nat :=
  let c0_60 : Index := 0#32
  let c0_i32 : BitVec 32 := 0#32
  let c1_i32 : BitVec 32 := 1#32
  let arg15 : BitVec 32 := Scf.iv c0_i32 c1_i32 k1_t1
  let v126 : Index := Scalar.indexCast arg15
  let c0_61 : Index := 0#32
  let c0_62 : Index := 0#32
  ![0, v126.toNat, 0, 0]
def k1_off13 (i : grid1.Coords) (k1_t1 : Fin k1_t1_loop.trips) : Fin 4 → Nat :=
  let c0_80 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v168 : Index := Scalar.indexCast v27
  let c0_81 : Index := 0#32
  let c0_82 : Index := 0#32
  ![0, v168.toNat, 0, 0]
def k1_off14 (k1_t1 : Fin k1_t1_loop.trips) : Fin 4 → Nat :=
  let c0_83 : Index := 0#32
  let c0_i32 : BitVec 32 := 0#32
  let c1_i32 : BitVec 32 := 1#32
  let arg15 : BitVec 32 := Scf.iv c0_i32 c1_i32 k1_t1
  let v172 : Index := Scalar.indexCast arg15
  let c0_84 : Index := 0#32
  let c0_85 : Index := 0#32
  ![0, v172.toNat, 0, 0]
def k1_off15 (k1_t1 : Fin k1_t1_loop.trips) : Fin 4 → Nat :=
  let c0_88 : Index := 0#32
  let c0_i32 : BitVec 32 := 0#32
  let c1_i32 : BitVec 32 := 1#32
  let arg15 : BitVec 32 := Scf.iv c0_i32 c1_i32 k1_t1
  let v177 : Index := Scalar.indexCast arg15
  let c0_89 : Index := 0#32
  let c256_90 : Index := 256#32
  ![0, v177.toNat, 0, 256]
def k1_off16 (i : grid1.Coords) (k1_t1 : Fin k1_t1_loop.trips) : Fin 4 → Nat :=
  let c0_108 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v222 : Index := Scalar.indexCast v27
  let c0_109 : Index := 0#32
  let c256_110 : Index := 256#32
  ![0, v222.toNat, 0, 256]
def k1_off17 (k1_t1 : Fin k1_t1_loop.trips) : Fin 4 → Nat :=
  let c0_111 : Index := 0#32
  let c0_i32 : BitVec 32 := 0#32
  let c1_i32 : BitVec 32 := 1#32
  let arg15 : BitVec 32 := Scf.iv c0_i32 c1_i32 k1_t1
  let v226 : Index := Scalar.indexCast arg15
  let c0_112 : Index := 0#32
  let c256_113 : Index := 256#32
  ![0, v226.toNat, 0, 256]
def k1_off18 (k1_t1 : Fin k1_t1_loop.trips) : Fin 4 → Nat :=
  let c0_116 : Index := 0#32
  let c0_i32 : BitVec 32 := 0#32
  let c1_i32 : BitVec 32 := 1#32
  let arg15 : BitVec 32 := Scf.iv c0_i32 c1_i32 k1_t1
  let v231 : Index := Scalar.indexCast arg15
  let c0_117 : Index := 0#32
  let c512_118 : Index := 512#32
  ![0, v231.toNat, 0, 512]
def k1_off19 (i : grid1.Coords) (k1_t1 : Fin k1_t1_loop.trips) : Fin 4 → Nat :=
  let c0_136 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v276 : Index := Scalar.indexCast v27
  let c0_137 : Index := 0#32
  let c512_138 : Index := 512#32
  ![0, v276.toNat, 0, 512]
def k1_off20 (k1_t1 : Fin k1_t1_loop.trips) : Fin 4 → Nat :=
  let c0_139 : Index := 0#32
  let c0_i32 : BitVec 32 := 0#32
  let c1_i32 : BitVec 32 := 1#32
  let arg15 : BitVec 32 := Scf.iv c0_i32 c1_i32 k1_t1
  let v280 : Index := Scalar.indexCast arg15
  let c0_140 : Index := 0#32
  let c512_141 : Index := 512#32
  ![0, v280.toNat, 0, 512]
def k1_off21 (k1_t1 : Fin k1_t1_loop.trips) : Fin 4 → Nat :=
  let c0_144 : Index := 0#32
  let c0_i32 : BitVec 32 := 0#32
  let c1_i32 : BitVec 32 := 1#32
  let arg15 : BitVec 32 := Scf.iv c0_i32 c1_i32 k1_t1
  let v285 : Index := Scalar.indexCast arg15
  let c0_145 : Index := 0#32
  let c768_146 : Index := 768#32
  ![0, v285.toNat, 0, 768]
def k1_off22 (i : grid1.Coords) (k1_t1 : Fin k1_t1_loop.trips) : Fin 4 → Nat :=
  let c0_164 : Index := 0#32
  let arg1 : BitVec 32 := BitVec.ofNat 32 (i 1).val
  let c9_i32_15 : BitVec 32 := 9#32
  let v26 : BitVec 32 := Scalar.muli arg1 c9_i32_15
  let c0_i32 : BitVec 32 := 0#32
  let c1_i32 : BitVec 32 := 1#32
  let arg15 : BitVec 32 := Scf.iv c0_i32 c1_i32 k1_t1
  let v27 : BitVec 32 := Scalar.addi v26 arg15
  let v330 : Index := Scalar.indexCast v27
  let c0_165 : Index := 0#32
  let c768_166 : Index := 768#32
  ![0, v330.toNat, 0, 768]
def k1_off23 (k1_t1 : Fin k1_t1_loop.trips) : Fin 4 → Nat :=
  let c0_167 : Index := 0#32
  let c0_i32 : BitVec 32 := 0#32
  let c1_i32 : BitVec 32 := 1#32
  let arg15 : BitVec 32 := Scf.iv c0_i32 c1_i32 k1_t1
  let v334 : Index := Scalar.indexCast arg15
  let c0_168 : Index := 0#32
  let c768_169 : Index := 768#32
  ![0, v334.toNat, 0, 768]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S2x45 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S2x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x9x64x1024 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x64x1024 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x64x1024 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S5x2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x45x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x9x64x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x9x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x1024x45x64 : Shape := ⟨4, ![2, 1024, 45, 64]⟩
abbrev S2x45 : Shape := ⟨2, ![2, 45]⟩
abbrev S2x1024x5x64 : Shape := ⟨4, ![2, 1024, 5, 64]⟩
abbrev S2x5 : Shape := ⟨2, ![2, 5]⟩
abbrev S2x5x64 : Shape := ⟨3, ![2, 5, 64]⟩
abbrev S2x1024x2880 : Shape := ⟨3, ![2, 1024, 2880]⟩
abbrev S2880x45 : Shape := ⟨2, ![2880, 45]⟩
abbrev S45 : Shape := ⟨1, ![45]⟩
abbrev S2x1024x45 : Shape := ⟨3, ![2, 1024, 45]⟩
abbrev S1x1x45 : Shape := ⟨3, ![1, 1, 45]⟩
abbrev S_ : Shape := ⟨0, ![]⟩
abbrev S2x45x1024 : Shape := ⟨3, ![2, 45, 1024]⟩
abbrev S2x5x9x1024 : Shape := ⟨4, ![2, 5, 9, 1024]⟩
abbrev S2x5x9 : Shape := ⟨3, ![2, 5, 9]⟩
abbrev S2x5x1 : Shape := ⟨3, ![2, 5, 1]⟩
abbrev S2x1024x5x9x64 : Shape := ⟨5, ![2, 1024, 5, 9, 64]⟩
abbrev S2x5x9x1024x64 : Shape := ⟨5, ![2, 5, 9, 1024, 64]⟩
abbrev S2x5x1024x64 : Shape := ⟨4, ![2, 5, 1024, 64]⟩
abbrev S2x5x1x1x64 : Shape := ⟨5, ![2, 5, 1, 1, 64]⟩
abbrev S2x5x9x1024x1024 : Shape := ⟨5, ![2, 5, 9, 1024, 1024]⟩
abbrev S2x5x9x1x1 : Shape := ⟨5, ![2, 5, 9, 1, 1]⟩
abbrev S2x5x9x1024x1 : Shape := ⟨5, ![2, 5, 9, 1024, 1]⟩
abbrev S2x5x9x1x1024 : Shape := ⟨5, ![2, 5, 9, 1, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x1024x5x9 : Shape := ⟨4, ![2, 1024, 5, 9]⟩

abbrev nBuf : Space → Nat
  | .hbm => 98
  | .vmem => 6
  | .smem => 0
  | _ => 0

abbrev bufTy : (tb : Table) → Fin (tcTables nBuf tb) → BufTy
  | .hbm, ⟨0, _⟩ => ⟨S2x1024x45x64, .fp8e4m3⟩
  | .hbm, ⟨1, _⟩ => ⟨S2x45, .f32⟩
  | .hbm, ⟨2, _⟩ => ⟨S2x1024x5x64, .fp8e4m3⟩
  | .hbm, ⟨3, _⟩ => ⟨S2x5, .f32⟩
  | .hbm, ⟨4, _⟩ => ⟨S2x1024x5x64, .fp8e4m3⟩
  | .hbm, ⟨5, _⟩ => ⟨S2x5x64, .f32⟩
  | .hbm, ⟨6, _⟩ => ⟨S2x1024x2880, .bf16⟩
  | .hbm, ⟨7, _⟩ => ⟨S2880x45, .f32⟩
  | .hbm, ⟨8, _⟩ => ⟨S45, .f32⟩
  | .hbm, ⟨9, _⟩ => ⟨S2x1024x2880, .f32⟩
  | .hbm, ⟨10, _⟩ => ⟨S2x1024x45, .f32⟩
  | .hbm, ⟨11, _⟩ => ⟨S1x1x45, .f32⟩
  | .hbm, ⟨12, _⟩ => ⟨S2x1024x45, .f32⟩
  | .hbm, ⟨13, _⟩ => ⟨S2x1024x45, .f32⟩
  | .hbm, ⟨14, _⟩ => ⟨S2x1024x45, .f32⟩
  | .hbm, ⟨15, _⟩ => ⟨S_, .f32⟩
  | .hbm, ⟨16, _⟩ => ⟨S2x1024x45, .f32⟩
  | .hbm, ⟨17, _⟩ => ⟨S2x1024x45, .f32⟩
  | .hbm, ⟨18, _⟩ => ⟨S2x1024x45, .f32⟩
  | .hbm, ⟨19, _⟩ => ⟨S2x1024x45, .f32⟩
  | .hbm, ⟨20, _⟩ => ⟨S2x1024x45, .i1⟩
  | .hbm, ⟨21, _⟩ => ⟨S2x1024x45, .f32⟩
  | .hbm, ⟨22, _⟩ => ⟨S2x1024x45, .f32⟩
  | .hbm, ⟨23, _⟩ => ⟨S2x1024x45, .f32⟩
  | .hbm, ⟨24, _⟩ => ⟨S2x1024x45, .f32⟩
  | .hbm, ⟨25, _⟩ => ⟨S2x1024x45, .f32⟩
  | .hbm, ⟨26, _⟩ => ⟨S2x1024x45, .f32⟩
  | .hbm, ⟨27, _⟩ => ⟨S2x1024x45, .f32⟩
  | .hbm, ⟨28, _⟩ => ⟨S2x1024x45, .f32⟩
  | .hbm, ⟨29, _⟩ => ⟨S2x1024x45, .f32⟩
  | .hbm, ⟨30, _⟩ => ⟨S_, .f32⟩
  | .hbm, ⟨31, _⟩ => ⟨S_, .f32⟩
  | .hbm, ⟨32, _⟩ => ⟨S2x1024x45, .f32⟩
  | .hbm, ⟨33, _⟩ => ⟨S2x45x1024, .f32⟩
  | .hbm, ⟨34, _⟩ => ⟨S2x5x9x1024, .f32⟩
  | .hbm, ⟨35, _⟩ => ⟨S2x5x9, .f32⟩
  | .hbm, ⟨36, _⟩ => ⟨S2x5x1, .f32⟩
  | .hbm, ⟨37, _⟩ => ⟨S2x5x9, .f32⟩
  | .hbm, ⟨38, _⟩ => ⟨S2x5x9, .f32⟩
  | .hbm, ⟨39, _⟩ => ⟨S_, .f32⟩
  | .hbm, ⟨40, _⟩ => ⟨S2x5x9, .f32⟩
  | .hbm, ⟨41, _⟩ => ⟨S2x5x9, .f32⟩
  | .hbm, ⟨42, _⟩ => ⟨S2x1024x45x64, .f32⟩
  | .hbm, ⟨43, _⟩ => ⟨S2x1024x5x64, .f32⟩
  | .hbm, ⟨44, _⟩ => ⟨S2x1024x5x64, .bf16⟩
  | .hbm, ⟨45, _⟩ => ⟨S2x1024x5x9x64, .f32⟩
  | .hbm, ⟨46, _⟩ => ⟨S2x5x9x1024x64, .f32⟩
  | .hbm, ⟨47, _⟩ => ⟨S2x5x1024x64, .f32⟩
  | .hbm, ⟨48, _⟩ => ⟨S2x5x1024x64, .bf16⟩
  | .hbm, ⟨49, _⟩ => ⟨S2x5x1x1x64, .f32⟩
  | .hbm, ⟨50, _⟩ => ⟨S2x5x9x1024x1024, .f32⟩
  | .hbm, ⟨51, _⟩ => ⟨S2x5x9x1x1, .f32⟩
  | .hbm, ⟨52, _⟩ => ⟨S2x5x9x1024x1024, .f32⟩
  | .hbm, ⟨53, _⟩ => ⟨S2x5x9x1024x1024, .f32⟩
  | .hbm, ⟨54, _⟩ => ⟨S2x5x9x1024x1, .f32⟩
  | .hbm, ⟨55, _⟩ => ⟨S2x5x9x1024x1024, .f32⟩
  | .hbm, ⟨56, _⟩ => ⟨S2x5x9x1024x1024, .f32⟩
  | .hbm, ⟨57, _⟩ => ⟨S2x5x9x1x1024, .f32⟩
  | .hbm, ⟨58, _⟩ => ⟨S2x5x9x1024x1024, .f32⟩
  | .hbm, ⟨59, _⟩ => ⟨S2x5x9x1024x1024, .f32⟩
  | .hbm, ⟨60, _⟩ => ⟨S1024, .i32⟩
  | .hbm, ⟨61, _⟩ => ⟨S1x1024, .i32⟩
  | .hbm, ⟨62, _⟩ => ⟨S1024, .i32⟩
  | .hbm, ⟨63, _⟩ => ⟨S1024x1, .i32⟩
  | .hbm, ⟨64, _⟩ => ⟨S1024x1024, .i32⟩
  | .hbm, ⟨65, _⟩ => ⟨S1024x1024, .i32⟩
  | .hbm, ⟨66, _⟩ => ⟨S1024x1024, .i1⟩
  | .hbm, ⟨67, _⟩ => ⟨S_, .f32⟩
  | .hbm, ⟨68, _⟩ => ⟨S_, .f32⟩
  | .hbm, ⟨69, _⟩ => ⟨S2x5x9x1024x1024, .i1⟩
  | .hbm, ⟨70, _⟩ => ⟨S2x5x9x1024x1024, .f32⟩
  | .hbm, ⟨71, _⟩ => ⟨S2x5x9x1024x1024, .f32⟩
  | .hbm, ⟨72, _⟩ => ⟨S_, .f32⟩
  | .hbm, ⟨73, _⟩ => ⟨S2x5x9x1024, .f32⟩
  | .hbm, ⟨74, _⟩ => ⟨S2x5x9x1024x1, .f32⟩
  | .hbm, ⟨75, _⟩ => ⟨S2x5x9x1024x1024, .f32⟩
  | .hbm, ⟨76, _⟩ => ⟨S2x5x9x1024x1024, .f32⟩
  | .hbm, ⟨77, _⟩ => ⟨S2x5x9x1024x1024, .f32⟩
  | .hbm, ⟨78, _⟩ => ⟨S_, .f32⟩
  | .hbm, ⟨79, _⟩ => ⟨S2x5x9x1024, .f32⟩
  | .hbm, ⟨80, _⟩ => ⟨S2x5x9x1024x1, .f32⟩
  | .hbm, ⟨81, _⟩ => ⟨S2x5x9x1024x1, .f32⟩
  | .hbm, ⟨82, _⟩ => ⟨S2x5x9x1024x1, .f32⟩
  | .hbm, ⟨83, _⟩ => ⟨S2x5x9x1024, .f32⟩
  | .hbm, ⟨84, _⟩ => ⟨S2x5x9x1024x1024, .f32⟩
  | .hbm, ⟨85, _⟩ => ⟨S2x5x9x1024x1024, .f32⟩
  | .hbm, ⟨86, _⟩ => ⟨S2x5x9x1024x1024, .f32⟩
  | .hbm, ⟨87, _⟩ => ⟨S2x5x9x1024x1024, .f32⟩
  | .hbm, ⟨88, _⟩ => ⟨S2x5x9x1024x1024, .f32⟩
  | .hbm, ⟨89, _⟩ => ⟨S2x5x9x1024x1024, .bf16⟩
  | .hbm, ⟨90, _⟩ => ⟨S2x5x9x1024x64, .f32⟩
  | .hbm, ⟨91, _⟩ => ⟨S2x5x9x1024x64, .f32⟩
  | .hbm, ⟨92, _⟩ => ⟨S2x5x9x1024x64, .f32⟩
  | .hbm, ⟨93, _⟩ => ⟨S2x5x9x1024x64, .bf16⟩
  | .hbm, ⟨94, _⟩ => ⟨S2x1024x5x9x64, .bf16⟩
  | .hbm, ⟨95, _⟩ => ⟨S2x1024x2880, .bf16⟩
  | .hbm, ⟨96, _⟩ => ⟨S2x1024x5x9, .f32⟩
  | .hbm, ⟨97, _⟩ => ⟨S2x1024x45, .f32⟩
  | .local _ .vmem, ⟨0, _⟩ => ⟨S2x1024x45x64, .fp8e4m3⟩
  | .local _ .vmem, ⟨1, _⟩ => ⟨S2x1024x5x64, .fp8e4m3⟩
  | .local _ .vmem, ⟨2, _⟩ => ⟨S2x1024x5x64, .fp8e4m3⟩
  | .local _ .vmem, ⟨3, _⟩ => ⟨S2x1024x45x64, .f32⟩
  | .local _ .vmem, ⟨4, _⟩ => ⟨S2x1024x5x64, .f32⟩
  | .local _ .vmem, ⟨5, _⟩ => ⟨S2x1024x5x64, .bf16⟩
  | _, _ => ⟨S2x1024x45x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v6 : Ref sig .tc := ⟨.hbm, 28, rfl⟩
abbrev main_v7 : Ref sig .tc := ⟨.hbm, 29, rfl⟩
abbrev main_call1_cst : Ref sig .tc := ⟨.hbm, 30, rfl⟩
abbrev main_call1_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_0 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v40 : Ref sig .tc := ⟨.hbm, 71, rfl⟩
abbrev main_cst_1 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_2 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1024x45x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x5x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x5x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x45x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x5x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x5x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.AttnTrip.lean ====
module

public import proofs.«01_k».proof.Proof.Gen.Kernel.Loops
public import proofs.«01_k».proof.Proof.Gen.Kernel.Points
public import Idealize.ShloMosaic.Lib.Pipeline.Value
public import Idealize.ShloMosaic.Lib.Pipeline.ValueKit
public import Idealize.ShloMosaic.Lib.Tactic

@[expose] public section
set_option maxRecDepth 16384
noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable (𝒱 : Variants) (c : Dev nD) (bd : Option 𝒱.V) (i : grid1.Coords)
variable (arg2 : Memref sig .tc .smem S2x45 .f32) (harg2 : arg2.IsWhole) (arg3 : Memref sig .tc .smem S2x5 .f32) (harg3 : arg3.IsWhole)
variable (arg4 : Memref sig .tc .vmem S1x9x64x1024 .fp8e4m3) (harg4 : arg4.IsWhole) (arg5 : Memref sig .tc .vmem S1x1x64x1024 .fp8e4m3) (harg5 : arg5.IsWhole)
variable (arg6 : Memref sig .tc .vmem S1x1x64x1024 .fp8e4m3) (harg6 : arg6.IsWhole) (arg7 : Memref sig .tc .vmem S5x2x64 .f32) (harg7 : arg7.IsWhole)
variable (arg8 : Memref sig .tc .vmem S1x45x1x1024 .f32) (harg8 : arg8.IsWhole) (arg9 : Memref sig .tc .vmem S1x9x64x1024 .bf16) (harg9 : arg9.IsWhole)
variable (arg10 : Memref sig .tc .vmem S1x9x1x1024 .f32) (harg10 : arg10.IsWhole) (arg11 : Memref sig .tc .vmem S1024x64 .fp8e4m3) (harg11 : arg11.IsWhole)
variable (arg12 : Memref sig .tc .vmem S64x1024 .bf16) (harg12 : arg12.IsWhole) (arg13 : Memref sig .tc .vmem S64x128 .f32) (harg13 : arg13.IsWhole)
variable (arg14 : Memref sig .tc .vmem S1024x128 .f32) (harg14 : arg14.IsWhole) (arg0 arg1 : BitVec 32)

/-- The scale one head's scores are multiplied by: the two dequantization scales, the softmax scale and log2 e. -/
def scl (k : Fin k1_t1_loop.trips) (x2 : Vec F S2x45 .f32) (x3 : Vec F S2x5 .f32) : F .f32 :=
  k1_pay5 (View.ld x2 (Rect.unit (s := S2x45) (k1_off2 i k) S1x1.size (k1_off2_inb i k)) (Shape.Idx.first (numel1_S1x1.symm ▸ Nat.one_pos)))
    (View.ld x3 (Rect.unit (s := S2x5) (k1_off3 i) S1x1.size (k1_off3_inb i)) (Shape.Idx.first (numel1_S1x1.symm ▸ Nat.one_pos)))

/-- The eight row blocks of the key-side decay that one head's trip stores, last first. -/
def cbPieces (k : Fin k1_t1_loop.trips) (x8 : Vec F S1x45x1x1024 .f32) : List (View.Piece (Elt F) S1024x128 .f32) :=
  [⟨Rect.unit (s := S1024x128) ![896, 0] S128x128.size inb_S1024x128_S128x128_896_0, k1_pay15 (View.ld x8 (Rect.unit (s := S1x45x1x1024) (k1_off11 i k) S1x1x1x128.size (k1_off11_inb i k)))⟩,
   ⟨Rect.unit (s := S1024x128) ![768, 0] S128x128.size inb_S1024x128_S128x128_768_0, k1_pay14 (View.ld x8 (Rect.unit (s := S1x45x1x1024) (k1_off10 i k) S1x1x1x128.size (k1_off10_inb i k)))⟩,
   ⟨Rect.unit (s := S1024x128) ![640, 0] S128x128.size inb_S1024x128_S128x128_640_0, k1_pay13 (k1_pay12 (View.ld x8 (Rect.unit (s := S1x45x1x1024) (k1_off9 i k) S1x1x1x128.size (k1_off9_inb i k))))⟩,
   ⟨Rect.unit (s := S1024x128) ![512, 0] S128x128.size inb_S1024x128_S128x128_512_0, k1_pay11 (View.ld x8 (Rect.unit (s := S1x45x1x1024) (k1_off8 i k) S1x1x1x128.size (k1_off8_inb i k)))⟩,
   ⟨Rect.unit (s := S1024x128) ![384, 0] S128x128.size inb_S1024x128_S128x128_384_0, k1_pay10 (View.ld x8 (Rect.unit (s := S1x45x1x1024) (k1_off7 i k) S1x1x1x128.size (k1_off7_inb i k)))⟩,
   ⟨Rect.unit (s := S1024x128) ![256, 0] S128x128.size inb_S1024x128_S128x128_256_0, k1_pay9 (k1_pay8 (View.ld x8 (Rect.unit (s := S1x45x1x1024) (k1_off6 i k) S1x1x1x128.size (k1_off6_inb i k))))⟩,
   ⟨Rect.unit (s := S1024x128) ![128, 0] S128x128.size inb_S1024x128_S128x128_128_0, k1_pay7 (View.ld x8 (Rect.unit (s := S1x45x1x1024) (k1_off5 i k) S1x1x1x128.size (k1_off5_inb i k)))⟩,
   ⟨Rect.unit (s := S1024x128) ![0, 0] S128x128.size inb_S1024x128_S128x128_0_0, k1_pay6 (View.ld x8 (Rect.unit (s := S1x45x1x1024) (k1_off4 i k) S1x1x1x128.size (k1_off4_inb i k)))⟩]

/-- The key-side decay buffer after those stores. -/
def cb (k : Fin k1_t1_loop.trips) (x8 : Vec F S1x45x1x1024 .f32) : Vec F S1024x128 .f32 := View.canon (cbPieces i k x8)

section Head
variable (k : Fin k1_t1_loop.trips) (x2 : Vec F S2x45 .f32) (x3 : Vec F S2x5 .f32) (x4 : Vec F S1x9x64x1024 .fp8e4m3) (x8 : Vec F S1x45x1x1024 .f32)
variable (x11 : Vec F S1024x64 .fp8e4m3) (x12 : Vec F S64x1024 .bf16) (x13 : Vec F S64x128 .f32)

/-- The scores of the first query block, before its mask. -/
def t0 (c0 : Vec F S256x128 .f32) : FVec F S256x256 .f32 :=
  k1_pay16 (scl i k x2 x3) (View.ld x11 (Rect.unit (s := S1024x64) ![0, 0] S256x64.size inb_S1024x64_S256x64_0_0))
    (View.ld x4 (Rect.unit (s := S1x9x64x1024) (k1_off12 k) S1x1x64x256.size (k1_off12_inb k)))
    c0

def ldc_0 : Vec F S256x128 .f32 := View.ld (cb i k x8) (Rect.unit (s := S1024x128) ![0, 0] S256x128.size inb_S1024x128_S256x128_0_0)
def ld11_1 : Vec F S512x64 .fp8e4m3 := View.ld x11 (Rect.unit (s := S1024x64) ![0, 0] S512x64.size inb_S1024x64_S512x64_0_0)
def ld4_1 : Vec F S1x1x64x256 .fp8e4m3 := View.ld x4 (Rect.unit (s := S1x9x64x1024) (k1_off15 k) S1x1x64x256.size (k1_off15_inb k))
def ldc_1 : Vec F S512x128 .f32 := View.ld (cb i k x8) (Rect.unit (s := S1024x128) ![0, 0] S512x128.size inb_S1024x128_S512x128_0_0)
def ld11_2 : Vec F S768x64 .fp8e4m3 := View.ld x11 (Rect.unit (s := S1024x64) ![0, 0] S768x64.size inb_S1024x64_S768x64_0_0)
def ld4_2 : Vec F S1x1x64x256 .fp8e4m3 := View.ld x4 (Rect.unit (s := S1x9x64x1024) (k1_off18 k) S1x1x64x256.size (k1_off18_inb k))
def ldc_2 : Vec F S768x128 .f32 := View.ld (cb i k x8) (Rect.unit (s := S1024x128) ![0, 0] S768x128.size inb_S1024x128_S768x128_0_0)
def s3 : FVec F S1024x256 .f32 :=
  k1_pay36 (View.ld x11 (Rect.unit (s := S1024x64) ![0, 0] S1024x64.size inb_S1024x64_S1024x64_0_0))
    (View.ld x4 (Rect.unit (s := S1x9x64x1024) (k1_off21 k) S1x1x64x256.size (k1_off21_inb k)))
def ldc_3 : Vec F S1024x128 .f32 := View.ld (cb i k x8) (Rect.unit (s := S1024x128) ![0, 0] S1024x128.size inb_S1024x128_S1024x128_0_0)
def ld13 : Vec F S64x128 .f32 := View.ld x13 (Rect.unit (s := S64x128) ![0, 0] S64x128.size inb_S64x128_S64x128_0_0)

/-- One head's four output blocks, last first. -/
def oPiecesL (c0 : Vec F S256x128 .f32) (c1 : Vec F S512x128 .f32) (c2 : Vec F S768x128 .f32) (c3 : Vec F S1024x128 .f32) : List (View.Piece (Elt F) S1x9x64x1024 .bf16) :=
  [⟨Rect.unit (s := S1x9x64x1024) (k1_off21 k) S1x1x64x256.size (k1_off21_inb k),
      k1_pay41 (scl i k x2 x3) (s3 k x4 x11) c3 (View.ld x12 (Rect.unit (s := S64x1024) ![0, 0] S64x1024.size inb_S64x1024_S64x1024_0_0)) (ld13 x13)⟩,
   ⟨Rect.unit (s := S1x9x64x1024) (k1_off18 k) S1x1x64x256.size (k1_off18_inb k),
      k1_pay34 (k1_pay32 (scl i k x2 x3) (ld11_2 x11) (ld4_2 k x4) c2) (k1_pay33 (scl i k x2 x3) (ld11_2 x11) (ld4_2 k x4) c2)
        (View.ld x12 (Rect.unit (s := S64x1024) ![0, 0] S64x768.size inb_S64x1024_S64x768_0_0)) (ld13 x13)⟩,
   ⟨Rect.unit (s := S1x9x64x1024) (k1_off15 k) S1x1x64x256.size (k1_off15_inb k),
      k1_pay28 (scl i k x2 x3) (ld11_1 x11) (ld4_1 k x4) c1 (View.ld x12 (Rect.unit (s := S64x1024) ![0, 0] S64x512.size inb_S64x1024_S64x512_0_0)) (ld13 x13)⟩,
   ⟨Rect.unit (s := S1x9x64x1024) (k1_off12 k) S1x1x64x256.size (k1_off12_inb k),
      k1_pay22 (t0 i k x2 x3 x4 x11 c0) k1_pay17 (View.ld x12 (Rect.unit (s := S64x1024) ![0, 0] S64x256.size inb_S64x1024_S64x256_0_0)) (ld13 x13)⟩]

/-- One head's four log-sum-exp blocks, last first. -/
def lPiecesL (c0 : Vec F S256x128 .f32) (c1 : Vec F S512x128 .f32) (c2 : Vec F S768x128 .f32) (c3 : Vec F S1024x128 .f32) : List (View.Piece (Elt F) S1x9x1x1024 .f32) :=
  [⟨Rect.unit (s := S1x9x1x1024) (k1_off23 k) S1x1x1x256.size (k1_off23_inb k),
      k1_pay4 (k1_pay42 (scl i k x2 x3) (s3 k x4 x11) c3) (View.ld x8 (Rect.unit (s := S1x45x1x1024) (k1_off22 i k) S1x1x1x256.size (k1_off22_inb i k)))⟩,
   ⟨Rect.unit (s := S1x9x1x1024) (k1_off20 k) S1x1x1x256.size (k1_off20_inb k),
      k1_pay35 (k1_pay31 (scl i k x2 x3) (ld11_2 x11) (ld4_2 k x4) c2) (k1_pay33 (scl i k x2 x3) (ld11_2 x11) (ld4_2 k x4) c2)
        (View.ld x8 (Rect.unit (s := S1x45x1x1024) (k1_off19 i k) S1x1x1x256.size (k1_off19_inb i k)))⟩,
   ⟨Rect.unit (s := S1x9x1x1024) (k1_off17 k) S1x1x1x256.size (k1_off17_inb k),
      k1_pay29 (k1_pay25 (scl i k x2 x3) (ld11_1 x11) (ld4_1 k x4) c1) (k1_pay27 (scl i k x2 x3) (ld11_1 x11) (ld4_1 k x4) c1)
        (View.ld x8 (Rect.unit (s := S1x45x1x1024) (k1_off16 i k) S1x1x1x256.size (k1_off16_inb i k)))⟩,
   ⟨Rect.unit (s := S1x9x1x1024) (k1_off14 k) S1x1x1x256.size (k1_off14_inb k),
      k1_pay23 (t0 i k x2 x3 x4 x11 c0) k1_pay17 (View.ld x8 (Rect.unit (s := S1x45x1x1024) (k1_off13 i k) S1x1x1x256.size (k1_off13_inb i k)))⟩]
/-- The same over what the key-side decay buffer holds. -/
def oPieces : List (View.Piece (Elt F) S1x9x64x1024 .bf16) :=
  oPiecesL i k x2 x3 x4 x11 x12 x13 (ldc_0 i k x8) (ldc_1 i k x8) (ldc_2 i k x8) (ldc_3 i k x8)
def lPieces : List (View.Piece (Elt F) S1x9x1x1024 .f32) :=
  lPiecesL i k x2 x3 x4 x8 x11 (ldc_0 i k x8) (ldc_1 i k x8) (ldc_2 i k x8) (ldc_3 i k x8)
end Head

/-- The pieces the generated trip finds, over the loads it makes of the buffer it filled itself. -/
theorem tripL_eq' (X2 X3 X4 X8 X11 X12 X13) (k) (f9 f10 f14) :
   (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 k f9 f10 f14)
    = (oPiecesL i k (arg2.view.read (Elt F) X2) (arg3.view.read (Elt F) X3) (arg4.view.read (Elt F) X4) (arg11.view.read (Elt F) X11) (arg12.view.read (Elt F) X12) (arg13.view.read (Elt F) X13) (arg14.view.readCov (cbPieces i k (arg8.view.read (Elt F) X8)) (Rect.unit (s := S1024x128) ![0, 0] S256x128.size inb_S1024x128_S256x128_0_0).toLoadRect) (arg14.view.readCov (cbPieces i k (arg8.view.read (Elt F) X8)) (Rect.unit (s := S1024x128) ![0, 0] S512x128.size inb_S1024x128_S512x128_0_0).toLoadRect) (arg14.view.readCov (cbPieces i k (arg8.view.read (Elt F) X8)) (Rect.unit (s := S1024x128) ![0, 0] S768x128.size inb_S1024x128_S768x128_0_0).toLoadRect) (arg14.view.readCov (cbPieces i k (arg8.view.read (Elt F) X8)) (Rect.unit (s := S1024x128) ![0, 0] S1024x128.size inb_S1024x128_S1024x128_0_0).toLoadRect),
       lPiecesL i k (arg2.view.read (Elt F) X2) (arg3.view.read (Elt F) X3) (arg4.view.read (Elt F) X4) (arg8.view.read (Elt F) X8) (arg11.view.read (Elt F) X11) (arg14.view.readCov (cbPieces i k (arg8.view.read (Elt F) X8)) (Rect.unit (s := S1024x128) ![0, 0] S256x128.size inb_S1024x128_S256x128_0_0).toLoadRect) (arg14.view.readCov (cbPieces i k (arg8.view.read (Elt F) X8)) (Rect.unit (s := S1024x128) ![0, 0] S512x128.size inb_S1024x128_S512x128_0_0).toLoadRect) (arg14.view.readCov (cbPieces i k (arg8.view.read (Elt F) X8)) (Rect.unit (s := S1024x128) ![0, 0] S768x128.size inb_S1024x128_S768x128_0_0).toLoadRect) (arg14.view.readCov (cbPieces i k (arg8.view.read (Elt F) X8)) (Rect.unit (s := S1024x128) ![0, 0] S1024x128.size inb_S1024x128_S1024x128_0_0).toLoadRect),
       cbPieces i k (arg8.view.read (Elt F) X8)) := by
  unfold tripL_k1_t1 trip_k1_t1
  rfl

/-- The pieces the generated trip finds, whatever the written buffers held before. -/
theorem tripL_eq (X2 X3 X4 X8 X11 X12 X13) (k) (f9 f10 f14) :
   (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 k f9 f10 f14)
    = (oPieces i k (arg2.view.read (Elt F) X2) (arg3.view.read (Elt F) X3) (arg4.view.read (Elt F) X4) (arg8.view.read (Elt F) X8) (arg11.view.read (Elt F) X11) (arg12.view.read (Elt F) X12) (arg13.view.read (Elt F) X13),
       lPieces i k (arg2.view.read (Elt F) X2) (arg3.view.read (Elt F) X3) (arg4.view.read (Elt F) X4) (arg8.view.read (Elt F) X8) (arg11.view.read (Elt F) X11),
       cbPieces i k (arg8.view.read (Elt F) X8)) := by
  rw [tripL_eq', View.readCov_eq_canon', View.readCov_eq_canon', View.readCov_eq_canon', View.readCov_eq_canon']
  rfl

end Cert.Kernel.Attn
-- ==== Proof.Bits.AttnBody.lean ====
module

public import proofs.«01_k».proof.Proof.Gen.Kernel.Loops
public import proofs.«01_k».proof.Proof.Gen.Kernel.Points
public import Idealize.ShloMosaic.Lib.Pipeline.Value
public import Idealize.ShloMosaic.Lib.Pipeline.ValueKit
public import Idealize.ShloMosaic.Lib.Tactic
public import proofs.«01_k».proof.Proof.Bits.AttnTrip

@[expose] public section
set_option maxRecDepth 16384
noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable (𝒱 : Variants) (c : Dev nD) (bd : Option 𝒱.V) (i : grid1.Coords)
variable (arg2 : Memref sig .tc .smem S2x45 .f32) (harg2 : arg2.IsWhole) (arg3 : Memref sig .tc .smem S2x5 .f32) (harg3 : arg3.IsWhole)
variable (arg4 : Memref sig .tc .vmem S1x9x64x1024 .fp8e4m3) (harg4 : arg4.IsWhole) (arg5 : Memref sig .tc .vmem S1x1x64x1024 .fp8e4m3) (harg5 : arg5.IsWhole)
variable (arg6 : Memref sig .tc .vmem S1x1x64x1024 .fp8e4m3) (harg6 : arg6.IsWhole) (arg7 : Memref sig .tc .vmem S5x2x64 .f32) (harg7 : arg7.IsWhole)
variable (arg8 : Memref sig .tc .vmem S1x45x1x1024 .f32) (harg8 : arg8.IsWhole) (arg9 : Memref sig .tc .vmem S1x9x64x1024 .bf16) (harg9 : arg9.IsWhole)
variable (arg10 : Memref sig .tc .vmem S1x9x1x1024 .f32) (harg10 : arg10.IsWhole) (arg11 : Memref sig .tc .vmem S1024x64 .fp8e4m3) (harg11 : arg11.IsWhole)
variable (arg12 : Memref sig .tc .vmem S64x1024 .bf16) (harg12 : arg12.IsWhole) (arg13 : Memref sig .tc .vmem S64x128 .f32) (harg13 : arg13.IsWhole)
variable (arg14 : Memref sig .tc .vmem S1024x128 .f32) (harg14 : arg14.IsWhole) (arg0 arg1 : BitVec 32)

section All
variable (x2 : Vec F S2x45 .f32) (x3 : Vec F S2x5 .f32) (x4 : Vec F S1x9x64x1024 .fp8e4m3) (x8 : Vec F S1x45x1x1024 .f32)
variable (x11 : Vec F S1024x64 .fp8e4m3) (x12 : Vec F S64x1024 .bf16) (x13 : Vec F S64x128 .f32)

/-- The output blocks of the heads before `n`, last first. -/
def oAll : ℕ → List (View.Piece (Elt F) S1x9x64x1024 .bf16)
  | 0 => []
  | n + 1 => if h : n < k1_t1_loop.trips then oPieces i ⟨n, h⟩ x2 x3 x4 x8 x11 x12 x13 ++ oAll n else oAll n

/-- The log-sum-exp blocks of the heads before `n`, last first. -/
def lAll : ℕ → List (View.Piece (Elt F) S1x9x1x1024 .f32)
  | 0 => []
  | n + 1 => if h : n < k1_t1_loop.trips then lPieces i ⟨n, h⟩ x2 x3 x4 x8 x11 ++ lAll n else lAll n

/-- The key-side decay blocks stored by the heads before `n`, last first. -/
def cAll : ℕ → List (View.Piece (Elt F) S1024x128 .f32)
  | 0 => []
  | n + 1 => if h : n < k1_t1_loop.trips then cbPieces i ⟨n, h⟩ x8 ++ cAll n else cAll n
end All

/-- The generated loop recursion is these lists, whatever the written buffers held at its entry. -/
theorem pb_eq (X2 X3 X4 X8 X11 X12 X13) (f9 f10 f14) : ∀ n,
   (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 f9 f10 f14 n)
    = (oAll i (arg2.view.read (Elt F) X2) (arg3.view.read (Elt F) X3) (arg4.view.read (Elt F) X4) (arg8.view.read (Elt F) X8) (arg11.view.read (Elt F) X11) (arg12.view.read (Elt F) X12) (arg13.view.read (Elt F) X13) n,
       lAll i (arg2.view.read (Elt F) X2) (arg3.view.read (Elt F) X3) (arg4.view.read (Elt F) X4) (arg8.view.read (Elt F) X8) (arg11.view.read (Elt F) X11) n,
       cAll i (arg8.view.read (Elt F) X8) n)
  | 0 => by rw [pb_k1_t1.eq_1]; rfl
  | n + 1 => by
    rw [pb_k1_t1.eq_2, pb_eq X2 X3 X4 X8 X11 X12 X13 f9 f10 f14 n]
    unfold pb_k1_t1Step
    rw [oAll.eq_2, lAll.eq_2, cAll.eq_2]
    by_cases h : n < k1_t1_loop.trips
    · rw [dif_pos h, dif_pos h, dif_pos h, dif_pos h, tripL_eq]
    · rw [dif_neg h, dif_neg h, dif_neg h, dif_neg h]

/-- Head `g`'s blocks are in the list. -/
theorem mem_oAll (x2 x3 x4 x8 x11 x12 x13) (g : ℕ) (hg : g < k1_t1_loop.trips) (p) (hp : p ∈ oPieces (F := F) i ⟨g, hg⟩ x2 x3 x4 x8 x11 x12 x13) :
    ∀ n, g < n → p ∈ oAll i x2 x3 x4 x8 x11 x12 x13 n
  | 0, h => absurd h (Nat.not_lt_zero _)
  | n + 1, h => by
    unfold oAll
    by_cases e : g = n
    · subst e; rw [dif_pos hg]; exact List.mem_append_left _ hp
    · have := mem_oAll x2 x3 x4 x8 x11 x12 x13 g hg p hp n (by omega)
      split
      · exact List.mem_append_right _ this
      · exact this
theorem mem_lAll (x2 x3 x4 x8 x11) (g : ℕ) (hg : g < k1_t1_loop.trips) (p) (hp : p ∈ lPieces (F := F) i ⟨g, hg⟩ x2 x3 x4 x8 x11) :
    ∀ n, g < n → p ∈ lAll i x2 x3 x4 x8 x11 n
  | 0, h => absurd h (Nat.not_lt_zero _)
  | n + 1, h => by
    unfold lAll
    by_cases e : g = n
    · subst e; rw [dif_pos hg]; exact List.mem_append_left _ hp
    · have := mem_lAll x2 x3 x4 x8 x11 g hg p hp n (by omega)
      split
      · exact List.mem_append_right _ this
      · exact this

/-- Nothing else is: every block of the list is some head's. -/
theorem of_mem_oAll (x2 x3 x4 x8 x11 x12 x13) (p) : ∀ n, p ∈ oAll (F := F) i x2 x3 x4 x8 x11 x12 x13 n → ∃ k, p ∈ oPieces i k x2 x3 x4 x8 x11 x12 x13
  | 0, h => by simp [oAll] at h
  | n + 1, h => by
    unfold oAll at h
    split at h
    · rcases List.mem_append.mp h with h | h
      · exact ⟨_, h⟩
      · exact of_mem_oAll x2 x3 x4 x8 x11 x12 x13 p n h
    · exact of_mem_oAll x2 x3 x4 x8 x11 x12 x13 p n h
theorem of_mem_lAll (x2 x3 x4 x8 x11) (p) : ∀ n, p ∈ lAll (F := F) i x2 x3 x4 x8 x11 n → ∃ k, p ∈ lPieces i k x2 x3 x4 x8 x11
  | 0, h => by simp [lAll] at h
  | n + 1, h => by
    unfold lAll at h
    split at h
    · rcases List.mem_append.mp h with h | h
      · exact ⟨_, h⟩
      · exact of_mem_lAll x2 x3 x4 x8 x11 p n h
    · exact of_mem_lAll x2 x3 x4 x8 x11 p n h

theorem trips_eq : k1_t1_loop.trips = 9 := by decide +kernel

theorem iv_eq (k : Fin k1_t1_loop.trips) : (Scalar.indexCast (Scf.iv 0#32 1#32 k.val) : BitVec _).toNat = k.val := by
  have h : k.val < 9 := trips_eq ▸ k.isLt
  revert h; generalize k.val = n; intro h
  interval_cases n <;> decide +kernel

/-- The blocks cover the output buffer, -/
theorem cover_o (x2 x3 x4 x8 x11 x12 x13) (y : S1x9x64x1024.Idx) : ∃ p ∈ oAll (F := F) i x2 x3 x4 x8 x11 x12 x13 k1_t1_loop.trips, y ∈ p.1.set := by
  have h0 : (y 0).val < 1 := (y 0).isLt
  have h1 : (y 1).val < 9 := (y 1).isLt
  have h2 : (y 2).val < 64 := (y 2).isLt
  have h3 : (y 3).val < 1024 := (y 3).isLt
  have hk : (y 1).val < k1_t1_loop.trips := trips_eq ▸ h1
  have hiv : (Scalar.indexCast (Scf.iv 0#32 1#32 (y 1).val) : BitVec _).toNat = (y 1).val := iv_eq ⟨_, hk⟩
  have key : ∃ p ∈ oPieces (F := F) i ⟨(y 1).val, hk⟩ x2 x3 x4 x8 x11 x12 x13, y ∈ p.1.set := by
    unfold oPieces oPiecesL
    by_cases a : 768 ≤ (y 3).val
    · refine ⟨_, List.mem_cons_self .., ?_⟩
      rw [Rect.mem_set_unit]; intro b
      fin_cases b <;> simp [k1_off21, hiv] <;> omega
    by_cases a' : 512 ≤ (y 3).val
    · refine ⟨_, List.mem_cons_of_mem _ (List.mem_cons_self ..), ?_⟩
      rw [Rect.mem_set_unit]; intro b
      fin_cases b <;> simp [k1_off18, hiv] <;> omega
    by_cases a'' : 256 ≤ (y 3).val
    · refine ⟨_, List.mem_cons_of_mem _ (List.mem_cons_of_mem _ (List.mem_cons_self ..)), ?_⟩
      rw [Rect.mem_set_unit]; intro b
      fin_cases b <;> simp [k1_off15, hiv] <;> omega
    · refine ⟨_, List.mem_cons_of_mem _ (List.mem_cons_of_mem _ (List.mem_cons_of_mem _ (List.mem_cons_self ..))), ?_⟩
      rw [Rect.mem_set_unit]; intro b
      fin_cases b <;> simp [k1_off12, hiv] <;> omega
  obtain ⟨p, hp, hy⟩ := key
  exact ⟨p, mem_oAll i x2 x3 x4 x8 x11 x12 x13 _ hk p hp _ hk, hy⟩

/-- and the log-sum-exp buffer. -/
theorem cover_l (x2 x3 x4 x8 x11) (y : S1x9x1x1024.Idx) : ∃ p ∈ lAll (F := F) i x2 x3 x4 x8 x11 k1_t1_loop.trips, y ∈ p.1.set := by
  have h0 : (y 0).val < 1 := (y 0).isLt
  have h1 : (y 1).val < 9 := (y 1).isLt
  have h2 : (y 2).val < 1 := (y 2).isLt
  have h3 : (y 3).val < 1024 := (y 3).isLt
  have hk : (y 1).val < k1_t1_loop.trips := trips_eq ▸ h1
  have hiv : (Scalar.indexCast (Scf.iv 0#32 1#32 (y 1).val) : BitVec _).toNat = (y 1).val := iv_eq ⟨_, hk⟩
  have key : ∃ p ∈ lPieces (F := F) i ⟨(y 1).val, hk⟩ x2 x3 x4 x8 x11, y ∈ p.1.set := by
    unfold lPieces lPiecesL
    by_cases a : 768 ≤ (y 3).val
    · refine ⟨_, List.mem_cons_self .., ?_⟩
      rw [Rect.mem_set_unit]; intro b
      fin_cases b <;> simp [k1_off23, hiv] <;> omega
    by_cases a' : 512 ≤ (y 3).val
    · refine ⟨_, List.mem_cons_of_mem _ (List.mem_cons_self ..), ?_⟩
      rw [Rect.mem_set_unit]; intro b
      fin_cases b <;> simp [k1_off20, hiv] <;> omega
    by_cases a'' : 256 ≤ (y 3).val
    · refine ⟨_, List.mem_cons_of_mem _ (List.mem_cons_of_mem _ (List.mem_cons_self ..)), ?_⟩
      rw [Rect.mem_set_unit]; intro b
      fin_cases b <;> simp [k1_off17, hiv] <;> omega
    · refine ⟨_, List.mem_cons_of_mem _ (List.mem_cons_of_mem _ (List.mem_cons_of_mem _ (List.mem_cons_self ..))), ?_⟩
      rw [Rect.mem_set_unit]; intro b
      fin_cases b <;> simp [k1_off14, hiv] <;> omega
  obtain ⟨p, hp, hy⟩ := key
  exact ⟨p, mem_lAll i x2 x3 x4 x8 x11 _ hk p hp _ hk, hy⟩

section Out
variable (x2 : Vec F S2x45 .f32) (x3 : Vec F S2x5 .f32) (x4 : Vec F S1x9x64x1024 .fp8e4m3) (x5 x6 : Vec F S1x1x64x1024 .fp8e4m3)
variable (x7 : Vec F S5x2x64 .f32) (x8 : Vec F S1x45x1x1024 .f32)

/-- The transposed keys, the widened values and the broadcast value scales a grid point prepares. -/
def kk : Vec F S1024x64 .fp8e4m3 := k1_pay1 (View.ld x5 (Rect.unit (s := S1x1x64x1024) ![0, 0, 0, 0] S1x1x64x1024.size inb_S1x1x64x1024_S1x1x64x1024_0_0_0_0))
def vv : Vec F S64x1024 .bf16 := k1_pay2 (View.ld x6 (Rect.unit (s := S1x1x64x1024) ![0, 0, 0, 0] S1x1x64x1024.size inb_S1x1x64x1024_S1x1x64x1024_0_0_0_0))
def vsc : Vec F S64x128 .f32 := k1_pay3 (View.ld x7 (Rect.unit (s := S5x2x64) (k1_off1 i) S1x1x64.size (k1_off1_inb i)))

/-- What a grid point leaves in its attention output block, -/
def outO : Vec F S1x9x64x1024 .bf16 := View.canon (oAll i x2 x3 x4 x8 (kk x5) (vv x6) (vsc i x7) k1_t1_loop.trips)
/-- and in its log-sum-exp block. -/
def outL : Vec F S1x9x1x1024 .f32 := View.canon (lAll i x2 x3 x4 x8 (kk x5) k1_t1_loop.trips)
end Out

/-- A buffer written whole reads as what was written. -/
theorem read_whole {sp : Space} {S : Shape} {e : EltTy} (v : View sig .tc sp S e) (f) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

local notation "𝕄" => MT nD τ sig Unit (Elt F) ℕ (UR sig nD τ) ℕ

theorem hz2 : (![0, 0] : Fin 2 → Nat) = fun _ => 0 := funext fun a => by fin_cases a <;> rfl

set_option maxHeartbeats 1000000 in
/-- One grid point of the attention call: from the inputs at `x2 … x8` and the outputs and scratch at anything, the body
    ends with the inputs unchanged, the outputs at `outO`, `outL`, and the scratch at something. -/
theorem triple (E : Set ℕ)
    (x2 : Vec F S2x45 .f32) (x3 : Vec F S2x5 .f32) (x4 : Vec F S1x9x64x1024 .fp8e4m3) (x5 x6 : Vec F S1x1x64x1024 .fp8e4m3)
    (x7 : Vec F S5x2x64 .f32) (x8 : Vec F S1x45x1x1024 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare (outO i x2 x3 x4 x5 x6 x7 x8)
          ∗ owns (c : Thread nD τ) arg10 fullShare (outL i x2 x3 x4 x5 x8)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)) -∗ K ⟨⟩))
      ⊢ wp frame (wpE (defs₀ (F := F)) Variants.none c none) E (cc1_attn i arg2 harg2 arg3 harg3 arg4 harg4 arg5 harg5 arg6 harg6 arg7 harg7 arg8 harg8 arg9 harg9 arg10 harg10 arg11 harg11 arg12 harg12 arg13 harg13 arg14 harg14) K := by
  simp only [cc1_attn_eq_skeleton]; unfold cc1_attn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7 hf8
  sl_exec
  sl_step
  have e11 : arg11.view.read (Elt F) (arg11.view.writes (Elt F) arg11.view.junk (triple.sl.H11_1 c arg5 f5)) = kk (arg5.view.read (Elt F) f5) := by
    unfold triple.sl.H11_1
    exact read_whole _ _ hz2 _ _
  have e12 : arg12.view.read (Elt F) (arg12.view.writes (Elt F) arg12.view.junk (triple.sl.H12_1 c arg6 f6)) = vv (arg6.view.read (Elt F) f6) := by
    unfold triple.sl.H12_1
    exact read_whole _ _ hz2 _ _
  have e13 : arg13.view.read (Elt F) (arg13.view.writes (Elt F) arg13.view.junk (triple.sl.H13_1 c i arg7 f7)) = vsc i (arg7.view.read (Elt F) f7) := by
    unfold triple.sl.H13_1
    exact read_whole _ _ hz2 _ _
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [pb_eq, e11, e12, e13]
    exact View.read_writes_eq_canon _ _ _ (cover_o i _ _ _ _ _ _ _)
  isplitl [H10]
  · iexists _; isplitr
    swap; · iexact H10
    ipureintro
    rw [pb_eq, e11, e12, e13]
    exact View.read_writes_eq_canon _ _ _ (cover_l i _ _ _ _ _)
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

end Cert.Kernel.Attn
-- ==== Proof.Bits.AttnRun.lean ====
module

public import proofs.«01_k».proof.Proof.Bits.AttnBody
public import proofs.«01_k».proof.Proof.Gen.Kernel.Launch
public import Idealize.ShloMosaic.Lib.Pipeline.Frame
public import Idealize.ShloMosaic.Lib.Pipeline.FrameBody

/-! The attention call's points: what each window holds after the body, and the body at every point. -/

@[expose] public section
set_option maxRecDepth 16384
noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- After the body each input's buffer is at its block and each output's at what the body computes from the blocks; the
    scratch buffers are at anything between points. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outO (cfg1.grid.coords t) (iblk W c 0 t) (iblk W c 1 t) (iblk W c 2 t) (iblk W c 3 t) (iblk W c 4 t) (iblk W c 5 t) (iblk W c 6 t)
    | ⟨8, _⟩ => outL (cfg1.grid.coords t) (iblk W c 0 t) (iblk W c 1 t) (iblk W c 2 t) (iblk W c 3 t) (iblk W c 6 t)
  Φ _ := Pipeline.ΦA spec1 c
  q _ := fullShare
  owed _ := 0

theorem A_eq (c : Dev nD) (w : Fin cfg1.W) : (dats W c).A w = W c (Proc.devRef .tc (Pipeline.arrRef spec1 w)) := by
  dsimp only [dats]

theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = iblk W c 2 t := by dsimp only [dats]
theorem after_3 (c : Dev nD) (t : Fin cfg1.N) : (dats W c).after 3 t = iblk W c 3 t := by dsimp only [dats]
theorem after_4 (c : Dev nD) (t : Fin cfg1.N) : (dats W c).after 4 t = iblk W c 4 t := by dsimp only [dats]
theorem after_5 (c : Dev nD) (t : Fin cfg1.N) : (dats W c).after 5 t = iblk W c 5 t := by dsimp only [dats]
theorem after_6 (c : Dev nD) (t : Fin cfg1.N) : (dats W c).after 6 t = iblk W c 6 t := by dsimp only [dats]
theorem after_7 (c : Dev nD) (t : Fin cfg1.N) : (dats W c).after 7 t = outO (cfg1.grid.coords t) (iblk W c 0 t) (iblk W c 1 t) (iblk W c 2 t) (iblk W c 3 t) (iblk W c 4 t) (iblk W c 5 t) (iblk W c 6 t) := by dsimp only [dats]
theorem after_8 (c : Dev nD) (t : Fin cfg1.N) : (dats W c).after 8 t = outL (cfg1.grid.coords t) (iblk W c 0 t) (iblk W c 1 t) (iblk W c 2 t) (iblk W c 3 t) (iblk W c 6 t) := by dsimp only [dats]

/-- Each input's current buffer holds its block at every point, fetched there or not. -/
theorem before_0 (c : Dev nD) (t : Fin cfg1.N) (d) : (dats W c).before 0 t d = iblk W c 0 t :=
  ((dats W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats W c).before 1 t d = iblk W c 1 t :=
  ((dats W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats W c).before 2 t d = iblk W c 2 t :=
  ((dats W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats W c).before 3 t d = iblk W c 3 t :=
  ((dats W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats W c).before 4 t d = iblk W c 4 t :=
  ((dats W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats W c).before 5 t d = iblk W c 5 t :=
  ((dats W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats W c).before 6 t d = iblk W c 6 t :=
  ((dats W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dats W c).Φ t.castSucc ∗ (dats W c).owesAt () t.castSucc
    ∗ (∃ d, owns (c : Thread nD τ) (st1_0 t) fullShare ((dats W c).before 0 t d))
    ∗ (∃ d, owns (c : Thread nD τ) (st1_1 t) fullShare ((dats W c).before 1 t d))
    ∗ (∃ d, owns (c : Thread nD τ) (st1_2 t) fullShare ((dats W c).before 2 t d))
    ∗ (∃ d, owns (c : Thread nD τ) (st1_3 t) fullShare ((dats W c).before 3 t d))
    ∗ (∃ d, owns (c : Thread nD τ) (st1_4 t) fullShare ((dats W c).before 4 t d))
    ∗ (∃ d, owns (c : Thread nD τ) (st1_5 t) fullShare ((dats W c).before 5 t d))
    ∗ (∃ d, owns (c : Thread nD τ) (st1_6 t) fullShare ((dats W c).before 6 t d))
    ∗ (∃ d, owns (c : Thread nD τ) (st1_7 t) fullShare ((dats W c).before 7 t d))
    ∗ (∃ d, owns (c : Thread nD τ) (st1_8 t) fullShare ((dats W c).before 8 t d)))

/-- and what it returns. -/
def bodyPost (c : Dev nD) (t : Fin cfg1.N) : sProp 𝕄 :=
  iprop((dats W c).Φ t.succ ∗ (dats W c).owesAt () t.succ
    ∗ owns (c : Thread nD τ) (st1_0 t) fullShare ((dats W c).after 0 t)
    ∗ owns (c : Thread nD τ) (st1_1 t) fullShare ((dats W c).after 1 t)
    ∗ owns (c : Thread nD τ) (st1_2 t) fullShare ((dats W c).after 2 t)
    ∗ owns (c : Thread nD τ) (st1_3 t) fullShare ((dats W c).after 3 t)
    ∗ owns (c : Thread nD τ) (st1_4 t) fullShare ((dats W c).after 4 t)
    ∗ owns (c : Thread nD τ) (st1_5 t) fullShare ((dats W c).after 5 t)
    ∗ owns (c : Thread nD τ) (st1_6 t) fullShare ((dats W c).after 6 t)
    ∗ owns (c : Thread nD τ) (st1_7 t) fullShare ((dats W c).after 7 t)
    ∗ owns (c : Thread nD τ) (st1_8 t) fullShare ((dats W c).after 8 t))

set_option maxHeartbeats 1600000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [show (dats W c).Φ t.succ = Pipeline.ΦA spec1 c from rfl, show (dats W c).Φ t.castSucc = Pipeline.ΦA spec1 c from rfl,
    show (dats W c).owesAt () t.succ = (dats W c).owesAt () t.castSucc from rfl,
    after_0, after_1, after_2, after_3, after_4, after_5, after_6, after_7, after_8]
  unfold Pipeline.ΦA
  rw [scopedRest1_eq]
  iintro ⟨⟨⟨R0, R1, R2, R3, R4, R5, R6, R7, R8, R9, ⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (triple c (grid1.coords t) _ _ _ _ _ _ _ _ _ _ _ _ _ _ _ _ _ _ _ _ _ _ _ _ _ _ Set.univ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, H6, H7, H8, ⟨%u0, S0⟩, ⟨%u1, S1⟩, ⟨%u2, S2⟩, ⟨%u3, S3⟩⟩
  simp only [owns_whole]
  isplitl [R0 R1 R2 R3 R4 R5 R6 R7 R8 R9 S0 S1 S2 S3 Hp]
  · isplitr [Hp]
    swap; · iexact Hp
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [S0]; · iexists u0; iexact S0
    isplitl [S1]; · iexists u1; iexact S1
    isplitl [S2]; · iexists u2; iexact S2
    iexists u3; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.Kernel.Attn
-- ==== Proof.Bits.GateRows.lean ====
module

public import proofs.«01_k».proof.Proof.Gen.Kernel.Skeleton
public import Idealize.ShloMosaic.Lib.Pipeline.Value
public import Idealize.ShloMosaic.Lib.Pipeline.ValueKit
public import Idealize.ShloMosaic.Lib.Tactic
public import Idealize.ShloMosaic.Lib.Ring

/-! What a point of the gate leaves in its blocks, as functions of what it reads, and the rows its stores write. -/

@[expose] public section
set_option maxRecDepth 16384
noncomputable section

namespace Cert.Kernel.Gate

open Idealize.ShloMosaic Idealize.ShloMosaic.TcCoe Idealize.ShloMosaic.ValueIdx
open Idealize.SL.Sem
open Cert.Kernel.Gen

variable {F : FTy → Type} [FloatOps F]

/-- The point's first branch: the split of the weights is written. -/
abbrev first (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- Its second branch: the running sum is reset. -/
abbrev reset (i : grid0.Coords) : Prop := Scalar.cmpi .ne (Scalar.extui (Scalar.cmpi .eq (BitVec.ofNat 32 (i 1).val) 0#32) : BitVec 32) 0#32 = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A buffer filled by stores that tile it, each storing its part of `G`, reads as `G`. -/
theorem read_rows {sp : Space} {S : Shape} {e : EltTy} (v : View sig .tc sp S e) (f) (G : S.Idx → Elt F e)
    (L : List (View.Piece (Elt F) S e)) (size : Fin S.rank → ℕ) (ht : View.Piece.tiledL L size = true)
    (h : ∀ p ∈ L, ∀ x : p.1.shape.Idx, p.2 x = G (p.1.emb x)) : v.read (Elt F) (v.writes (Elt F) f L) = G := by
  have hc := View.cover_of_tiledL L size ht
  rw [View.read_writes_eq_canon _ _ _ hc]
  exact funext fun y => View.canon_apply_of_pieces G L h y (hc y)

/-- A buffer last written whole reads as what was written. -/
theorem read_whole {sp : Space} {S : Shape} {e : EltTy} (v : View sig .tc sp S e) (f) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A 45-row array laid out as a block of rows. -/
def fG (v : Vec F S45x512 .f32) : Vec F S1x45x1x512 .f32 := fun y => v (ValueIdx.ix2 (n0 := 45) (n1 := 512) (y 1) (y 3))
/-- Four arrays of 128 columns laid side by side as a block of rows. -/
def cG (a b c d : Vec F S45x128 .f32) : Vec F S1x45x1x512 .f32 := fun y =>
  (if (y 3).val < 128 then a else if (y 3).val < 256 then b else if (y 3).val < 384 then c else d)
    (ValueIdx.ix2 (n0 := 45) (n1 := 128) (y 1) ⟨(y 3).val % 128, Nat.mod_lt _ (by norm_num)⟩)

/-- The row stored at row `h` is row `h` of the array. -/
theorem row512 (v : Vec F S45x512 .f32) (h : ℕ) (hs : S45x512.Slices ![h, 0] S1x512) (hc : S1x512.ShapeCasts S1x1x1x512)
    (inb : ∀ a, (![0, h, 0, 0] : Fin 4 → ℕ) a + S1x1x1x512.size a ≤ S1x45x1x512.size a) (x : S1x1x1x512.Idx) :
    shapeCast S1x1x1x512 (extractStridedSlice S1x512 ![h, 0] v hs) hc x
      = fG v ((Rect.unit (s := S1x45x1x512) ![0, h, 0, 0] S1x1x1x512.size inb).emb x) := by
  have x0 : (x 0).val = 0 := Nat.lt_one_iff.mp (x 0).isLt
  have x1 : (x 1).val = 0 := Nat.lt_one_iff.mp (x 1).isLt
  have x2 : (x 2).val = 0 := Nat.lt_one_iff.mp (x 2).isLt
  rw [shapeCast_apply _ _ _ (ValueIdx.ix2 (n0 := 1) (n1 := 512) 0 (x 3)) (by
    rw [Shape.rowMajor_val_two, Shape.rowMajor_val_four]; simp [ValueIdx.ix2, x0, x1, x2])]
  unfold fG
  refine extractStridedSlice_apply _ _ _ _ _ fun a => ?_
  fin_cases a
  · show ((Rect.unit (s := S1x45x1x512) ![0, h, 0, 0] S1x1x1x512.size inb).emb x 1).val = h + 0
    rw [ValueKit.rect_emb_unit_val]; simp [x1]
  · show ((Rect.unit (s := S1x45x1x512) ![0, h, 0, 0] S1x1x1x512.size inb).emb x 3).val = 0 + (x 3).val
    rw [ValueKit.rect_emb_unit_val]; simp

/-- The same for the running sum, whose block `q` of 128 columns is stored on its own. -/
theorem row128 (a b c d e : Vec F S45x128 .f32) (h q : ℕ) (hq : e = if q < 128 then a else if q < 256 then b else if q < 384 then c else d)
    (hd : q % 128 = 0) (hs : S45x128.Slices ![h, 0] S1x128) (hc : S1x128.ShapeCasts S1x1x1x128)
    (inb : ∀ a, (![0, h, 0, q] : Fin 4 → ℕ) a + S1x1x1x128.size a ≤ S1x45x1x512.size a) (x : S1x1x1x128.Idx) :
    shapeCast S1x1x1x128 (extractStridedSlice S1x128 ![h, 0] e hs) hc x
      = cG a b c d ((Rect.unit (s := S1x45x1x512) ![0, h, 0, q] S1x1x1x128.size inb).emb x) := by
  have x0 : (x 0).val = 0 := Nat.lt_one_iff.mp (x 0).isLt
  have x1 : (x 1).val = 0 := Nat.lt_one_iff.mp (x 1).isLt
  have x2 : (x 2).val = 0 := Nat.lt_one_iff.mp (x 2).isLt
  have x3 : (x 3).val < 128 := (x 3).isLt
  rw [shapeCast_apply _ _ _ (ValueIdx.ix2 (n0 := 1) (n1 := 128) 0 (x 3)) (by
    rw [Shape.rowMajor_val_two, Shape.rowMajor_val_four]; simp [ValueIdx.ix2, x0, x1, x2])]
  have e3 : ((Rect.unit (s := S1x45x1x512) ![0, h, 0, q] S1x1x1x128.size inb).emb x 3).val = q + (x 3).val := by
    rw [ValueKit.rect_emb_unit_val]; simp
  have e1 : ((Rect.unit (s := S1x45x1x512) ![0, h, 0, q] S1x1x1x128.size inb).emb x 1).val = h := by
    rw [ValueKit.rect_emb_unit_val]; simp [x1]
  have k1 : q + (x 3).val < 128 ↔ q < 128 := by omega
  have k2 : q + (x 3).val < 256 ↔ q < 256 := by omega
  have k3 : q + (x 3).val < 384 ↔ q < 384 := by omega
  have hsel : (if ((Rect.unit (s := S1x45x1x512) ![0, h, 0, q] S1x1x1x128.size inb).emb x 3).val < 128 then a
      else if ((Rect.unit (s := S1x45x1x512) ![0, h, 0, q] S1x1x1x128.size inb).emb x 3).val < 256 then b
      else if ((Rect.unit (s := S1x45x1x512) ![0, h, 0, q] S1x1x1x128.size inb).emb x 3).val < 384 then c else d) = e := by
    rw [e3, hq]; simp only [k1, k2, k3]
  unfold cG
  refine Eq.trans ?_ (congrFun hsel.symm _)
  refine extractStridedSlice_apply _ _ _ _ _ fun z => ?_
  fin_cases z
  · show ((Rect.unit (s := S1x45x1x512) ![0, h, 0, q] S1x1x1x128.size inb).emb x 1).val = h + 0
    rw [e1]; rfl
  · show ((Rect.unit (s := S1x45x1x512) ![0, h, 0, q] S1x1x1x128.size inb).emb x 3).val % 128 = 0 + (x 3).val
    rw [e3]; omega

theorem row_0 (a b c d : Vec F S45x128 .f32) (h : ℕ) (hs : S45x128.Slices ![h, 0] S1x128) (hc : S1x128.ShapeCasts S1x1x1x128)
    (inb : ∀ a, (![0, h, 0, 0] : Fin 4 → ℕ) a + S1x1x1x128.size a ≤ S1x45x1x512.size a) (x : S1x1x1x128.Idx) :
    shapeCast S1x1x1x128 (extractStridedSlice S1x128 ![h, 0] a hs) hc x
      = cG a b c d ((Rect.unit (s := S1x45x1x512) ![0, h, 0, 0] S1x1x1x128.size inb).emb x) :=
  row128 a b c d a h 0 (by norm_num) (by norm_num) hs hc inb x

theorem row_128 (a b c d : Vec F S45x128 .f32) (h : ℕ) (hs : S45x128.Slices ![h, 0] S1x128) (hc : S1x128.ShapeCasts S1x1x1x128)
    (inb : ∀ a, (![0, h, 0, 128] : Fin 4 → ℕ) a + S1x1x1x128.size a ≤ S1x45x1x512.size a) (x : S1x1x1x128.Idx) :
    shapeCast S1x1x1x128 (extractStridedSlice S1x128 ![h, 0] b hs) hc x
      = cG a b c d ((Rect.unit (s := S1x45x1x512) ![0, h, 0, 128] S1x1x1x128.size inb).emb x) :=
  row128 a b c d b h 128 (by norm_num) (by norm_num) hs hc inb x

theorem row_256 (a b c d : Vec F S45x128 .f32) (h : ℕ) (hs : S45x128.Slices ![h, 0] S1x128) (hc : S1x128.ShapeCasts S1x1x1x128)
    (inb : ∀ a, (![0, h, 0, 256] : Fin 4 → ℕ) a + S1x1x1x128.size a ≤ S1x45x1x512.size a) (x : S1x1x1x128.Idx) :
    shapeCast S1x1x1x128 (extractStridedSlice S1x128 ![h, 0] c hs) hc x
      = cG a b c d ((Rect.unit (s := S1x45x1x512) ![0, h, 0, 256] S1x1x1x128.size inb).emb x) :=
  row128 a b c d c h 256 (by norm_num) (by norm_num) hs hc inb x

theorem row_384 (a b c d : Vec F S45x128 .f32) (h : ℕ) (hs : S45x128.Slices ![h, 0] S1x128) (hc : S1x128.ShapeCasts S1x1x1x128)
    (inb : ∀ a, (![0, h, 0, 384] : Fin 4 → ℕ) a + S1x1x1x128.size a ≤ S1x45x1x512.size a) (x : S1x1x1x128.Idx) :
    shapeCast S1x1x1x128 (extractStridedSlice S1x128 ![h, 0] d hs) hc x
      = cG a b c d ((Rect.unit (s := S1x45x1x512) ![0, h, 0, 384] S1x1x1x128.size inb).emb x) :=
  row128 a b c d d h 384 (by norm_num) (by norm_num) hs hc inb x

section Point
variable (x2 : Vec F S1x2880x512 .bf16) (x4 : Vec F S45x1 .f32) (x7 : Vec F S144x2880 .bf16) (x8 : Vec F S45x128 .f32)

/-- The forget logits of a point, -/
def fv : FVec F S45x512 .f32 := k0_pay12 x7 x2 x4

/-- and from them and the running sum `b` before the point: the sums of each block of 128 columns, and the running sum after it. -/
def pre0 (v : FVec F S45x512 .f32) : FVec F S45x128 .f32 := k0_pay69 (k0_pay64 v) (k0_pay66 v) (k0_pay67 v) k0_pay68
def pre1 (v : FVec F S45x512 .f32) : FVec F S45x128 .f32 := k0_pay124 (k0_pay64 v) (k0_pay66 v) (k0_pay67 v) k0_pay68
def pre2 (v : FVec F S45x512 .f32) : FVec F S45x128 .f32 := k0_pay176 (k0_pay64 v) (k0_pay66 v) (k0_pay67 v) k0_pay68
def pre3 (v : FVec F S45x512 .f32) : FVec F S45x128 .f32 := k0_pay228 (k0_pay64 v) (k0_pay66 v) (k0_pay67 v) k0_pay68
def base1 (v : FVec F S45x512 .f32) (b : Vec F S45x128 .f32) : FVec F S45x128 .f32 := k0_pay123 b (k0_pay122 (pre0 v))
def base2 (v : FVec F S45x512 .f32) (b : Vec F S45x128 .f32) : FVec F S45x128 .f32 := k0_pay175 (base1 v b) (pre1 v)
def base3 (v : FVec F S45x512 .f32) (b : Vec F S45x128 .f32) : FVec F S45x128 .f32 := k0_pay227 (base2 v b) (pre2 v)
def outF : Vec F S1x45x1x512 .f32 := fG (fv x2 x4 x7)
def outC : Vec F S1x45x1x512 .f32 :=
  cG (addf (pre0 (fv x2 x4 x7)) x8) (addf (pre1 (fv x2 x4 x7)) (base1 (fv x2 x4 x7) x8))
    (addf (pre2 (fv x2 x4 x7)) (base2 (fv x2 x4 x7) x8)) (addf (pre3 (fv x2 x4 x7)) (base3 (fv x2 x4 x7) x8))
def next : Vec F S45x128 .f32 := k0_pay2 (base3 (fv x2 x4 x7) x8) (pre3 (fv x2 x4 x7))
end Point

/-- The split weights as the first point leaves them: three bands of 45 rows over zeros, each stored as 46 rows of which the
    last keeps what it held. -/
def w3a : List (View.Piece (Elt F) S144x2880 .bf16) :=
  [⟨Rect.unit (s := S144x2880) ![0, 0] S144x2880.size inb_S144x2880_S144x2880_0_0, k0_pay3⟩]
def w3b (w : Vec F S45x2880 .f32) : List (View.Piece (Elt F) S144x2880 .bf16) :=
  ⟨Rect.unit (s := S144x2880) ![0, 0] S46x2880.size inb_S144x2880_S46x2880_0_0,
    updateSlice (fun j => View.canon (w3a (F := F)) ((Rect.unit (s := S144x2880) ![0, 0] S46x2880.size inb_S144x2880_S46x2880_0_0).toLoadRect.idx j)) (k0_pay8 w) ![0, 0] slices_S46x2880_S45x2880_0_0⟩ :: w3a
def w3c (w : Vec F S45x2880 .f32) : List (View.Piece (Elt F) S144x2880 .bf16) :=
  ⟨Rect.unit (s := S144x2880) ![48, 0] S46x2880.size inb_S144x2880_S46x2880_48_0,
    updateSlice (fun j => View.canon (w3b w) ((Rect.unit (s := S144x2880) ![48, 0] S46x2880.size inb_S144x2880_S46x2880_48_0).toLoadRect.idx j)) (k0_pay9 w) ![0, 0] slices_S46x2880_S45x2880_0_0⟩ :: w3b w
def w3d (w : Vec F S45x2880 .f32) : List (View.Piece (Elt F) S144x2880 .bf16) :=
  ⟨Rect.unit (s := S144x2880) ![96, 0] S46x2880.size inb_S144x2880_S46x2880_96_0,
    updateSlice (fun j => View.canon (w3c w) ((Rect.unit (s := S144x2880) ![96, 0] S46x2880.size inb_S144x2880_S46x2880_96_0).toLoadRect.idx j)) (k0_pay10 w) ![0, 0] slices_S46x2880_S45x2880_0_0⟩ :: w3c w
def split (w : Vec F S45x2880 .f32) : Vec F S144x2880 .bf16 := View.canon (w3d w)

theorem w3d_cover (w : Vec F S45x2880 .f32) : ∀ y : S144x2880.Idx, ∃ p ∈ w3d w, y ∈ p.1.set := fun y =>
  ⟨(⟨Rect.unit (s := S144x2880) ![0, 0] S144x2880.size inb_S144x2880_S144x2880_0_0, k0_pay3⟩ : View.Piece (Elt F) S144x2880 .bf16),
    List.mem_cons_of_mem _ (List.mem_cons_of_mem _ (List.mem_cons_of_mem _ (List.mem_singleton.mpr rfl))),
    View.mem_set_unit_zero hz2 inb_S144x2880_S144x2880_0_0 y⟩

end Cert.Kernel.Gate
-- ==== Proof.Bits.GateA.lean ====
module

public import proofs.«01_k».proof.Proof.Gen.Kernel.Loops
public import proofs.«01_k».proof.Proof.Gen.Kernel.Points
public import proofs.«01_k».proof.Proof.Bits.GateRows

/-! The gate's body at the first grid point: it splits the weights and resets the running sum. -/

@[expose] public section
set_option maxRecDepth 16384
noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleA (hA : first i) (hB : reset i) (E : Set ℕ) (x2 : Vec F S1x2880x512 .bf16) (x3 : Vec F S45x2880 .f32) (x4 : Vec F S45x1 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 (split x3)) ∗ owns (c : Thread nD τ) arg6 fullShare (outC x2 x4 (split x3) k0_pay11)
          ∗ owns (c : Thread nD τ) arg7 fullShare (split x3) ∗ owns (c : Thread nD τ) arg8 fullShare (next x2 x4 (split x3) k0_pay11)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  sl_exec
  sl_step
  have hv1024 : k0_pay8 (View.readAt (Elt F) arg3.view (Rect.unit (s := S45x2880) ![0, 0] S45x2880.size inb_S45x2880_S45x2880_0_0).toLoadRect f3) = k0_pay8 (arg3.view.read (Elt F) f3) := by
    have h : k0_pay8 (View.readAt (Elt F) arg3.view (Rect.unit (s := S45x2880) ![0, 0] S45x2880.size inb_S45x2880_S45x2880_0_0).toLoadRect f3) = k0_pay8 (View.ld (arg3.view.read (Elt F) f3) (Rect.unit (s := S45x2880) ![0, 0] S45x2880.size inb_S45x2880_S45x2880_0_0)) := rfl
    rw [h, View.ld_unit_zero hz2]
  have hv1027 : k0_pay9 (View.readAt (Elt F) arg3.view (Rect.unit (s := S45x2880) ![0, 0] S45x2880.size inb_S45x2880_S45x2880_0_0).toLoadRect f3) = k0_pay9 (arg3.view.read (Elt F) f3) := by
    have h : k0_pay9 (View.readAt (Elt F) arg3.view (Rect.unit (s := S45x2880) ![0, 0] S45x2880.size inb_S45x2880_S45x2880_0_0).toLoadRect f3) = k0_pay9 (View.ld (arg3.view.read (Elt F) f3) (Rect.unit (s := S45x2880) ![0, 0] S45x2880.size inb_S45x2880_S45x2880_0_0)) := rfl
    rw [h, View.ld_unit_zero hz2]
  have hv1030 : k0_pay10 (View.readAt (Elt F) arg3.view (Rect.unit (s := S45x2880) ![0, 0] S45x2880.size inb_S45x2880_S45x2880_0_0).toLoadRect f3) = k0_pay10 (arg3.view.read (Elt F) f3) := by
    have h : k0_pay10 (View.readAt (Elt F) arg3.view (Rect.unit (s := S45x2880) ![0, 0] S45x2880.size inb_S45x2880_S45x2880_0_0).toLoadRect f3) = k0_pay10 (View.ld (arg3.view.read (Elt F) f3) (Rect.unit (s := S45x2880) ![0, 0] S45x2880.size inb_S45x2880_S45x2880_0_0)) := rfl
    rw [h, View.ld_unit_zero hz2]
  have e2 : tripleA.sl.H7_2 c arg3 arg7 f3 = w3b (arg3.view.read (Elt F) f3) := by
    unfold tripleA.sl.H7_2 tripleA.sl.old
    rw [View.readCov_eq_canon', hv1024]
    rfl
  have e3 : tripleA.sl.H7_3 c arg3 arg7 f3 = w3c (arg3.view.read (Elt F) f3) := by
    unfold tripleA.sl.H7_3 tripleA.sl.old_1
    rw [e2, View.readCov_eq_canon', hv1027]
    rfl
  have e4 : tripleA.sl.H7_4 c arg3 arg7 f3 = w3d (arg3.view.read (Elt F) f3) := by
    unfold tripleA.sl.H7_4 tripleA.sl.old_2
    rw [e3, View.readCov_eq_canon', hv1030]
    rfl
  have h8 : tripleA.sl.v8 c arg3 arg7 f3 = split (arg3.view.read (Elt F) f3) := by
    unfold tripleA.sl.v8
    rw [e4, View.readCov_eq_canon']
    exact View.ld_unit_zero hz2 inb_S144x2880_S144x2880_0_0 _
  have ev : tripleA.sl.r c arg2 arg3 arg4 arg7 f2 f3 f4 = (fv (arg2.view.read (Elt F) f2) (arg4.view.read (Elt F) f4) (split (arg3.view.read (Elt F) f3))) := by
    have h : tripleA.sl.r c arg2 arg3 arg4 arg7 f2 f3 f4 = k0_pay12 (tripleA.sl.v8 c arg3 arg7 f3) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, h8, View.ld_unit_zero hz3, View.ld_unit_zero hz2]
    rfl
  have eb : tripleA.sl.v233 c arg8 = (k0_pay11 (F := F)) := by
    unfold tripleA.sl.v233 tripleA.sl.H8_1
    rw [View.readCov_unit_zero _ hz2]
  have e0 : tripleA.sl.r_6 c arg2 arg3 arg4 arg7 arg8 f2 f3 f4 = addf (pre0 (fv (arg2.view.read (Elt F) f2) (arg4.view.read (Elt F) f4) (split (arg3.view.read (Elt F) f3)))) (k0_pay11 (F := F)) := by rw [← ev, ← eb]; rfl
  have e1 : tripleA.sl.r_10 c arg2 arg3 arg4 arg7 arg8 f2 f3 f4 = addf (pre1 (fv (arg2.view.read (Elt F) f2) (arg4.view.read (Elt F) f4) (split (arg3.view.read (Elt F) f3)))) (base1 (fv (arg2.view.read (Elt F) f2) (arg4.view.read (Elt F) f4) (split (arg3.view.read (Elt F) f3))) (k0_pay11 (F := F))) := by rw [← ev, ← eb]; rfl
  have e2' : tripleA.sl.r_13 c arg2 arg3 arg4 arg7 arg8 f2 f3 f4 = addf (pre2 (fv (arg2.view.read (Elt F) f2) (arg4.view.read (Elt F) f4) (split (arg3.view.read (Elt F) f3)))) (base2 (fv (arg2.view.read (Elt F) f2) (arg4.view.read (Elt F) f4) (split (arg3.view.read (Elt F) f3))) (k0_pay11 (F := F))) := by rw [← ev, ← eb]; rfl
  have e3' : tripleA.sl.r_17 c arg2 arg3 arg4 arg7 arg8 f2 f3 f4 = addf (pre3 (fv (arg2.view.read (Elt F) f2) (arg4.view.read (Elt F) f4) (split (arg3.view.read (Elt F) f3)))) (base3 (fv (arg2.view.read (Elt F) f2) (arg4.view.read (Elt F) f4) (split (arg3.view.read (Elt F) f3))) (k0_pay11 (F := F))) := by rw [← ev, ← eb]; rfl
  have e8 : k0_pay2 (tripleA.sl.r_15 c arg2 arg3 arg4 arg7 arg8 f2 f3 f4) (tripleA.sl.r_16 c arg2 arg3 arg4 arg7 f2 f3 f4) = next (arg2.view.read (Elt F) f2) (arg4.view.read (Elt F) f4) (split (arg3.view.read (Elt F) f3)) (k0_pay11 (F := F)) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleA.sl.r c arg2 arg3 arg4 arg7 f2 f3 f4) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleA.sl.r_6 c arg2 arg3 arg4 arg7 arg8 f2 f3 f4) (tripleA.sl.r_10 c arg2 arg3 arg4 arg7 arg8 f2 f3 f4) (tripleA.sl.r_13 c arg2 arg3 arg4 arg7 arg8 f2 f3 f4) (tripleA.sl.r_17 c arg2 arg3 arg4 arg7 arg8 f2 f3 f4) _ ?_ ?_ ?_ x <;> decide, ?_⟩)
    iterate 45 (refine List.forall_mem_cons.mpr ⟨fun x => by refine row_256 (tripleA.sl.r_6 c arg2 arg3 arg4 arg7 arg8 f2 f3 f4) (tripleA.sl.r_10 c arg2 arg3 arg4 arg7 arg8 f2 f3 f4) (tripleA.sl.r_13 c arg2 arg3 arg4 arg7 arg8 f2 f3 f4) (tripleA.sl.r_17 c arg2 arg3 arg4 arg7 arg8 f2 f3 f4) _ ?_ ?_ ?_ x <;> decide, ?_⟩)
    iterate 45 (refine List.forall_mem_cons.mpr ⟨fun x => by refine row_128 (tripleA.sl.r_6 c arg2 arg3 arg4 arg7 arg8 f2 f3 f4) (tripleA.sl.r_10 c arg2 arg3 arg4 arg7 arg8 f2 f3 f4) (tripleA.sl.r_13 c arg2 arg3 arg4 arg7 arg8 f2 f3 f4) (tripleA.sl.r_17 c arg2 arg3 arg4 arg7 arg8 f2 f3 f4) _ ?_ ?_ ?_ x <;> decide, ?_⟩)
    iterate 45 (refine List.forall_mem_cons.mpr ⟨fun x => by refine row_0 (tripleA.sl.r_6 c arg2 arg3 arg4 arg7 arg8 f2 f3 f4) (tripleA.sl.r_10 c arg2 arg3 arg4 arg7 arg8 f2 f3 f4) (tripleA.sl.r_13 c arg2 arg3 arg4 arg7 arg8 f2 f3 f4) (tripleA.sl.r_17 c arg2 arg3 arg4 arg7 arg8 f2 f3 f4) _ ?_ ?_ ?_ x <;> decide, ?_⟩)
    exact List.forall_mem_nil _
  isplitl [H7]
  · iexists _; isplitr
    swap; · iexact H7
    ipureintro
    rw [e4]
    exact View.read_writes_eq_canon _ _ _ (w3d_cover _)
  iexists _; isplitr
  swap; · iexact H8
  ipureintro
  rw [read_whole _ _ hz2, e8]

end Cert.Kernel.Gate
-- ==== Proof.Bits.GateB.lean ====
module

public import proofs.«01_k».proof.Proof.Gen.Kernel.Loops
public import proofs.«01_k».proof.Proof.Gen.Kernel.Points
public import proofs.«01_k».proof.Proof.Bits.GateRows

/-! The gate's body at the first point of a later batch: it resets the running sum. -/

@[expose] public section
set_option maxRecDepth 16384
noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleB (hA : ¬ first i) (hB : reset i) (E : Set ℕ) (x2 : Vec F S1x2880x512 .bf16) (x3 : Vec F S45x2880 .f32) (x4 : Vec F S45x1 .f32) (x7 : Vec F S144x2880 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare x7 ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 x7) ∗ owns (c : Thread nD τ) arg6 fullShare (outC x2 x4 x7 k0_pay11)
          ∗ owns (c : Thread nD τ) arg7 fullShare x7 ∗ owns (c : Thread nD τ) arg8 fullShare (next x2 x4 x7 k0_pay11)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, Hk⟩
  subst hf2 hf3 hf4 hf7
  sl_exec
  sl_step
  have ev : tripleB.sl.r c arg2 arg4 arg7 f2 f4 f7 = (fv (arg2.view.read (Elt F) f2) (arg4.view.read (Elt F) f4) (arg7.view.read (Elt F) f7)) := by
    have h : tripleB.sl.r c arg2 arg4 arg7 f2 f4 f7 = k0_pay12 (View.ld (arg7.view.read (Elt F) f7) (Rect.unit (s := S144x2880) ![0, 0] S144x2880.size inb_S144x2880_S144x2880_0_0)) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, View.ld_unit_zero hz2, View.ld_unit_zero hz3, View.ld_unit_zero hz2]
    rfl
  have eb : tripleB.sl.v233 c arg8 = (k0_pay11 (F := F)) := by
    unfold tripleB.sl.v233 tripleB.sl.H8_1
    rw [View.readCov_unit_zero _ hz2]
  have e0 : tripleB.sl.r_6 c arg2 arg4 arg7 arg8 f2 f4 f7 = addf (pre0 (fv (arg2.view.read (Elt F) f2) (arg4.view.read (Elt F) f4) (arg7.view.read (Elt F) f7))) (k0_pay11 (F := F)) := by rw [← ev, ← eb]; rfl
  have e1 : tripleB.sl.r_10 c arg2 arg4 arg7 arg8 f2 f4 f7 = addf (pre1 (fv (arg2.view.read (Elt F) f2) (arg4.view.read (Elt F) f4) (arg7.view.read (Elt F) f7))) (base1 (fv (arg2.view.read (Elt F) f2) (arg4.view.read (Elt F) f4) (arg7.view.read (Elt F) f7)) (k0_pay11 (F := F))) := by rw [← ev, ← eb]; rfl
  have e2' : tripleB.sl.r_13 c arg2 arg4 arg7 arg8 f2 f4 f7 = addf (pre2 (fv (arg2.view.read (Elt F) f2) (arg4.view.read (Elt F) f4) (arg7.view.read (Elt F) f7))) (base2 (fv (arg2.view.read (Elt F) f2) (arg4.view.read (Elt F) f4) (arg7.view.read (Elt F) f7)) (k0_pay11 (F := F))) := by rw [← ev, ← eb]; rfl
  have e3' : tripleB.sl.r_17 c arg2 arg4 arg7 arg8 f2 f4 f7 = addf (pre3 (fv (arg2.view.read (Elt F) f2) (arg4.view.read (Elt F) f4) (arg7.view.read (Elt F) f7))) (base3 (fv (arg2.view.read (Elt F) f2) (arg4.view.read (Elt F) f4) (arg7.view.read (Elt F) f7)) (k0_pay11 (F := F))) := by rw [← ev, ← eb]; rfl
  have e8 : k0_pay2 (tripleB.sl.r_15 c arg2 arg4 arg7 arg8 f2 f4 f7) (tripleB.sl.r_16 c arg2 arg4 arg7 f2 f4 f7) = next (arg2.view.read (Elt F) f2) (arg4.view.read (Elt F) f4) (arg7.view.read (Elt F) f7) (k0_pay11 (F := F)) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleB.sl.r c arg2 arg4 arg7 f2 f4 f7) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleB.sl.r_6 c arg2 arg4 arg7 arg8 f2 f4 f7) (tripleB.sl.r_10 c arg2 arg4 arg7 arg8 f2 f4 f7) (tripleB.sl.r_13 c arg2 arg4 arg7 arg8 f2 f4 f7) (tripleB.sl.r_17 c arg2 arg4 arg7 arg8 f2 f4 f7) _ ?_ ?_ ?_ x <;> decide, ?_⟩)
    iterate 45 (refine List.forall_mem_cons.mpr ⟨fun x => by refine row_256 (tripleB.sl.r_6 c arg2 arg4 arg7 arg8 f2 f4 f7) (tripleB.sl.r_10 c arg2 arg4 arg7 arg8 f2 f4 f7) (tripleB.sl.r_13 c arg2 arg4 arg7 arg8 f2 f4 f7) (tripleB.sl.r_17 c arg2 arg4 arg7 arg8 f2 f4 f7) _ ?_ ?_ ?_ x <;> decide, ?_⟩)
    iterate 45 (refine List.forall_mem_cons.mpr ⟨fun x => by refine row_128 (tripleB.sl.r_6 c arg2 arg4 arg7 arg8 f2 f4 f7) (tripleB.sl.r_10 c arg2 arg4 arg7 arg8 f2 f4 f7) (tripleB.sl.r_13 c arg2 arg4 arg7 arg8 f2 f4 f7) (tripleB.sl.r_17 c arg2 arg4 arg7 arg8 f2 f4 f7) _ ?_ ?_ ?_ x <;> decide, ?_⟩)
    iterate 45 (refine List.forall_mem_cons.mpr ⟨fun x => by refine row_0 (tripleB.sl.r_6 c arg2 arg4 arg7 arg8 f2 f4 f7) (tripleB.sl.r_10 c arg2 arg4 arg7 arg8 f2 f4 f7) (tripleB.sl.r_13 c arg2 arg4 arg7 arg8 f2 f4 f7) (tripleB.sl.r_17 c arg2 arg4 arg7 arg8 f2 f4 f7) _ ?_ ?_ ?_ x <;> decide, ?_⟩)
    exact List.forall_mem_nil _
  isplitl [H7]
  · iexists _; isplitr
    swap; · iexact H7
    ipureintro
    rfl
  iexists _; isplitr
  swap; · iexact H8
  ipureintro
  rw [read_whole _ _ hz2, e8]

end Cert.Kernel.Gate
-- ==== Proof.Bits.GateC.lean ====
module

public import proofs.«01_k».proof.Proof.Gen.Kernel.Loops
public import proofs.«01_k».proof.Proof.Gen.Kernel.Points
public import proofs.«01_k».proof.Proof.Bits.GateRows

/-! The gate's body at a later point of a batch: it carries both on. -/

@[expose] public section
set_option maxRecDepth 16384
noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleC (hA : ¬ first i) (hB : ¬ reset i) (E : Set ℕ) (x2 : Vec F S1x2880x512 .bf16) (x3 : Vec F S45x2880 .f32) (x4 : Vec F S45x1 .f32) (x7 : Vec F S144x2880 .bf16) (x8 : Vec F S45x128 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare x7 ∗ owns (c : Thread nD τ) arg8 fullShare x8
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 x7) ∗ owns (c : Thread nD τ) arg6 fullShare (outC x2 x4 x7 x8)
          ∗ owns (c : Thread nD τ) arg7 fullShare x7 ∗ owns (c : Thread nD τ) arg8 fullShare (next x2 x4 x7 x8)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf2 hf3 hf4 hf7 hf8
  sl_exec
  sl_step
  have ev : tripleC.sl.r c arg2 arg4 arg7 f2 f4 f7 = (fv (arg2.view.read (Elt F) f2) (arg4.view.read (Elt F) f4) (arg7.view.read (Elt F) f7)) := by
    have h : tripleC.sl.r c arg2 arg4 arg7 f2 f4 f7 = k0_pay12 (View.ld (arg7.view.read (Elt F) f7) (Rect.unit (s := S144x2880) ![0, 0] S144x2880.size inb_S144x2880_S144x2880_0_0)) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, View.ld_unit_zero hz2, View.ld_unit_zero hz3, View.ld_unit_zero hz2]
    rfl
  have eb : View.ld (arg8.view.read (Elt F) f8) (Rect.unit (s := S45x128) ![0, 0] S45x128.size inb_S45x128_S45x128_0_0) = (arg8.view.read (Elt F) f8) := View.ld_unit_zero hz2 _ _
  have e0 : tripleC.sl.r_7 c arg2 arg4 arg7 arg8 f2 f4 f7 f8 = addf (pre0 (fv (arg2.view.read (Elt F) f2) (arg4.view.read (Elt F) f4) (arg7.view.read (Elt F) f7))) (arg8.view.read (Elt F) f8) := by rw [← ev, ← eb]; rfl
  have e1 : tripleC.sl.r_11 c arg2 arg4 arg7 arg8 f2 f4 f7 f8 = addf (pre1 (fv (arg2.view.read (Elt F) f2) (arg4.view.read (Elt F) f4) (arg7.view.read (Elt F) f7))) (base1 (fv (arg2.view.read (Elt F) f2) (arg4.view.read (Elt F) f4) (arg7.view.read (Elt F) f7)) (arg8.view.read (Elt F) f8)) := by rw [← ev, ← eb]; rfl
  have e2' : tripleC.sl.r_14 c arg2 arg4 arg7 arg8 f2 f4 f7 f8 = addf (pre2 (fv (arg2.view.read (Elt F) f2) (arg4.view.read (Elt F) f4) (arg7.view.read (Elt F) f7))) (base2 (fv (arg2.view.read (Elt F) f2) (arg4.view.read (Elt F) f4) (arg7.view.read (Elt F) f7)) (arg8.view.read (Elt F) f8)) := by rw [← ev, ← eb]; rfl
  have e3' : tripleC.sl.r_18 c arg2 arg4 arg7 arg8 f2 f4 f7 f8 = addf (pre3 (fv (arg2.view.read (Elt F) f2) (arg4.view.read (Elt F) f4) (arg7.view.read (Elt F) f7))) (base3 (fv (arg2.view.read (Elt F) f2) (arg4.view.read (Elt F) f4) (arg7.view.read (Elt F) f7)) (arg8.view.read (Elt F) f8)) := by rw [← ev, ← eb]; rfl
  have e8 : k0_pay2 (tripleC.sl.r_16 c arg2 arg4 arg7 arg8 f2 f4 f7 f8) (tripleC.sl.r_17 c arg2 arg4 arg7 f2 f4 f7) = next (arg2.view.read (Elt F) f2) (arg4.view.read (Elt F) f4) (arg7.view.read (Elt F) f7) (arg8.view.read (Elt F) f8) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleC.sl.r c arg2 arg4 arg7 f2 f4 f7) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleC.sl.r_7 c arg2 arg4 arg7 arg8 f2 f4 f7 f8) (tripleC.sl.r_11 c arg2 arg4 arg7 arg8 f2 f4 f7 f8) (tripleC.sl.r_14 c arg2 arg4 arg7 arg8 f2 f4 f7 f8) (tripleC.sl.r_18 c arg2 arg4 arg7 arg8 f2 f4 f7 f8) _ ?_ ?_ ?_ x <;> decide, ?_⟩)
    iterate 45 (refine List.forall_mem_cons.mpr ⟨fun x => by refine row_256 (tripleC.sl.r_7 c arg2 arg4 arg7 arg8 f2 f4 f7 f8) (tripleC.sl.r_11 c arg2 arg4 arg7 arg8 f2 f4 f7 f8) (tripleC.sl.r_14 c arg2 arg4 arg7 arg8 f2 f4 f7 f8) (tripleC.sl.r_18 c arg2 arg4 arg7 arg8 f2 f4 f7 f8) _ ?_ ?_ ?_ x <;> decide, ?_⟩)
    iterate 45 (refine List.forall_mem_cons.mpr ⟨fun x => by refine row_128 (tripleC.sl.r_7 c arg2 arg4 arg7 arg8 f2 f4 f7 f8) (tripleC.sl.r_11 c arg2 arg4 arg7 arg8 f2 f4 f7 f8) (tripleC.sl.r_14 c arg2 arg4 arg7 arg8 f2 f4 f7 f8) (tripleC.sl.r_18 c arg2 arg4 arg7 arg8 f2 f4 f7 f8) _ ?_ ?_ ?_ x <;> decide, ?_⟩)
    iterate 45 (refine List.forall_mem_cons.mpr ⟨fun x => by refine row_0 (tripleC.sl.r_7 c arg2 arg4 arg7 arg8 f2 f4 f7 f8) (tripleC.sl.r_11 c arg2 arg4 arg7 arg8 f2 f4 f7 f8) (tripleC.sl.r_14 c arg2 arg4 arg7 arg8 f2 f4 f7 f8) (tripleC.sl.r_18 c arg2 arg4 arg7 arg8 f2 f4 f7 f8) _ ?_ ?_ ?_ x <;> decide, ?_⟩)
    exact List.forall_mem_nil _
  isplitl [H7]
  · iexists _; isplitr
    swap; · iexact H7
    ipureintro
    rfl
  iexists _; isplitr
  swap; · iexact H8
  ipureintro
  rw [read_whole _ _ hz2, e8]

end Cert.Kernel.Gate
-- ==== Proof.Bits.GateRun.lean ====
module

public import proofs.«01_k».proof.Proof.Bits.GateA
public import proofs.«01_k».proof.Proof.Bits.GateB
public import proofs.«01_k».proof.Proof.Bits.GateC
public import proofs.«01_k».proof.Proof.Gen.Kernel.Launch
public import Idealize.ShloMosaic.Lib.Pipeline.Frame
public import Idealize.ShloMosaic.Lib.Pipeline.FrameBody

/-! The gate call's points: what each window and each scratch buffer holds after the body, and the body at every point. -/

@[expose] public section
set_option maxRecDepth 16384
noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem one_lt : 0 < cfg0.N := by rw [show cfg0.N = grid0.N from rfl, N_0]; decide
/-- The split weights, as the first point leaves them. -/
def ws (c : Dev nD) : Vec F S144x2880 .bf16 := split (iblk W c 1 ⟨0, one_lt⟩)
/-- The same point numbered by a natural number. -/
def pt (n : ℕ) : Fin cfg0.N := ⟨n % 4, by rw [show cfg0.N = grid0.N from rfl, N_0]; exact Nat.mod_lt _ (by norm_num)⟩
/-- The running sum on entering point `n`: zero at the first half of a batch, else what the first half left. -/
def cin (c : Dev nD) (n : ℕ) : Vec F S45x128 .f32 :=
  if n % 2 = 0 then k0_pay11 else next (iblk W c 0 (pt (n - 1))) (iblk W c 2 (pt (n - 1))) (ws W c) k0_pay11
/-- The running sum on leaving point `n`. -/
def cout (c : Dev nD) (n : ℕ) : Vec F S45x128 .f32 := next (iblk W c 0 (pt n)) (iblk W c 2 (pt n)) (ws W c) (cin W c n)

/-- The scoped buffers that the gate does not use. -/
def rest (c : Dev nD) : sProp 𝕄 :=
  iprop((∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The gate's two scratch buffers before point `k`. -/
def scr (c : Dev nD) (k : ℕ) : sProp 𝕄 :=
  if k = 0 then iprop((∃ d, owns (c : Thread nD τ) (Memref.whole cc0_scratch0) fullShare d) ∗ (∃ d, owns (c : Thread nD τ) (Memref.whole cc0_scratch1) fullShare d))
  else iprop(owns (c : Thread nD τ) (Memref.whole cc0_scratch0) fullShare (ws W c) ∗ owns (c : Thread nD τ) (Memref.whole cc0_scratch1) fullShare (cout W c (k - 1)))

/-- After the body each input's buffer is at its block and each output's at what the body computes from the blocks and the
    running sum; between points the scratch buffers hold the split weights and the running sum. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => outF (iblk W c 0 t) (iblk W c 2 t) (ws W c)
    | ⟨4, _⟩ => outC (iblk W c 0 t) (iblk W c 2 t) (ws W c) (cin W c t.val)
  Φ k := iprop(scr W c k.val ∗ rest c ∗ ∃ r, prngReg c r)
  q _ := fullShare
  owed _ := 0

theorem A_eq (c : Dev nD) (w : Fin cfg0.W) : (dats W c).A w = W c (Proc.devRef .tc (Pipeline.arrRef spec0 w)) := by
  dsimp only [dats]

theorem after_0 (c : Dev nD) (t : Fin cfg0.N) : (dats W c).after 0 t = iblk W c 0 t := by dsimp only [dats]
theorem after_1 (c : Dev nD) (t : Fin cfg0.N) : (dats W c).after 1 t = iblk W c 1 t := by dsimp only [dats]
theorem after_2 (c : Dev nD) (t : Fin cfg0.N) : (dats W c).after 2 t = iblk W c 2 t := by dsimp only [dats]
theorem after_3 (c : Dev nD) (t : Fin cfg0.N) : (dats W c).after 3 t = outF (iblk W c 0 t) (iblk W c 2 t) (ws W c) := by dsimp only [dats]
theorem after_4 (c : Dev nD) (t : Fin cfg0.N) : (dats W c).after 4 t = outC (iblk W c 0 t) (iblk W c 2 t) (ws W c) (cin W c t.val) := by dsimp only [dats]

/-- Each input's current buffer holds its block at every point, fetched there or not. -/
theorem before_0 (c : Dev nD) (t : Fin cfg0.N) (d) : (dats W c).before 0 t d = iblk W c 0 t :=
  ((dats W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats W c).before 1 t d = iblk W c 1 t :=
  ((dats W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats W c).before 2 t d = iblk W c 2 t :=
  ((dats W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats W c).Φ t.castSucc ∗ (dats W c).owesAt () t.castSucc
    ∗ (∃ d, owns (c : Thread nD τ) (st0_0 t) fullShare ((dats W c).before 0 t d))
    ∗ (∃ d, owns (c : Thread nD τ) (st0_1 t) fullShare ((dats W c).before 1 t d))
    ∗ (∃ d, owns (c : Thread nD τ) (st0_2 t) fullShare ((dats W c).before 2 t d))
    ∗ (∃ d, owns (c : Thread nD τ) (st0_3 t) fullShare ((dats W c).before 3 t d))
    ∗ (∃ d, owns (c : Thread nD τ) (st0_4 t) fullShare ((dats W c).before 4 t d)))

/-- and what it returns. -/
def bodyPost (c : Dev nD) (t : Fin cfg0.N) : sProp 𝕄 :=
  iprop((dats W c).Φ t.succ ∗ (dats W c).owesAt () t.succ
    ∗ owns (c : Thread nD τ) (st0_0 t) fullShare ((dats W c).after 0 t)
    ∗ owns (c : Thread nD τ) (st0_1 t) fullShare ((dats W c).after 1 t)
    ∗ owns (c : Thread nD τ) (st0_2 t) fullShare ((dats W c).after 2 t)
    ∗ owns (c : Thread nD τ) (st0_3 t) fullShare ((dats W c).after 3 t)
    ∗ owns (c : Thread nD τ) (st0_4 t) fullShare ((dats W c).after 4 t))

theorem Φ_eq (c : Dev nD) (k : Fin (cfg0.N + 1)) : (dats W c).Φ k = iprop(scr W c k.val ∗ rest c ∗ ∃ r, prngReg c r) := rfl

theorem scr_zero (c : Dev nD) : scr W c 0 = iprop((∃ d, owns (c : Thread nD τ) (Memref.whole cc0_scratch0) fullShare d) ∗ (∃ d, owns (c : Thread nD τ) (Memref.whole cc0_scratch1) fullShare d)) := if_pos rfl
theorem scr_succ (c : Dev nD) (k : ℕ) : scr W c (k + 1) = iprop(owns (c : Thread nD τ) (Memref.whole cc0_scratch0) fullShare (ws W c) ∗ owns (c : Thread nD τ) (Memref.whole cc0_scratch1) fullShare (cout W c k)) := if_neg (Nat.succ_ne_zero k)

theorem pt_val (t : Fin cfg0.N) : pt t.val = t := by
  have h : t.val < 4 := lt_of_lt_of_eq t.isLt N_0
  exact Fin.ext (Nat.mod_eq_of_lt h)

/-- The weights' block is the whole array, so it does not depend on the point. -/
theorem cin_odd (c : Dev nD) (n : ℕ) (h : n % 2 = 0) : cin W c (n + 1) = cout W c n := by
  unfold cout cin
  rw [if_neg (by omega), if_pos h, Nat.add_sub_cancel]

theorem first_0 : first (grid0.coords t0_0) := by decide
theorem first_1 : ¬ first (grid0.coords t0_1) := by decide
theorem first_2 : ¬ first (grid0.coords t0_2) := by decide
theorem first_3 : ¬ first (grid0.coords t0_3) := by decide
theorem reset_0 : reset (grid0.coords t0_0) := by decide
theorem reset_1 : ¬ reset (grid0.coords t0_1) := by decide
theorem reset_2 : reset (grid0.coords t0_2) := by decide
theorem reset_3 : ¬ reset (grid0.coords t0_3) := by decide

set_option maxHeartbeats 1600000 in
theorem body_first (c : Dev nD) (t : Fin cfg0.N) (hA : first (grid0.coords t)) (hB : reset (grid0.coords t)) (h0 : t.val = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_zero, cout, show pt 0 = t from by rw [← h0, pt_val], show cin W c 0 = k0_pay11 from if_pos rfl, show ws W c = split (iblk W c 1 t) from by unfold ws; rw [show t = ⟨0, one_lt⟩ from Fin.ext h0]]
  iintro ⟨⟨⟨S0, S1⟩, Hr, Hp⟩, Ho, ⟨%d0, H0⟩, ⟨%d1, H1⟩, ⟨%d2, H2⟩, ⟨%d3, H3⟩, ⟨%d4, H4⟩⟩
  iapply (tripleA c (grid0.coords t) _ _ _ _ _ _ _ _ _ _ _ _ _ _ hA hB Set.univ (iblk W c 0 t) (iblk W c 1 t) (iblk W c 2 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

set_option maxHeartbeats 1600000 in
theorem body_reset (c : Dev nD) (t : Fin cfg0.N) (hA : ¬ first (grid0.coords t)) (hB : reset (grid0.coords t)) (k : ℕ) (h0 : t.val = k + 1) (he : (k + 1) % 2 = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_succ, cout.eq_1 W c (k + 1), show pt (k + 1) = t from by rw [← h0, pt_val], show cin W c (k + 1) = k0_pay11 from if_pos he]
  iintro ⟨⟨⟨S0, S1⟩, Hr, Hp⟩, Ho, ⟨%d0, H0⟩, ⟨%d1, H1⟩, ⟨%d2, H2⟩, ⟨%d3, H3⟩, ⟨%d4, H4⟩⟩
  iapply (tripleB c (grid0.coords t) _ _ _ _ _ _ _ _ _ _ _ _ _ _ hA hB Set.univ (iblk W c 0 t) (iblk W c 1 t) (iblk W c 2 t) (ws W c) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexists _; iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

set_option maxHeartbeats 1600000 in
theorem body_next (c : Dev nD) (t : Fin cfg0.N) (hA : ¬ first (grid0.coords t)) (hB : ¬ reset (grid0.coords t)) (k : ℕ) (h0 : t.val = k + 1) (he : k % 2 = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_succ, cout.eq_1 W c (k + 1), show pt (k + 1) = t from by rw [← h0, pt_val], cin_odd W c k he]
  iintro ⟨⟨⟨S0, S1⟩, Hr, Hp⟩, Ho, ⟨%d0, H0⟩, ⟨%d1, H1⟩, ⟨%d2, H2⟩, ⟨%d3, H3⟩, ⟨%d4, H4⟩⟩
  iapply (tripleC c (grid0.coords t) _ _ _ _ _ _ _ _ _ _ _ _ _ _ hA hB Set.univ (iblk W c 0 t) (iblk W c 1 t) (iblk W c 2 t) (ws W c) (cout W c k) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

theorem sound_body (c : Dev nD) (t : Fin cfg0.N) :
    bodyPre W c t ⊢ wp frame (wpE (defs₀ (F := F)) Variants.none c none) Set.univ (bodyAt0 t) (fun _ => bodyPost W c t) := by
  rcases fin_N0 t with rfl | rfl | rfl | rfl
  · exact body_first W c _ first_0 reset_0 rfl
  · exact body_next W c _ first_1 reset_1 0 rfl rfl
  · exact body_reset W c _ first_2 reset_2 1 rfl rfl
  · exact body_next W c _ first_3 reset_3 2 rfl rfl

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

/-- The region hands the invariant its scratch buffers at anything, -/
theorem hin (c : Dev nD) : iprop(Pipeline.scopedRest spec0 c ∗ ∃ r, prngReg c r) ⊢ ((dats W c).Φ 0 : sProp 𝕄) := by
  rw [Φ_eq, show ((0 : Fin (cfg0.N + 1)) : ℕ) = 0 from rfl, scr_zero, scopedRest0_eq]
  unfold rest
  iintro ⟨⟨⟨%f0, S0⟩, ⟨%f1, S1⟩, Hr⟩, Hp⟩
  isplitl [S0 S1]
  · isplitl [S0]
    · iexists f0; rw [owns_whole]; iexact S0
    iexists f1; rw [owns_whole]; iexact S1
  isplitl [Hr]; · iexact Hr
  iexact Hp

/-- and gets them back. -/
theorem hout (c : Dev nD) : ((dats W c).Φ (Fin.last cfg0.N) : sProp 𝕄) ⊢ iprop(Pipeline.scopedRest spec0 c ∗ ∃ r, prngReg c r) := by
  rw [Φ_eq, show ((Fin.last cfg0.N : Fin (cfg0.N + 1)) : ℕ) = 3 + 1 from N_0, scr_succ, scopedRest0_eq, owns_whole, owns_whole]
  unfold rest
  iintro ⟨⟨S0, S1⟩, Hr, Hp⟩
  isplitr [Hp]
  swap; · iexact Hp
  isplitl [S0]; · iexists _; iexact S0
  isplitl [S1]; · iexists _; iexact S1
  iexact Hr

end Cert.Kernel.Gate
-- ==== Proof.Bits.Run.lean ====
module

public import proofs.«01_k».proof.Proof.Bits.AttnRun
public import proofs.«01_k».proof.Proof.Bits.GateRun
public import proofs.«01_k».proof.Proof.Gen.Kernel.Regions
public import Idealize.ShloMosaic.Lib.Pipeline.FrameTail
public import Idealize.ShloMosaic.Lib.Pipeline.RegionArraysS

/-! The whole program: the host's transposes, the gate, the attention and the host's last transposes, one after the other. -/

@[expose] public section
noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Pipeline (Dat Seg HostSeg RegionSeg)
open Cert.Kernel.Gen

variable {F : FTy → Type} [FloatOps F]

local notation "𝕄" => MT nD τ sig Unit (Elt F) ℕ (UR sig nD τ) ℕ

/-- What rides beside the buffers: the generator register and the core owing nothing. -/
def rides (c : Dev nD) : sProp 𝕄 := iprop((∃ r, prngReg c r) ∗ ∃ W, owes (c : Thread nD τ) (0 : CellTallies nD τ sig Unit) W)

set_option backward.isDefEq.respectTransparency.types false in
/-- One call's segment: it finds every buffer at `V` and leaves its arrays as its proof data say and every other buffer as
    it was. -/
def region (pdats : (p : Fin 2) → (c : Dev nD) → Dat τ (Elt F) Unit ℕ (UR sig nD τ) ℕ (cfgs p) c) (p : Fin 2)
    (kit : Pipeline.LaunchFacts (nD := nD) (τ := τ) cfgs p) (V : Dev nD → Valuation τ sig (Elt F))
    (hbody : ∀ c, Pipeline.BodyObligationLoose (pdats p c) (defs₀ (F := F)) Variants.none () Set.univ)
    (hshare : ∀ c w, (pdats p c).share w = fullShare) (howed : ∀ c t, (pdats p c).owed t = 0)
    (hrec : ∀ c t, (pdats p c).recorded t = Set.univ)
    (hA : ∀ c w, (pdats p c).A w = V c (Proc.devRef .tc (Pipeline.arrRef (cfgs p).spec w)))
    (hin : ∀ c, Pipeline.ΦA (cfgs p).spec c ⊢ (pdats p c).Φ 0) (hout : ∀ c, (pdats p c).Φ (Fin.last (cfgs p).N) ⊢ Pipeline.ΦA (cfgs p).spec c) :
    RegionSeg (pcfgs (F := F)) adm pdats () defs₀ Variants.none (fun _ => ∅) (fun _ _ => 0) p :=
  { win := (kit.toP (Val := Elt F)).win.to₀
    block_pos := (kit.toP (Val := Elt F)).block_pos
    stage_whole := (kit.toP (Val := Elt F)).stage_whole
    K := PEmpty
    osem := fun k => k.elim
    ho := Pipeline.OwnSemFacts.none _
    hbody := hbody
    hwaits := Pipeline.hwaits_of_owed_zero (pcfgs (F := F)) adm pdats () (fun _ => ∅) (fun _ _ => 0) p howed
    pre := fun c => iprop(StableHlo.held (c : Thread nD τ) (Pipeline.ucRefs τ sig) (V c) ∗ rides c)
    post := fun c => iprop(StableHlo.held (c : Thread nD τ) (Pipeline.ucRefs τ sig) (Pipeline.afterRegion (pdats p c) (V c)) ∗ rides c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs (p := p) (pcfgs (F := F)) adm pdats (kit.toP (Val := Elt F)).win (kit.toP (Val := Elt F)).arr_whole c (hshare c)
        (fun b => V c (Proc.devRef .tc b)) (fun w => hA c w)
      unfold rides
      iintro ⟨⟨Hub, Hp, ⟨%W, HO⟩⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin
        rw [howed c 0]
        iexists W; isplitr
        · ipureintro; unfold Pipeline.Dat.bound; rw [hrec c 0]; exact fun x _ => Or.inl (Set.mem_univ _)
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := p) (pcfgs (F := F)) adm (Ix := Unit) (Name := ℕ) (U := UR sig nD τ) (Lvl := ℕ)
        (kit.toP (Val := Elt F)).win (kit.toP (Val := Elt F)).arr_whole c pdats (hshare c)
        (fun b => V c (Proc.devRef .tc b)) (fun b => Pipeline.afterRegion (pdats p c) (V c) (Proc.devRef .tc b)) ((pdats p c).arrAt · (cfgs p).N)
        (fun w => (Pipeline.afterRegion_arr (pdats p c) (V c) kit.win.arr_inj w).symm)
        (fun b hb => Pipeline.afterRegion_of_not_arr (pdats p c) (V c)
          fun w h => hb (h ▸ Finset.mem_image.mpr ⟨w, Finset.mem_univ _, rfl⟩))
      rw [show StableHlo.held (c : Thread nD τ) (Pipeline.ucRefs τ sig) (Pipeline.afterRegion (pdats p c) (V c)) = unscopedBufs c (fun b => Pipeline.afterRegion (pdats p c) (V c) (Proc.devRef .tc b))
          from (Pipeline.unscopedBufs_held (Ix := Unit) (Name := ℕ) (U := UR sig nD τ) (Lvl := ℕ) c (Pipeline.afterRegion (pdats p c) (V c))).symm]
      unfold rides
      iintro ⟨Ha, HO, Hp, Hrest⟩
      imodintro
      isplitl [Ha Hrest]
      · iapply hjoin; isplitl [Ha] <;> iassumption
      isplitl [Hp]; · iexact Hp
      unfold Pipeline.Dat.owesAt Pipeline.owesWithin
      rw [howed c (Fin.last _)]
      icases HO with ⟨%W, -, HO⟩; iexists W; iexact HO }

variable (m : (ℓ : Loc nD τ sig) → Buf (Elt F) ℓ)

/-- The buffers after the gate, -/
def U2 (c : Dev nD) : Valuation τ sig (Elt F) := Pipeline.afterRegion (Gate.dats (V1 m) c) (V1 m c)
/-- after the attention, -/
def U3 (c : Dev nD) : Valuation τ sig (Elt F) := Pipeline.afterRegion (Attn.dats (U2 m) c) (U2 m c)
/-- and at the end. -/
def U4 (c : Dev nD) : Valuation τ sig (Elt F) := StableHlo.after hostOps2 (U3 m c)

/-- Both calls' proof data. -/
def pdats : (p : Fin 2) → (c : Dev nD) → Dat τ (Elt F) Unit ℕ (UR sig nD τ) ℕ (cfgs p) c
  | 0 => Gate.dats (V1 m)
  | 1 => Attn.dats (U2 m)

/-- The gate's segment. -/
def R0 : RegionSeg (pcfgs (F := F)) adm (pdats m) () defs₀ Variants.none (fun _ => ∅) (fun _ _ => 0) 0 :=
  region (pdats m) 0 launch0 (V1 m) (fun c => (Gate.body_obligation (V1 m) c).loose)
    (fun c w => by unfold Dat.share; split <;> rfl) (fun _ _ => rfl) (fun _ _ => rfl) (fun c w => Gate.A_eq (V1 m) c w)
    (fun c => by unfold Pipeline.ΦA; exact Gate.hin (V1 m) c) (fun c => by unfold Pipeline.ΦA; exact Gate.hout (V1 m) c)
/-- The attention's. -/
def R1 : RegionSeg (pcfgs (F := F)) adm (pdats m) () defs₀ Variants.none (fun _ => ∅) (fun _ _ => 0) 1 :=
  region (pdats m) 1 launch1 (U2 m) (fun c => (Attn.body_obligation (U2 m) c).loose)
    (fun c w => by unfold Dat.share; split <;> rfl) (fun _ _ => rfl) (fun _ _ => rfl) (fun c w => Attn.A_eq (U2 m) c w)
    (fun c => .rfl) (fun c => .rfl)

/-- The program's items. -/
def items : List (Seg (pcfgs (F := F)) adm (pdats m) () defs₀ Variants.none (fun _ => ∅) (fun _ _ => 0)) :=
  [.host (seg0 m Variants.none (fun _ => ∅) (fun _ _ => 0) (fun _ => rides)), .region (R0 m), .region (R1 m),
    .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (U3 m) rides)]

set_option backward.isDefEq.respectTransparency.types false in
/-- Every execution ends with every buffer at the last valuation and every semaphore at zero. -/
theorem ends (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = U4 m c b) ∧ r.2.sem = fun _ => 0) := by
  refine Pipeline.θ_run_regions_kit_dev_sems (pcfgs (F := F)) adm (pdats m) () cellOf_inj emb₁ defs₀ Variants.none (fun _ => ∅) (fun _ _ => 0) m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (U4 m c))
    (hch := fun c => ⟨.rfl, .rfl, .rfl, .rfl,
      (show iprop(StableHlo.held (c : Thread nD τ) (Pipeline.ucRefs τ sig) (U4 m c) ∗ rides c) ⊢ (_ : sProp 𝕄) from by
        unfold rides
        iintro ⟨Hh, -, HO⟩
        isplitl [Hh] <;> iassumption)⟩)
    (hinit := by
      refine Pipeline.initEach (fun _ => ∅) (fun _ _ => 0) fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold rides
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c : Thread nD τ).1, b) = U4 m c b)
    (hfin := fun c s' => by
      unfold StableHlo.held
      iintro ⟨Hh, HSI⟩
      ihave Hr := (pointsTo_read_all (Pipeline.ucRefs τ sig) (fun b => ((c : Thread nD τ).1, b)) (U4 m c) s') $$ [Hh HSI]
      · isplitl [Hh] <;> iassumption
      imodintro; iexact Hr)
    (hQ := fun _ h hz => ⟨h, funext fun g => hz g (.inr (regions_no_unscoped g.2))⟩)

/-- A buffer no item writes ends as launched. -/
theorem kept (c : Dev nD) (r : Ref sig .tc) (h0 : r ∉ hostOps0_W) (h2 : r ∉ hostOps2_W)
    (g : ∀ w, Pipeline.arrRef spec0 w = r → (cfg0.win w).isOut = false) (a : ∀ w, Pipeline.arrRef spec1 w = r → (cfg1.win w).isOut = false) :
    U4 m c (Proc.devRef .tc r) = m ((c : Thread nD τ).loc r) :=
  (StableHlo.after_of_writes_sub hostOps2 _ hostOps2_writes h2).trans <|
    (Pipeline.afterRegion_keeps (Attn.dats (U2 m) c) (U2 m c) launch1.win.arr_inj (Attn.A_eq (U2 m) c) r a).trans <|
    (Pipeline.afterRegion_keeps (Gate.dats (V1 m) c) (V1 m c) launch0.win.arr_inj (Gate.A_eq (V1 m) c) r g).trans <|
    V1_of m c r h0

/-- An unscoped buffer's end, read off `ends`. -/
theorem at_end {s : MemSt nD τ sig (Elt F)} {c : Dev nD} (h : ∀ b ∈ Pipeline.ucRefs τ sig, s.mem ((c : Thread nD τ).1, b) = U4 m c b)
    (r : Ref sig .tc) (hr : r.isScoped = false) : s.mem ((c : Thread nD τ).loc r) = U4 m c (Proc.devRef .tc r) :=
  h _ (Pipeline.devRef_mem_ucRefs hr)

/-- Nine buffers at once: the arguments end as launched. -/
theorem args_kept {s : MemSt nD τ sig (Elt F)} {c : Dev nD} (h : ∀ b ∈ Pipeline.ucRefs τ sig, s.mem ((c : Thread nD τ).1, b) = U4 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(at_end m h main_arg0 rfl).trans (kept m c main_arg0 (by decide) (by decide) (by decide) (by decide)),
    (at_end m h main_arg1 rfl).trans (kept m c main_arg1 (by decide) (by decide) (by decide) (by decide)),
    (at_end m h main_arg2 rfl).trans (kept m c main_arg2 (by decide) (by decide) (by decide) (by decide)),
    (at_end m h main_arg3 rfl).trans (kept m c main_arg3 (by decide) (by decide) (by decide) (by decide)),
    (at_end m h main_arg4 rfl).trans (kept m c main_arg4 (by decide) (by decide) (by decide) (by decide)),
    (at_end m h main_arg5 rfl).trans (kept m c main_arg5 (by decide) (by decide) (by decide) (by decide)),
    (at_end m h main_arg6 rfl).trans (kept m c main_arg6 (by decide) (by decide) (by decide) (by decide)),
    (at_end m h main_arg7 rfl).trans (kept m c main_arg7 (by decide) (by decide) (by decide) (by decide)),
    (at_end m h main_arg8 rfl).trans (kept m c main_arg8 (by decide) (by decide) (by decide) (by decide))⟩

end Cert.Kernel.Run
-- ==== Proof.Ideal.AttnTrip.lean ====
module

public import proofs.«01_k».proof.Proof.Gen.KernelIdeal.Loops
public import proofs.«01_k».proof.Proof.Gen.KernelIdeal.Points
public import Idealize.ShloMosaic.Lib.Pipeline.Value
public import Idealize.ShloMosaic.Lib.Pipeline.ValueKit
public import Idealize.ShloMosaic.Lib.Tactic

@[expose] public section
set_option maxRecDepth 16384
noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
variable (𝒱 : Variants) (c : Dev nD) (bd : Option 𝒱.V) (i : grid1.Coords)
variable (arg2 : Memref sig .tc .smem S2x45 .f32) (harg2 : arg2.IsWhole) (arg3 : Memref sig .tc .smem S2x5 .f32) (harg3 : arg3.IsWhole)
variable (arg4 : Memref sig .tc .vmem S1x9x64x1024 .fp8e4m3) (harg4 : arg4.IsWhole) (arg5 : Memref sig .tc .vmem S1x1x64x1024 .fp8e4m3) (harg5 : arg5.IsWhole)
variable (arg6 : Memref sig .tc .vmem S1x1x64x1024 .fp8e4m3) (harg6 : arg6.IsWhole) (arg7 : Memref sig .tc .vmem S5x2x64 .f32) (harg7 : arg7.IsWhole)
variable (arg8 : Memref sig .tc .vmem S1x45x1x1024 .f32) (harg8 : arg8.IsWhole) (arg9 : Memref sig .tc .vmem S1x9x64x1024 .bf16) (harg9 : arg9.IsWhole)
variable (arg10 : Memref sig .tc .vmem S1x9x1x1024 .f32) (harg10 : arg10.IsWhole) (arg11 : Memref sig .tc .vmem S1024x64 .fp8e4m3) (harg11 : arg11.IsWhole)
variable (arg12 : Memref sig .tc .vmem S64x1024 .bf16) (harg12 : arg12.IsWhole) (arg13 : Memref sig .tc .vmem S64x128 .f32) (harg13 : arg13.IsWhole)
variable (arg14 : Memref sig .tc .vmem S1024x128 .f32) (harg14 : arg14.IsWhole) (arg0 arg1 : BitVec 32)

/-- The scale one head's scores are multiplied by: the two dequantization scales, the softmax scale and log2 e. -/
def scl (k : Fin k1_t1_loop.trips) (x2 : Vec F S2x45 .f32) (x3 : Vec F S2x5 .f32) : F .f32 :=
  k1_pay5 (View.ld x2 (Rect.unit (s := S2x45) (k1_off2 i k) S1x1.size (k1_off2_inb i k)) (Shape.Idx.first (numel1_S1x1.symm ▸ Nat.one_pos)))
    (View.ld x3 (Rect.unit (s := S2x5) (k1_off3 i) S1x1.size (k1_off3_inb i)) (Shape.Idx.first (numel1_S1x1.symm ▸ Nat.one_pos)))

/-- The eight row blocks of the key-side decay that one head's trip stores, last first. -/
def cbPieces (k : Fin k1_t1_loop.trips) (x8 : Vec F S1x45x1x1024 .f32) : List (View.Piece (Elt F) S1024x128 .f32) :=
  [⟨Rect.unit (s := S1024x128) ![896, 0] S128x128.size inb_S1024x128_S128x128_896_0, k1_pay15 (View.ld x8 (Rect.unit (s := S1x45x1x1024) (k1_off11 i k) S1x1x1x128.size (k1_off11_inb i k)))⟩,
   ⟨Rect.unit (s := S1024x128) ![768, 0] S128x128.size inb_S1024x128_S128x128_768_0, k1_pay14 (View.ld x8 (Rect.unit (s := S1x45x1x1024) (k1_off10 i k) S1x1x1x128.size (k1_off10_inb i k)))⟩,
   ⟨Rect.unit (s := S1024x128) ![640, 0] S128x128.size inb_S1024x128_S128x128_640_0, k1_pay13 (k1_pay12 (View.ld x8 (Rect.unit (s := S1x45x1x1024) (k1_off9 i k) S1x1x1x128.size (k1_off9_inb i k))))⟩,
   ⟨Rect.unit (s := S1024x128) ![512, 0] S128x128.size inb_S1024x128_S128x128_512_0, k1_pay11 (View.ld x8 (Rect.unit (s := S1x45x1x1024) (k1_off8 i k) S1x1x1x128.size (k1_off8_inb i k)))⟩,
   ⟨Rect.unit (s := S1024x128) ![384, 0] S128x128.size inb_S1024x128_S128x128_384_0, k1_pay10 (View.ld x8 (Rect.unit (s := S1x45x1x1024) (k1_off7 i k) S1x1x1x128.size (k1_off7_inb i k)))⟩,
   ⟨Rect.unit (s := S1024x128) ![256, 0] S128x128.size inb_S1024x128_S128x128_256_0, k1_pay9 (k1_pay8 (View.ld x8 (Rect.unit (s := S1x45x1x1024) (k1_off6 i k) S1x1x1x128.size (k1_off6_inb i k))))⟩,
   ⟨Rect.unit (s := S1024x128) ![128, 0] S128x128.size inb_S1024x128_S128x128_128_0, k1_pay7 (View.ld x8 (Rect.unit (s := S1x45x1x1024) (k1_off5 i k) S1x1x1x128.size (k1_off5_inb i k)))⟩,
   ⟨Rect.unit (s := S1024x128) ![0, 0] S128x128.size inb_S1024x128_S128x128_0_0, k1_pay6 (View.ld x8 (Rect.unit (s := S1x45x1x1024) (k1_off4 i k) S1x1x1x128.size (k1_off4_inb i k)))⟩]

/-- The key-side decay buffer after those stores. -/
def cb (k : Fin k1_t1_loop.trips) (x8 : Vec F S1x45x1x1024 .f32) : Vec F S1024x128 .f32 := View.canon (cbPieces i k x8)

section Head
variable (k : Fin k1_t1_loop.trips) (x2 : Vec F S2x45 .f32) (x3 : Vec F S2x5 .f32) (x4 : Vec F S1x9x64x1024 .fp8e4m3) (x8 : Vec F S1x45x1x1024 .f32)
variable (x11 : Vec F S1024x64 .fp8e4m3) (x12 : Vec F S64x1024 .bf16) (x13 : Vec F S64x128 .f32)

/-- The scores of the first query block, before its mask. -/
def t0 (c0 : Vec F S256x128 .f32) : FVec F S256x256 .f32 :=
  k1_pay16 (scl i k x2 x3) (View.ld x11 (Rect.unit (s := S1024x64) ![0, 0] S256x64.size inb_S1024x64_S256x64_0_0))
    (View.ld x4 (Rect.unit (s := S1x9x64x1024) (k1_off12 k) S1x1x64x256.size (k1_off12_inb k)))
    c0

def ldc_0 : Vec F S256x128 .f32 := View.ld (cb i k x8) (Rect.unit (s := S1024x128) ![0, 0] S256x128.size inb_S1024x128_S256x128_0_0)
def ld11_1 : Vec F S512x64 .fp8e4m3 := View.ld x11 (Rect.unit (s := S1024x64) ![0, 0] S512x64.size inb_S1024x64_S512x64_0_0)
def ld4_1 : Vec F S1x1x64x256 .fp8e4m3 := View.ld x4 (Rect.unit (s := S1x9x64x1024) (k1_off15 k) S1x1x64x256.size (k1_off15_inb k))
def ldc_1 : Vec F S512x128 .f32 := View.ld (cb i k x8) (Rect.unit (s := S1024x128) ![0, 0] S512x128.size inb_S1024x128_S512x128_0_0)
def ld11_2 : Vec F S768x64 .fp8e4m3 := View.ld x11 (Rect.unit (s := S1024x64) ![0, 0] S768x64.size inb_S1024x64_S768x64_0_0)
def ld4_2 : Vec F S1x1x64x256 .fp8e4m3 := View.ld x4 (Rect.unit (s := S1x9x64x1024) (k1_off18 k) S1x1x64x256.size (k1_off18_inb k))
def ldc_2 : Vec F S768x128 .f32 := View.ld (cb i k x8) (Rect.unit (s := S1024x128) ![0, 0] S768x128.size inb_S1024x128_S768x128_0_0)
def s3 : FVec F S1024x256 .f32 :=
  k1_pay36 (View.ld x11 (Rect.unit (s := S1024x64) ![0, 0] S1024x64.size inb_S1024x64_S1024x64_0_0))
    (View.ld x4 (Rect.unit (s := S1x9x64x1024) (k1_off21 k) S1x1x64x256.size (k1_off21_inb k)))
def ldc_3 : Vec F S1024x128 .f32 := View.ld (cb i k x8) (Rect.unit (s := S1024x128) ![0, 0] S1024x128.size inb_S1024x128_S1024x128_0_0)
def ld13 : Vec F S64x128 .f32 := View.ld x13 (Rect.unit (s := S64x128) ![0, 0] S64x128.size inb_S64x128_S64x128_0_0)

/-- One head's four output blocks, last first. -/
def oPiecesL (c0 : Vec F S256x128 .f32) (c1 : Vec F S512x128 .f32) (c2 : Vec F S768x128 .f32) (c3 : Vec F S1024x128 .f32) : List (View.Piece (Elt F) S1x9x64x1024 .bf16) :=
  [⟨Rect.unit (s := S1x9x64x1024) (k1_off21 k) S1x1x64x256.size (k1_off21_inb k),
      k1_pay41 (scl i k x2 x3) (s3 k x4 x11) c3 (View.ld x12 (Rect.unit (s := S64x1024) ![0, 0] S64x1024.size inb_S64x1024_S64x1024_0_0)) (ld13 x13)⟩,
   ⟨Rect.unit (s := S1x9x64x1024) (k1_off18 k) S1x1x64x256.size (k1_off18_inb k),
      k1_pay34 (k1_pay32 (scl i k x2 x3) (ld11_2 x11) (ld4_2 k x4) c2) (k1_pay33 (scl i k x2 x3) (ld11_2 x11) (ld4_2 k x4) c2)
        (View.ld x12 (Rect.unit (s := S64x1024) ![0, 0] S64x768.size inb_S64x1024_S64x768_0_0)) (ld13 x13)⟩,
   ⟨Rect.unit (s := S1x9x64x1024) (k1_off15 k) S1x1x64x256.size (k1_off15_inb k),
      k1_pay28 (scl i k x2 x3) (ld11_1 x11) (ld4_1 k x4) c1 (View.ld x12 (Rect.unit (s := S64x1024) ![0, 0] S64x512.size inb_S64x1024_S64x512_0_0)) (ld13 x13)⟩,
   ⟨Rect.unit (s := S1x9x64x1024) (k1_off12 k) S1x1x64x256.size (k1_off12_inb k),
      k1_pay22 (t0 i k x2 x3 x4 x11 c0) k1_pay17 (View.ld x12 (Rect.unit (s := S64x1024) ![0, 0] S64x256.size inb_S64x1024_S64x256_0_0)) (ld13 x13)⟩]

/-- One head's four log-sum-exp blocks, last first. -/
def lPiecesL (c0 : Vec F S256x128 .f32) (c1 : Vec F S512x128 .f32) (c2 : Vec F S768x128 .f32) (c3 : Vec F S1024x128 .f32) : List (View.Piece (Elt F) S1x9x1x1024 .f32) :=
  [⟨Rect.unit (s := S1x9x1x1024) (k1_off23 k) S1x1x1x256.size (k1_off23_inb k),
      k1_pay4 (k1_pay42 (scl i k x2 x3) (s3 k x4 x11) c3) (View.ld x8 (Rect.unit (s := S1x45x1x1024) (k1_off22 i k) S1x1x1x256.size (k1_off22_inb i k)))⟩,
   ⟨Rect.unit (s := S1x9x1x1024) (k1_off20 k) S1x1x1x256.size (k1_off20_inb k),
      k1_pay35 (k1_pay31 (scl i k x2 x3) (ld11_2 x11) (ld4_2 k x4) c2) (k1_pay33 (scl i k x2 x3) (ld11_2 x11) (ld4_2 k x4) c2)
        (View.ld x8 (Rect.unit (s := S1x45x1x1024) (k1_off19 i k) S1x1x1x256.size (k1_off19_inb i k)))⟩,
   ⟨Rect.unit (s := S1x9x1x1024) (k1_off17 k) S1x1x1x256.size (k1_off17_inb k),
      k1_pay29 (k1_pay25 (scl i k x2 x3) (ld11_1 x11) (ld4_1 k x4) c1) (k1_pay27 (scl i k x2 x3) (ld11_1 x11) (ld4_1 k x4) c1)
        (View.ld x8 (Rect.unit (s := S1x45x1x1024) (k1_off16 i k) S1x1x1x256.size (k1_off16_inb i k)))⟩,
   ⟨Rect.unit (s := S1x9x1x1024) (k1_off14 k) S1x1x1x256.size (k1_off14_inb k),
      k1_pay23 (t0 i k x2 x3 x4 x11 c0) k1_pay17 (View.ld x8 (Rect.unit (s := S1x45x1x1024) (k1_off13 i k) S1x1x1x256.size (k1_off13_inb i k)))⟩]
/-- The same over what the key-side decay buffer holds. -/
def oPieces : List (View.Piece (Elt F) S1x9x64x1024 .bf16) :=
  oPiecesL i k x2 x3 x4 x11 x12 x13 (ldc_0 i k x8) (ldc_1 i k x8) (ldc_2 i k x8) (ldc_3 i k x8)
def lPieces : List (View.Piece (Elt F) S1x9x1x1024 .f32) :=
  lPiecesL i k x2 x3 x4 x8 x11 (ldc_0 i k x8) (ldc_1 i k x8) (ldc_2 i k x8) (ldc_3 i k x8)
end Head

/-- The pieces the generated trip finds, over the loads it makes of the buffer it filled itself. -/
theorem tripL_eq' (X2 X3 X4 X8 X11 X12 X13) (k) (f9 f10 f14) :
   (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 k f9 f10 f14)
    = (oPiecesL i k (arg2.view.read (Elt F) X2) (arg3.view.read (Elt F) X3) (arg4.view.read (Elt F) X4) (arg11.view.read (Elt F) X11) (arg12.view.read (Elt F) X12) (arg13.view.read (Elt F) X13) (arg14.view.readCov (cbPieces i k (arg8.view.read (Elt F) X8)) (Rect.unit (s := S1024x128) ![0, 0] S256x128.size inb_S1024x128_S256x128_0_0).toLoadRect) (arg14.view.readCov (cbPieces i k (arg8.view.read (Elt F) X8)) (Rect.unit (s := S1024x128) ![0, 0] S512x128.size inb_S1024x128_S512x128_0_0).toLoadRect) (arg14.view.readCov (cbPieces i k (arg8.view.read (Elt F) X8)) (Rect.unit (s := S1024x128) ![0, 0] S768x128.size inb_S1024x128_S768x128_0_0).toLoadRect) (arg14.view.readCov (cbPieces i k (arg8.view.read (Elt F) X8)) (Rect.unit (s := S1024x128) ![0, 0] S1024x128.size inb_S1024x128_S1024x128_0_0).toLoadRect),
       lPiecesL i k (arg2.view.read (Elt F) X2) (arg3.view.read (Elt F) X3) (arg4.view.read (Elt F) X4) (arg8.view.read (Elt F) X8) (arg11.view.read (Elt F) X11) (arg14.view.readCov (cbPieces i k (arg8.view.read (Elt F) X8)) (Rect.unit (s := S1024x128) ![0, 0] S256x128.size inb_S1024x128_S256x128_0_0).toLoadRect) (arg14.view.readCov (cbPieces i k (arg8.view.read (Elt F) X8)) (Rect.unit (s := S1024x128) ![0, 0] S512x128.size inb_S1024x128_S512x128_0_0).toLoadRect) (arg14.view.readCov (cbPieces i k (arg8.view.read (Elt F) X8)) (Rect.unit (s := S1024x128) ![0, 0] S768x128.size inb_S1024x128_S768x128_0_0).toLoadRect) (arg14.view.readCov (cbPieces i k (arg8.view.read (Elt F) X8)) (Rect.unit (s := S1024x128) ![0, 0] S1024x128.size inb_S1024x128_S1024x128_0_0).toLoadRect),
       cbPieces i k (arg8.view.read (Elt F) X8)) := by
  unfold tripL_k1_t1 trip_k1_t1
  rfl

/-- The pieces the generated trip finds, whatever the written buffers held before. -/
theorem tripL_eq (X2 X3 X4 X8 X11 X12 X13) (k) (f9 f10 f14) :
   (tripL_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 k f9 f10 f14)
    = (oPieces i k (arg2.view.read (Elt F) X2) (arg3.view.read (Elt F) X3) (arg4.view.read (Elt F) X4) (arg8.view.read (Elt F) X8) (arg11.view.read (Elt F) X11) (arg12.view.read (Elt F) X12) (arg13.view.read (Elt F) X13),
       lPieces i k (arg2.view.read (Elt F) X2) (arg3.view.read (Elt F) X3) (arg4.view.read (Elt F) X4) (arg8.view.read (Elt F) X8) (arg11.view.read (Elt F) X11),
       cbPieces i k (arg8.view.read (Elt F) X8)) := by
  rw [tripL_eq', View.readCov_eq_canon', View.readCov_eq_canon', View.readCov_eq_canon', View.readCov_eq_canon']
  rfl

end Cert.KernelIdeal.Attn
-- ==== Proof.Ideal.AttnBody.lean ====
module

public import proofs.«01_k».proof.Proof.Gen.KernelIdeal.Loops
public import proofs.«01_k».proof.Proof.Gen.KernelIdeal.Points
public import Idealize.ShloMosaic.Lib.Pipeline.Value
public import Idealize.ShloMosaic.Lib.Pipeline.ValueKit
public import Idealize.ShloMosaic.Lib.Tactic
public import proofs.«01_k».proof.Proof.Ideal.AttnTrip

@[expose] public section
set_option maxRecDepth 16384
noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
variable (𝒱 : Variants) (c : Dev nD) (bd : Option 𝒱.V) (i : grid1.Coords)
variable (arg2 : Memref sig .tc .smem S2x45 .f32) (harg2 : arg2.IsWhole) (arg3 : Memref sig .tc .smem S2x5 .f32) (harg3 : arg3.IsWhole)
variable (arg4 : Memref sig .tc .vmem S1x9x64x1024 .fp8e4m3) (harg4 : arg4.IsWhole) (arg5 : Memref sig .tc .vmem S1x1x64x1024 .fp8e4m3) (harg5 : arg5.IsWhole)
variable (arg6 : Memref sig .tc .vmem S1x1x64x1024 .fp8e4m3) (harg6 : arg6.IsWhole) (arg7 : Memref sig .tc .vmem S5x2x64 .f32) (harg7 : arg7.IsWhole)
variable (arg8 : Memref sig .tc .vmem S1x45x1x1024 .f32) (harg8 : arg8.IsWhole) (arg9 : Memref sig .tc .vmem S1x9x64x1024 .bf16) (harg9 : arg9.IsWhole)
variable (arg10 : Memref sig .tc .vmem S1x9x1x1024 .f32) (harg10 : arg10.IsWhole) (arg11 : Memref sig .tc .vmem S1024x64 .fp8e4m3) (harg11 : arg11.IsWhole)
variable (arg12 : Memref sig .tc .vmem S64x1024 .bf16) (harg12 : arg12.IsWhole) (arg13 : Memref sig .tc .vmem S64x128 .f32) (harg13 : arg13.IsWhole)
variable (arg14 : Memref sig .tc .vmem S1024x128 .f32) (harg14 : arg14.IsWhole) (arg0 arg1 : BitVec 32)

section All
variable (x2 : Vec F S2x45 .f32) (x3 : Vec F S2x5 .f32) (x4 : Vec F S1x9x64x1024 .fp8e4m3) (x8 : Vec F S1x45x1x1024 .f32)
variable (x11 : Vec F S1024x64 .fp8e4m3) (x12 : Vec F S64x1024 .bf16) (x13 : Vec F S64x128 .f32)

/-- The output blocks of the heads before `n`, last first. -/
def oAll : ℕ → List (View.Piece (Elt F) S1x9x64x1024 .bf16)
  | 0 => []
  | n + 1 => if h : n < k1_t1_loop.trips then oPieces i ⟨n, h⟩ x2 x3 x4 x8 x11 x12 x13 ++ oAll n else oAll n

/-- The log-sum-exp blocks of the heads before `n`, last first. -/
def lAll : ℕ → List (View.Piece (Elt F) S1x9x1x1024 .f32)
  | 0 => []
  | n + 1 => if h : n < k1_t1_loop.trips then lPieces i ⟨n, h⟩ x2 x3 x4 x8 x11 ++ lAll n else lAll n

/-- The key-side decay blocks stored by the heads before `n`, last first. -/
def cAll : ℕ → List (View.Piece (Elt F) S1024x128 .f32)
  | 0 => []
  | n + 1 => if h : n < k1_t1_loop.trips then cbPieces i ⟨n, h⟩ x8 ++ cAll n else cAll n
end All

/-- The generated loop recursion is these lists, whatever the written buffers held at its entry. -/
theorem pb_eq (X2 X3 X4 X8 X11 X12 X13) (f9 f10 f14) : ∀ n,
   (pb_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg0 arg1 X2 X3 X4 X8 X11 X12 X13 f9 f10 f14 n)
    = (oAll i (arg2.view.read (Elt F) X2) (arg3.view.read (Elt F) X3) (arg4.view.read (Elt F) X4) (arg8.view.read (Elt F) X8) (arg11.view.read (Elt F) X11) (arg12.view.read (Elt F) X12) (arg13.view.read (Elt F) X13) n,
       lAll i (arg2.view.read (Elt F) X2) (arg3.view.read (Elt F) X3) (arg4.view.read (Elt F) X4) (arg8.view.read (Elt F) X8) (arg11.view.read (Elt F) X11) n,
       cAll i (arg8.view.read (Elt F) X8) n)
  | 0 => by rw [pb_k1_t1.eq_1]; rfl
  | n + 1 => by
    rw [pb_k1_t1.eq_2, pb_eq X2 X3 X4 X8 X11 X12 X13 f9 f10 f14 n]
    unfold pb_k1_t1Step
    rw [oAll.eq_2, lAll.eq_2, cAll.eq_2]
    by_cases h : n < k1_t1_loop.trips
    · rw [dif_pos h, dif_pos h, dif_pos h, dif_pos h, tripL_eq]
    · rw [dif_neg h, dif_neg h, dif_neg h, dif_neg h]

/-- Head `g`'s blocks are in the list. -/
theorem mem_oAll (x2 x3 x4 x8 x11 x12 x13) (g : ℕ) (hg : g < k1_t1_loop.trips) (p) (hp : p ∈ oPieces (F := F) i ⟨g, hg⟩ x2 x3 x4 x8 x11 x12 x13) :
    ∀ n, g < n → p ∈ oAll i x2 x3 x4 x8 x11 x12 x13 n
  | 0, h => absurd h (Nat.not_lt_zero _)
  | n + 1, h => by
    unfold oAll
    by_cases e : g = n
    · subst e; rw [dif_pos hg]; exact List.mem_append_left _ hp
    · have := mem_oAll x2 x3 x4 x8 x11 x12 x13 g hg p hp n (by omega)
      split
      · exact List.mem_append_right _ this
      · exact this
theorem mem_lAll (x2 x3 x4 x8 x11) (g : ℕ) (hg : g < k1_t1_loop.trips) (p) (hp : p ∈ lPieces (F := F) i ⟨g, hg⟩ x2 x3 x4 x8 x11) :
    ∀ n, g < n → p ∈ lAll i x2 x3 x4 x8 x11 n
  | 0, h => absurd h (Nat.not_lt_zero _)
  | n + 1, h => by
    unfold lAll
    by_cases e : g = n
    · subst e; rw [dif_pos hg]; exact List.mem_append_left _ hp
    · have := mem_lAll x2 x3 x4 x8 x11 g hg p hp n (by omega)
      split
      · exact List.mem_append_right _ this
      · exact this

/-- Nothing else is: every block of the list is some head's. -/
theorem of_mem_oAll (x2 x3 x4 x8 x11 x12 x13) (p) : ∀ n, p ∈ oAll (F := F) i x2 x3 x4 x8 x11 x12 x13 n → ∃ k, p ∈ oPieces i k x2 x3 x4 x8 x11 x12 x13
  | 0, h => by simp [oAll] at h
  | n + 1, h => by
    unfold oAll at h
    split at h
    · rcases List.mem_append.mp h with h | h
      · exact ⟨_, h⟩
      · exact of_mem_oAll x2 x3 x4 x8 x11 x12 x13 p n h
    · exact of_mem_oAll x2 x3 x4 x8 x11 x12 x13 p n h
theorem of_mem_lAll (x2 x3 x4 x8 x11) (p) : ∀ n, p ∈ lAll (F := F) i x2 x3 x4 x8 x11 n → ∃ k, p ∈ lPieces i k x2 x3 x4 x8 x11
  | 0, h => by simp [lAll] at h
  | n + 1, h => by
    unfold lAll at h
    split at h
    · rcases List.mem_append.mp h with h | h
      · exact ⟨_, h⟩
      · exact of_mem_lAll x2 x3 x4 x8 x11 p n h
    · exact of_mem_lAll x2 x3 x4 x8 x11 p n h

theorem trips_eq : k1_t1_loop.trips = 9 := by decide +kernel

theorem iv_eq (k : Fin k1_t1_loop.trips) : (Scalar.indexCast (Scf.iv 0#32 1#32 k.val) : BitVec _).toNat = k.val := by
  have h : k.val < 9 := trips_eq ▸ k.isLt
  revert h; generalize k.val = n; intro h
  interval_cases n <;> decide +kernel

/-- The blocks cover the output buffer, -/
theorem cover_o (x2 x3 x4 x8 x11 x12 x13) (y : S1x9x64x1024.Idx) : ∃ p ∈ oAll (F := F) i x2 x3 x4 x8 x11 x12 x13 k1_t1_loop.trips, y ∈ p.1.set := by
  have h0 : (y 0).val < 1 := (y 0).isLt
  have h1 : (y 1).val < 9 := (y 1).isLt
  have h2 : (y 2).val < 64 := (y 2).isLt
  have h3 : (y 3).val < 1024 := (y 3).isLt
  have hk : (y 1).val < k1_t1_loop.trips := trips_eq ▸ h1
  have hiv : (Scalar.indexCast (Scf.iv 0#32 1#32 (y 1).val) : BitVec _).toNat = (y 1).val := iv_eq ⟨_, hk⟩
  have key : ∃ p ∈ oPieces (F := F) i ⟨(y 1).val, hk⟩ x2 x3 x4 x8 x11 x12 x13, y ∈ p.1.set := by
    unfold oPieces oPiecesL
    by_cases a : 768 ≤ (y 3).val
    · refine ⟨_, List.mem_cons_self .., ?_⟩
      rw [Rect.mem_set_unit]; intro b
      fin_cases b <;> simp [k1_off21, hiv] <;> omega
    by_cases a' : 512 ≤ (y 3).val
    · refine ⟨_, List.mem_cons_of_mem _ (List.mem_cons_self ..), ?_⟩
      rw [Rect.mem_set_unit]; intro b
      fin_cases b <;> simp [k1_off18, hiv] <;> omega
    by_cases a'' : 256 ≤ (y 3).val
    · refine ⟨_, List.mem_cons_of_mem _ (List.mem_cons_of_mem _ (List.mem_cons_self ..)), ?_⟩
      rw [Rect.mem_set_unit]; intro b
      fin_cases b <;> simp [k1_off15, hiv] <;> omega
    · refine ⟨_, List.mem_cons_of_mem _ (List.mem_cons_of_mem _ (List.mem_cons_of_mem _ (List.mem_cons_self ..))), ?_⟩
      rw [Rect.mem_set_unit]; intro b
      fin_cases b <;> simp [k1_off12, hiv] <;> omega
  obtain ⟨p, hp, hy⟩ := key
  exact ⟨p, mem_oAll i x2 x3 x4 x8 x11 x12 x13 _ hk p hp _ hk, hy⟩

/-- and the log-sum-exp buffer. -/
theorem cover_l (x2 x3 x4 x8 x11) (y : S1x9x1x1024.Idx) : ∃ p ∈ lAll (F := F) i x2 x3 x4 x8 x11 k1_t1_loop.trips, y ∈ p.1.set := by
  have h0 : (y 0).val < 1 := (y 0).isLt
  have h1 : (y 1).val < 9 := (y 1).isLt
  have h2 : (y 2).val < 1 := (y 2).isLt
  have h3 : (y 3).val < 1024 := (y 3).isLt
  have hk : (y 1).val < k1_t1_loop.trips := trips_eq ▸ h1
  have hiv : (Scalar.indexCast (Scf.iv 0#32 1#32 (y 1).val) : BitVec _).toNat = (y 1).val := iv_eq ⟨_, hk⟩
  have key : ∃ p ∈ lPieces (F := F) i ⟨(y 1).val, hk⟩ x2 x3 x4 x8 x11, y ∈ p.1.set := by
    unfold lPieces lPiecesL
    by_cases a : 768 ≤ (y 3).val
    · refine ⟨_, List.mem_cons_self .., ?_⟩
      rw [Rect.mem_set_unit]; intro b
      fin_cases b <;> simp [k1_off23, hiv] <;> omega
    by_cases a' : 512 ≤ (y 3).val
    · refine ⟨_, List.mem_cons_of_mem _ (List.mem_cons_self ..), ?_⟩
      rw [Rect.mem_set_unit]; intro b
      fin_cases b <;> simp [k1_off20, hiv] <;> omega
    by_cases a'' : 256 ≤ (y 3).val
    · refine ⟨_, List.mem_cons_of_mem _ (List.mem_cons_of_mem _ (List.mem_cons_self ..)), ?_⟩
      rw [Rect.mem_set_unit]; intro b
      fin_cases b <;> simp [k1_off17, hiv] <;> omega
    · refine ⟨_, List.mem_cons_of_mem _ (List.mem_cons_of_mem _ (List.mem_cons_of_mem _ (List.mem_cons_self ..))), ?_⟩
      rw [Rect.mem_set_unit]; intro b
      fin_cases b <;> simp [k1_off14, hiv] <;> omega
  obtain ⟨p, hp, hy⟩ := key
  exact ⟨p, mem_lAll i x2 x3 x4 x8 x11 _ hk p hp _ hk, hy⟩

section Out
variable (x2 : Vec F S2x45 .f32) (x3 : Vec F S2x5 .f32) (x4 : Vec F S1x9x64x1024 .fp8e4m3) (x5 x6 : Vec F S1x1x64x1024 .fp8e4m3)
variable (x7 : Vec F S5x2x64 .f32) (x8 : Vec F S1x45x1x1024 .f32)

/-- The transposed keys, the widened values and the broadcast value scales a grid point prepares. -/
def kk : Vec F S1024x64 .fp8e4m3 := k1_pay1 (View.ld x5 (Rect.unit (s := S1x1x64x1024) ![0, 0, 0, 0] S1x1x64x1024.size inb_S1x1x64x1024_S1x1x64x1024_0_0_0_0))
def vv : Vec F S64x1024 .bf16 := k1_pay2 (View.ld x6 (Rect.unit (s := S1x1x64x1024) ![0, 0, 0, 0] S1x1x64x1024.size inb_S1x1x64x1024_S1x1x64x1024_0_0_0_0))
def vsc : Vec F S64x128 .f32 := k1_pay3 (View.ld x7 (Rect.unit (s := S5x2x64) (k1_off1 i) S1x1x64.size (k1_off1_inb i)))

/-- What a grid point leaves in its attention output block, -/
def outO : Vec F S1x9x64x1024 .bf16 := View.canon (oAll i x2 x3 x4 x8 (kk x5) (vv x6) (vsc i x7) k1_t1_loop.trips)
/-- and in its log-sum-exp block. -/
def outL : Vec F S1x9x1x1024 .f32 := View.canon (lAll i x2 x3 x4 x8 (kk x5) k1_t1_loop.trips)
end Out

/-- A buffer written whole reads as what was written. -/
theorem read_whole {sp : Space} {S : Shape} {e : EltTy} (v : View sig .tc sp S e) (f) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

local notation "𝕄" => MT nD τ sig Unit (Elt F) ℕ (UR sig nD τ) ℕ

theorem hz2 : (![0, 0] : Fin 2 → Nat) = fun _ => 0 := funext fun a => by fin_cases a <;> rfl

set_option maxHeartbeats 1000000 in
/-- One grid point of the attention call: from the inputs at `x2 … x8` and the outputs and scratch at anything, the body
    ends with the inputs unchanged, the outputs at `outO`, `outL`, and the scratch at something. -/
theorem triple (E : Set ℕ)
    (x2 : Vec F S2x45 .f32) (x3 : Vec F S2x5 .f32) (x4 : Vec F S1x9x64x1024 .fp8e4m3) (x5 x6 : Vec F S1x1x64x1024 .fp8e4m3)
    (x7 : Vec F S5x2x64 .f32) (x8 : Vec F S1x45x1x1024 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare (outO i x2 x3 x4 x5 x6 x7 x8)
          ∗ owns (c : Thread nD τ) arg10 fullShare (outL i x2 x3 x4 x5 x8)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)) -∗ K ⟨⟩))
      ⊢ wp frame (wpE (defs₀ (F := F)) Variants.none c none) E (cc1_attn i arg2 harg2 arg3 harg3 arg4 harg4 arg5 harg5 arg6 harg6 arg7 harg7 arg8 harg8 arg9 harg9 arg10 harg10 arg11 harg11 arg12 harg12 arg13 harg13 arg14 harg14) K := by
  simp only [cc1_attn_eq_skeleton]; unfold cc1_attn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7 hf8
  sl_exec
  sl_step
  have e11 : arg11.view.read (Elt F) (arg11.view.writes (Elt F) arg11.view.junk (triple.sl.H11_1 c arg5 f5)) = kk (arg5.view.read (Elt F) f5) := by
    unfold triple.sl.H11_1
    exact read_whole _ _ hz2 _ _
  have e12 : arg12.view.read (Elt F) (arg12.view.writes (Elt F) arg12.view.junk (triple.sl.H12_1 c arg6 f6)) = vv (arg6.view.read (Elt F) f6) := by
    unfold triple.sl.H12_1
    exact read_whole _ _ hz2 _ _
  have e13 : arg13.view.read (Elt F) (arg13.view.writes (Elt F) arg13.view.junk (triple.sl.H13_1 c i arg7 f7)) = vsc i (arg7.view.read (Elt F) f7) := by
    unfold triple.sl.H13_1
    exact read_whole _ _ hz2 _ _
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    rw [pb_eq, e11, e12, e13]
    exact View.read_writes_eq_canon _ _ _ (cover_o i _ _ _ _ _ _ _)
  isplitl [H10]
  · iexists _; isplitr
    swap; · iexact H10
    ipureintro
    rw [pb_eq, e11, e12, e13]
    exact View.read_writes_eq_canon _ _ _ (cover_l i _ _ _ _ _)
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

end Cert.KernelIdeal.Attn
-- ==== Proof.Ideal.AttnRun.lean ====
module

public import proofs.«01_k».proof.Proof.Ideal.AttnBody
public import proofs.«01_k».proof.Proof.Gen.KernelIdeal.Launch
public import Idealize.ShloMosaic.Lib.Pipeline.Frame
public import Idealize.ShloMosaic.Lib.Pipeline.FrameBody

/-! The attention call's points: what each window holds after the body, and the body at every point. -/

@[expose] public section
set_option maxRecDepth 16384
noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- After the body each input's buffer is at its block and each output's at what the body computes from the blocks; the
    scratch buffers are at anything between points. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outO (cfg1.grid.coords t) (iblk W c 0 t) (iblk W c 1 t) (iblk W c 2 t) (iblk W c 3 t) (iblk W c 4 t) (iblk W c 5 t) (iblk W c 6 t)
    | ⟨8, _⟩ => outL (cfg1.grid.coords t) (iblk W c 0 t) (iblk W c 1 t) (iblk W c 2 t) (iblk W c 3 t) (iblk W c 6 t)
  Φ _ := Pipeline.ΦA spec1 c
  q _ := fullShare
  owed _ := 0

theorem A_eq (c : Dev nD) (w : Fin cfg1.W) : (dats W c).A w = W c (Proc.devRef .tc (Pipeline.arrRef spec1 w)) := by
  dsimp only [dats]

theorem after_0 (c : Dev nD) (t : Fin cfg1.N) : (dats W c).after 0 t = iblk W c 0 t := by dsimp only [dats]
theorem after_1 (c : Dev nD) (t : Fin cfg1.N) : (dats W c).after 1 t = iblk W c 1 t := by dsimp only [dats]
theorem after_2 (c : Dev nD) (t : Fin cfg1.N) : (dats W c).after 2 t = iblk W c 2 t := by dsimp only [dats]
theorem after_3 (c : Dev nD) (t : Fin cfg1.N) : (dats W c).after 3 t = iblk W c 3 t := by dsimp only [dats]
theorem after_4 (c : Dev nD) (t : Fin cfg1.N) : (dats W c).after 4 t = iblk W c 4 t := by dsimp only [dats]
theorem after_5 (c : Dev nD) (t : Fin cfg1.N) : (dats W c).after 5 t = iblk W c 5 t := by dsimp only [dats]
theorem after_6 (c : Dev nD) (t : Fin cfg1.N) : (dats W c).after 6 t = iblk W c 6 t := by dsimp only [dats]
theorem after_7 (c : Dev nD) (t : Fin cfg1.N) : (dats W c).after 7 t = outO (cfg1.grid.coords t) (iblk W c 0 t) (iblk W c 1 t) (iblk W c 2 t) (iblk W c 3 t) (iblk W c 4 t) (iblk W c 5 t) (iblk W c 6 t) := by dsimp only [dats]
theorem after_8 (c : Dev nD) (t : Fin cfg1.N) : (dats W c).after 8 t = outL (cfg1.grid.coords t) (iblk W c 0 t) (iblk W c 1 t) (iblk W c 2 t) (iblk W c 3 t) (iblk W c 6 t) := by dsimp only [dats]

/-- Each input's current buffer holds its block at every point, fetched there or not. -/
theorem before_0 (c : Dev nD) (t : Fin cfg1.N) (d) : (dats W c).before 0 t d = iblk W c 0 t :=
  ((dats W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats W c).before 1 t d = iblk W c 1 t :=
  ((dats W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats W c).before 2 t d = iblk W c 2 t :=
  ((dats W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats W c).before 3 t d = iblk W c 3 t :=
  ((dats W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats W c).before 4 t d = iblk W c 4 t :=
  ((dats W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats W c).before 5 t d = iblk W c 5 t :=
  ((dats W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats W c).before 6 t d = iblk W c 6 t :=
  ((dats W c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dats W c).Φ t.castSucc ∗ (dats W c).owesAt () t.castSucc
    ∗ (∃ d, owns (c : Thread nD τ) (st1_0 t) fullShare ((dats W c).before 0 t d))
    ∗ (∃ d, owns (c : Thread nD τ) (st1_1 t) fullShare ((dats W c).before 1 t d))
    ∗ (∃ d, owns (c : Thread nD τ) (st1_2 t) fullShare ((dats W c).before 2 t d))
    ∗ (∃ d, owns (c : Thread nD τ) (st1_3 t) fullShare ((dats W c).before 3 t d))
    ∗ (∃ d, owns (c : Thread nD τ) (st1_4 t) fullShare ((dats W c).before 4 t d))
    ∗ (∃ d, owns (c : Thread nD τ) (st1_5 t) fullShare ((dats W c).before 5 t d))
    ∗ (∃ d, owns (c : Thread nD τ) (st1_6 t) fullShare ((dats W c).before 6 t d))
    ∗ (∃ d, owns (c : Thread nD τ) (st1_7 t) fullShare ((dats W c).before 7 t d))
    ∗ (∃ d, owns (c : Thread nD τ) (st1_8 t) fullShare ((dats W c).before 8 t d)))

/-- and what it returns. -/
def bodyPost (c : Dev nD) (t : Fin cfg1.N) : sProp 𝕄 :=
  iprop((dats W c).Φ t.succ ∗ (dats W c).owesAt () t.succ
    ∗ owns (c : Thread nD τ) (st1_0 t) fullShare ((dats W c).after 0 t)
    ∗ owns (c : Thread nD τ) (st1_1 t) fullShare ((dats W c).after 1 t)
    ∗ owns (c : Thread nD τ) (st1_2 t) fullShare ((dats W c).after 2 t)
    ∗ owns (c : Thread nD τ) (st1_3 t) fullShare ((dats W c).after 3 t)
    ∗ owns (c : Thread nD τ) (st1_4 t) fullShare ((dats W c).after 4 t)
    ∗ owns (c : Thread nD τ) (st1_5 t) fullShare ((dats W c).after 5 t)
    ∗ owns (c : Thread nD τ) (st1_6 t) fullShare ((dats W c).after 6 t)
    ∗ owns (c : Thread nD τ) (st1_7 t) fullShare ((dats W c).after 7 t)
    ∗ owns (c : Thread nD τ) (st1_8 t) fullShare ((dats W c).after 8 t))

set_option maxHeartbeats 1600000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [show (dats W c).Φ t.succ = Pipeline.ΦA spec1 c from rfl, show (dats W c).Φ t.castSucc = Pipeline.ΦA spec1 c from rfl,
    show (dats W c).owesAt () t.succ = (dats W c).owesAt () t.castSucc from rfl,
    after_0, after_1, after_2, after_3, after_4, after_5, after_6, after_7, after_8]
  unfold Pipeline.ΦA
  rw [scopedRest1_eq]
  iintro ⟨⟨⟨R0, R1, R2, R3, R4, R5, R6, R7, R8, R9, ⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (triple c (grid1.coords t) _ _ _ _ _ _ _ _ _ _ _ _ _ _ _ _ _ _ _ _ _ _ _ _ _ _ Set.univ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, H6, H7, H8, ⟨%u0, S0⟩, ⟨%u1, S1⟩, ⟨%u2, S2⟩, ⟨%u3, S3⟩⟩
  simp only [owns_whole]
  isplitl [R0 R1 R2 R3 R4 R5 R6 R7 R8 R9 S0 S1 S2 S3 Hp]
  · isplitr [Hp]
    swap; · iexact Hp
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [S0]; · iexists u0; iexact S0
    isplitl [S1]; · iexists u1; iexact S1
    isplitl [S2]; · iexists u2; iexact S2
    iexists u3; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dats (F := F) W c) (defs₀ (F := F)) Variants.none () Set.univ := fun t => by
  rw [bigSep_W1, bigSep_W1, defs₀_row]
  exact triple_restated (sound_body W c t) rfl .rfl fun _ => .rfl

end Cert.KernelIdeal.Attn
-- ==== Proof.Ideal.GateRows.lean ====
module

public import proofs.«01_k».proof.Proof.Gen.KernelIdeal.Skeleton
public import Idealize.ShloMosaic.Lib.Pipeline.Value
public import Idealize.ShloMosaic.Lib.Pipeline.ValueKit
public import Idealize.ShloMosaic.Lib.Tactic
public import Idealize.ShloMosaic.Lib.Ring

/-! What a point of the gate leaves in its blocks, as functions of what it reads, and the rows its stores write. -/

@[expose] public section
set_option maxRecDepth 16384
noncomputable section

namespace Cert.KernelIdeal.Gate

open Idealize.ShloMosaic Idealize.ShloMosaic.TcCoe Idealize.ShloMosaic.ValueIdx
open Idealize.SL.Sem
open Cert.KernelIdeal.Gen

variable {F : FTy → Type} [FloatOps F] [Named F]

/-- The point's first branch: the split of the weights is written. -/
abbrev first (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
/-- Its second branch: the running sum is reset. -/
abbrev reset (i : grid0.Coords) : Prop := Scalar.cmpi .ne (Scalar.extui (Scalar.cmpi .eq (BitVec.ofNat 32 (i 1).val) 0#32) : BitVec 32) 0#32 = 1#1

theorem hz2 : (![0, 0] : Fin 2 → ℕ) = fun _ => 0 := by funext a; fin_cases a <;> rfl
theorem hz3 : (![0, 0, 0] : Fin 3 → ℕ) = fun _ => 0 := by funext a; fin_cases a <;> rfl

/-- A buffer filled by stores that tile it, each storing its part of `G`, reads as `G`. -/
theorem read_rows {sp : Space} {S : Shape} {e : EltTy} (v : View sig .tc sp S e) (f) (G : S.Idx → Elt F e)
    (L : List (View.Piece (Elt F) S e)) (size : Fin S.rank → ℕ) (ht : View.Piece.tiledL L size = true)
    (h : ∀ p ∈ L, ∀ x : p.1.shape.Idx, p.2 x = G (p.1.emb x)) : v.read (Elt F) (v.writes (Elt F) f L) = G := by
  have hc := View.cover_of_tiledL L size ht
  rw [View.read_writes_eq_canon _ _ _ hc]
  exact funext fun y => View.canon_apply_of_pieces G L h y (hc y)

/-- A buffer last written whole reads as what was written. -/
theorem read_whole {sp : Space} {S : Shape} {e : EltTy} (v : View sig .tc sp S e) (f) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A 45-row array laid out as a block of rows. -/
def fG (v : Vec F S45x512 .f32) : Vec F S1x45x1x512 .f32 := fun y => v (ValueIdx.ix2 (n0 := 45) (n1 := 512) (y 1) (y 3))
/-- Four arrays of 128 columns laid side by side as a block of rows. -/
def cG (a b c d : Vec F S45x128 .f32) : Vec F S1x45x1x512 .f32 := fun y =>
  (if (y 3).val < 128 then a else if (y 3).val < 256 then b else if (y 3).val < 384 then c else d)
    (ValueIdx.ix2 (n0 := 45) (n1 := 128) (y 1) ⟨(y 3).val % 128, Nat.mod_lt _ (by norm_num)⟩)

/-- The row stored at row `h` is row `h` of the array. -/
theorem row512 (v : Vec F S45x512 .f32) (h : ℕ) (hs : S45x512.Slices ![h, 0] S1x512) (hc : S1x512.ShapeCasts S1x1x1x512)
    (inb : ∀ a, (![0, h, 0, 0] : Fin 4 → ℕ) a + S1x1x1x512.size a ≤ S1x45x1x512.size a) (x : S1x1x1x512.Idx) :
    shapeCast S1x1x1x512 (extractStridedSlice S1x512 ![h, 0] v hs) hc x
      = fG v ((Rect.unit (s := S1x45x1x512) ![0, h, 0, 0] S1x1x1x512.size inb).emb x) := by
  have x0 : (x 0).val = 0 := Nat.lt_one_iff.mp (x 0).isLt
  have x1 : (x 1).val = 0 := Nat.lt_one_iff.mp (x 1).isLt
  have x2 : (x 2).val = 0 := Nat.lt_one_iff.mp (x 2).isLt
  rw [shapeCast_apply _ _ _ (ValueIdx.ix2 (n0 := 1) (n1 := 512) 0 (x 3)) (by
    rw [Shape.rowMajor_val_two, Shape.rowMajor_val_four]; simp [ValueIdx.ix2, x0, x1, x2])]
  unfold fG
  refine extractStridedSlice_apply _ _ _ _ _ fun a => ?_
  fin_cases a
  · show ((Rect.unit (s := S1x45x1x512) ![0, h, 0, 0] S1x1x1x512.size inb).emb x 1).val = h + 0
    rw [ValueKit.rect_emb_unit_val]; simp [x1]
  · show ((Rect.unit (s := S1x45x1x512) ![0, h, 0, 0] S1x1x1x512.size inb).emb x 3).val = 0 + (x 3).val
    rw [ValueKit.rect_emb_unit_val]; simp

/-- The same for the running sum, whose block `q` of 128 columns is stored on its own. -/
theorem row128 (a b c d e : Vec F S45x128 .f32) (h q : ℕ) (hq : e = if q < 128 then a else if q < 256 then b else if q < 384 then c else d)
    (hd : q % 128 = 0) (hs : S45x128.Slices ![h, 0] S1x128) (hc : S1x128.ShapeCasts S1x1x1x128)
    (inb : ∀ a, (![0, h, 0, q] : Fin 4 → ℕ) a + S1x1x1x128.size a ≤ S1x45x1x512.size a) (x : S1x1x1x128.Idx) :
    shapeCast S1x1x1x128 (extractStridedSlice S1x128 ![h, 0] e hs) hc x
      = cG a b c d ((Rect.unit (s := S1x45x1x512) ![0, h, 0, q] S1x1x1x128.size inb).emb x) := by
  have x0 : (x 0).val = 0 := Nat.lt_one_iff.mp (x 0).isLt
  have x1 : (x 1).val = 0 := Nat.lt_one_iff.mp (x 1).isLt
  have x2 : (x 2).val = 0 := Nat.lt_one_iff.mp (x 2).isLt
  have x3 : (x 3).val < 128 := (x 3).isLt
  rw [shapeCast_apply _ _ _ (ValueIdx.ix2 (n0 := 1) (n1 := 128) 0 (x 3)) (by
    rw [Shape.rowMajor_val_two, Shape.rowMajor_val_four]; simp [ValueIdx.ix2, x0, x1, x2])]
  have e3 : ((Rect.unit (s := S1x45x1x512) ![0, h, 0, q] S1x1x1x128.size inb).emb x 3).val = q + (x 3).val := by
    rw [ValueKit.rect_emb_unit_val]; simp
  have e1 : ((Rect.unit (s := S1x45x1x512) ![0, h, 0, q] S1x1x1x128.size inb).emb x 1).val = h := by
    rw [ValueKit.rect_emb_unit_val]; simp [x1]
  have k1 : q + (x 3).val < 128 ↔ q < 128 := by omega
  have k2 : q + (x 3).val < 256 ↔ q < 256 := by omega
  have k3 : q + (x 3).val < 384 ↔ q < 384 := by omega
  have hsel : (if ((Rect.unit (s := S1x45x1x512) ![0, h, 0, q] S1x1x1x128.size inb).emb x 3).val < 128 then a
      else if ((Rect.unit (s := S1x45x1x512) ![0, h, 0, q] S1x1x1x128.size inb).emb x 3).val < 256 then b
      else if ((Rect.unit (s := S1x45x1x512) ![0, h, 0, q] S1x1x1x128.size inb).emb x 3).val < 384 then c else d) = e := by
    rw [e3, hq]; simp only [k1, k2, k3]
  unfold cG
  refine Eq.trans ?_ (congrFun hsel.symm _)
  refine extractStridedSlice_apply _ _ _ _ _ fun z => ?_
  fin_cases z
  · show ((Rect.unit (s := S1x45x1x512) ![0, h, 0, q] S1x1x1x128.size inb).emb x 1).val = h + 0
    rw [e1]; rfl
  · show ((Rect.unit (s := S1x45x1x512) ![0, h, 0, q] S1x1x1x128.size inb).emb x 3).val % 128 = 0 + (x 3).val
    rw [e3]; omega

theorem row_0 (a b c d : Vec F S45x128 .f32) (h : ℕ) (hs : S45x128.Slices ![h, 0] S1x128) (hc : S1x128.ShapeCasts S1x1x1x128)
    (inb : ∀ a, (![0, h, 0, 0] : Fin 4 → ℕ) a + S1x1x1x128.size a ≤ S1x45x1x512.size a) (x : S1x1x1x128.Idx) :
    shapeCast S1x1x1x128 (extractStridedSlice S1x128 ![h, 0] a hs) hc x
      = cG a b c d ((Rect.unit (s := S1x45x1x512) ![0, h, 0, 0] S1x1x1x128.size inb).emb x) :=
  row128 a b c d a h 0 (by norm_num) (by norm_num) hs hc inb x

theorem row_128 (a b c d : Vec F S45x128 .f32) (h : ℕ) (hs : S45x128.Slices ![h, 0] S1x128) (hc : S1x128.ShapeCasts S1x1x1x128)
    (inb : ∀ a, (![0, h, 0, 128] : Fin 4 → ℕ) a + S1x1x1x128.size a ≤ S1x45x1x512.size a) (x : S1x1x1x128.Idx) :
    shapeCast S1x1x1x128 (extractStridedSlice S1x128 ![h, 0] b hs) hc x
      = cG a b c d ((Rect.unit (s := S1x45x1x512) ![0, h, 0, 128] S1x1x1x128.size inb).emb x) :=
  row128 a b c d b h 128 (by norm_num) (by norm_num) hs hc inb x

theorem row_256 (a b c d : Vec F S45x128 .f32) (h : ℕ) (hs : S45x128.Slices ![h, 0] S1x128) (hc : S1x128.ShapeCasts S1x1x1x128)
    (inb : ∀ a, (![0, h, 0, 256] : Fin 4 → ℕ) a + S1x1x1x128.size a ≤ S1x45x1x512.size a) (x : S1x1x1x128.Idx) :
    shapeCast S1x1x1x128 (extractStridedSlice S1x128 ![h, 0] c hs) hc x
      = cG a b c d ((Rect.unit (s := S1x45x1x512) ![0, h, 0, 256] S1x1x1x128.size inb).emb x) :=
  row128 a b c d c h 256 (by norm_num) (by norm_num) hs hc inb x

theorem row_384 (a b c d : Vec F S45x128 .f32) (h : ℕ) (hs : S45x128.Slices ![h, 0] S1x128) (hc : S1x128.ShapeCasts S1x1x1x128)
    (inb : ∀ a, (![0, h, 0, 384] : Fin 4 → ℕ) a + S1x1x1x128.size a ≤ S1x45x1x512.size a) (x : S1x1x1x128.Idx) :
    shapeCast S1x1x1x128 (extractStridedSlice S1x128 ![h, 0] d hs) hc x
      = cG a b c d ((Rect.unit (s := S1x45x1x512) ![0, h, 0, 384] S1x1x1x128.size inb).emb x) :=
  row128 a b c d d h 384 (by norm_num) (by norm_num) hs hc inb x

section Point
variable (x2 : Vec F S1x2880x512 .bf16) (x4 : Vec F S45x1 .f32) (x7 : Vec F S144x2880 .bf16) (x8 : Vec F S45x128 .f32)

/-- The forget logits of a point, -/
def fv : FVec F S45x512 .f32 := k0_pay12 x7 x2 x4

/-- and from them and the running sum `b` before the point: the sums of each block of 128 columns, and the running sum after it. -/
def pre0 (v : FVec F S45x512 .f32) : FVec F S45x128 .f32 := k0_pay69 (k0_pay64 v) (k0_pay66 v) (k0_pay67 v) k0_pay68
def pre1 (v : FVec F S45x512 .f32) : FVec F S45x128 .f32 := k0_pay124 (k0_pay64 v) (k0_pay66 v) (k0_pay67 v) k0_pay68
def pre2 (v : FVec F S45x512 .f32) : FVec F S45x128 .f32 := k0_pay176 (k0_pay64 v) (k0_pay66 v) (k0_pay67 v) k0_pay68
def pre3 (v : FVec F S45x512 .f32) : FVec F S45x128 .f32 := k0_pay228 (k0_pay64 v) (k0_pay66 v) (k0_pay67 v) k0_pay68
def base1 (v : FVec F S45x512 .f32) (b : Vec F S45x128 .f32) : FVec F S45x128 .f32 := k0_pay123 b (k0_pay122 (pre0 v))
def base2 (v : FVec F S45x512 .f32) (b : Vec F S45x128 .f32) : FVec F S45x128 .f32 := k0_pay175 (base1 v b) (pre1 v)
def base3 (v : FVec F S45x512 .f32) (b : Vec F S45x128 .f32) : FVec F S45x128 .f32 := k0_pay227 (base2 v b) (pre2 v)
def outF : Vec F S1x45x1x512 .f32 := fG (fv x2 x4 x7)
def outC : Vec F S1x45x1x512 .f32 :=
  cG (addf (pre0 (fv x2 x4 x7)) x8) (addf (pre1 (fv x2 x4 x7)) (base1 (fv x2 x4 x7) x8))
    (addf (pre2 (fv x2 x4 x7)) (base2 (fv x2 x4 x7) x8)) (addf (pre3 (fv x2 x4 x7)) (base3 (fv x2 x4 x7) x8))
def next : Vec F S45x128 .f32 := k0_pay2 (base3 (fv x2 x4 x7) x8) (pre3 (fv x2 x4 x7))
end Point

/-- The split weights as the first point leaves them: three bands of 45 rows over zeros, each stored as 46 rows of which the
    last keeps what it held. -/
def w3a : List (View.Piece (Elt F) S144x2880 .bf16) :=
  [⟨Rect.unit (s := S144x2880) ![0, 0] S144x2880.size inb_S144x2880_S144x2880_0_0, k0_pay3⟩]
def w3b (w : Vec F S45x2880 .f32) : List (View.Piece (Elt F) S144x2880 .bf16) :=
  ⟨Rect.unit (s := S144x2880) ![0, 0] S46x2880.size inb_S144x2880_S46x2880_0_0,
    updateSlice (fun j => View.canon (w3a (F := F)) ((Rect.unit (s := S144x2880) ![0, 0] S46x2880.size inb_S144x2880_S46x2880_0_0).toLoadRect.idx j)) (k0_pay8 w) ![0, 0] slices_S46x2880_S45x2880_0_0⟩ :: w3a
def w3c (w : Vec F S45x2880 .f32) : List (View.Piece (Elt F) S144x2880 .bf16) :=
  ⟨Rect.unit (s := S144x2880) ![48, 0] S46x2880.size inb_S144x2880_S46x2880_48_0,
    updateSlice (fun j => View.canon (w3b w) ((Rect.unit (s := S144x2880) ![48, 0] S46x2880.size inb_S144x2880_S46x2880_48_0).toLoadRect.idx j)) (k0_pay9 w) ![0, 0] slices_S46x2880_S45x2880_0_0⟩ :: w3b w
def w3d (w : Vec F S45x2880 .f32) : List (View.Piece (Elt F) S144x2880 .bf16) :=
  ⟨Rect.unit (s := S144x2880) ![96, 0] S46x2880.size inb_S144x2880_S46x2880_96_0,
    updateSlice (fun j => View.canon (w3c w) ((Rect.unit (s := S144x2880) ![96, 0] S46x2880.size inb_S144x2880_S46x2880_96_0).toLoadRect.idx j)) (k0_pay10 w) ![0, 0] slices_S46x2880_S45x2880_0_0⟩ :: w3c w
def split (w : Vec F S45x2880 .f32) : Vec F S144x2880 .bf16 := View.canon (w3d w)

theorem w3d_cover (w : Vec F S45x2880 .f32) : ∀ y : S144x2880.Idx, ∃ p ∈ w3d w, y ∈ p.1.set := fun y =>
  ⟨(⟨Rect.unit (s := S144x2880) ![0, 0] S144x2880.size inb_S144x2880_S144x2880_0_0, k0_pay3⟩ : View.Piece (Elt F) S144x2880 .bf16),
    List.mem_cons_of_mem _ (List.mem_cons_of_mem _ (List.mem_cons_of_mem _ (List.mem_singleton.mpr rfl))),
    View.mem_set_unit_zero hz2 inb_S144x2880_S144x2880_0_0 y⟩

end Cert.KernelIdeal.Gate
-- ==== Proof.Ideal.GateA.lean ====
module

public import proofs.«01_k».proof.Proof.Gen.KernelIdeal.Loops
public import proofs.«01_k».proof.Proof.Gen.KernelIdeal.Points
public import proofs.«01_k».proof.Proof.Ideal.GateRows

/-! The gate's body at the first grid point: it splits the weights and resets the running sum. -/

@[expose] public section
set_option maxRecDepth 16384
noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleA (hA : first i) (hB : reset i) (E : Set ℕ) (x2 : Vec F S1x2880x512 .bf16) (x3 : Vec F S45x2880 .f32) (x4 : Vec F S45x1 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 (split x3)) ∗ owns (c : Thread nD τ) arg6 fullShare (outC x2 x4 (split x3) k0_pay11)
          ∗ owns (c : Thread nD τ) arg7 fullShare (split x3) ∗ owns (c : Thread nD τ) arg8 fullShare (next x2 x4 (split x3) k0_pay11)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  sl_exec
  sl_step
  have hv1024 : tripleA.sl.v1024 c arg3 f3 = k0_pay8 (arg3.view.read (Elt F) f3) := by
    have h : tripleA.sl.v1024 c arg3 f3 = k0_pay8 (View.ld (arg3.view.read (Elt F) f3) (Rect.unit (s := S45x2880) ![0, 0] S45x2880.size inb_S45x2880_S45x2880_0_0)) := rfl
    rw [h, View.ld_unit_zero hz2]
  have hv1027 : tripleA.sl.v1027 c arg3 f3 = k0_pay9 (arg3.view.read (Elt F) f3) := by
    have h : tripleA.sl.v1027 c arg3 f3 = k0_pay9 (View.ld (arg3.view.read (Elt F) f3) (Rect.unit (s := S45x2880) ![0, 0] S45x2880.size inb_S45x2880_S45x2880_0_0)) := rfl
    rw [h, View.ld_unit_zero hz2]
  have hv1030 : tripleA.sl.v1030 c arg3 f3 = k0_pay10 (arg3.view.read (Elt F) f3) := by
    have h : tripleA.sl.v1030 c arg3 f3 = k0_pay10 (View.ld (arg3.view.read (Elt F) f3) (Rect.unit (s := S45x2880) ![0, 0] S45x2880.size inb_S45x2880_S45x2880_0_0)) := rfl
    rw [h, View.ld_unit_zero hz2]
  have e2 : tripleA.sl.H7_2 c arg3 arg7 f3 = w3b (arg3.view.read (Elt F) f3) := by
    unfold tripleA.sl.H7_2 tripleA.sl.old
    rw [View.readCov_eq_canon', hv1024]
    rfl
  have e3 : tripleA.sl.H7_3 c arg3 arg7 f3 = w3c (arg3.view.read (Elt F) f3) := by
    unfold tripleA.sl.H7_3 tripleA.sl.old_1
    rw [e2, View.readCov_eq_canon', hv1027]
    rfl
  have e4 : tripleA.sl.H7_4 c arg3 arg7 f3 = w3d (arg3.view.read (Elt F) f3) := by
    unfold tripleA.sl.H7_4 tripleA.sl.old_2
    rw [e3, View.readCov_eq_canon', hv1030]
    rfl
  have h8 : tripleA.sl.v8 c arg3 arg7 f3 = split (arg3.view.read (Elt F) f3) := by
    unfold tripleA.sl.v8
    rw [e4, View.readCov_eq_canon']
    exact View.ld_unit_zero hz2 inb_S144x2880_S144x2880_0_0 _
  have ev : tripleA.sl.v21 c arg2 arg3 arg4 arg7 f2 f3 f4 = (fv (arg2.view.read (Elt F) f2) (arg4.view.read (Elt F) f4) (split (arg3.view.read (Elt F) f3))) := by
    have h : tripleA.sl.v21 c arg2 arg3 arg4 arg7 f2 f3 f4 = k0_pay12 (tripleA.sl.v8 c arg3 arg7 f3) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, h8, View.ld_unit_zero hz3, View.ld_unit_zero hz2]
    rfl
  have eb : tripleA.sl.v233 c arg8 = (k0_pay11 (F := F)) := by
    unfold tripleA.sl.v233 tripleA.sl.H8_1
    rw [View.readCov_unit_zero _ hz2]
    rfl
  have e0 : tripleA.sl.v242 c arg2 arg3 arg4 arg7 arg8 f2 f3 f4 = addf (pre0 (fv (arg2.view.read (Elt F) f2) (arg4.view.read (Elt F) f4) (split (arg3.view.read (Elt F) f3)))) (k0_pay11 (F := F)) := by rw [← ev, ← eb]; rfl
  have e1 : tripleA.sl.v435 c arg2 arg3 arg4 arg7 arg8 f2 f3 f4 = addf (pre1 (fv (arg2.view.read (Elt F) f2) (arg4.view.read (Elt F) f4) (split (arg3.view.read (Elt F) f3)))) (base1 (fv (arg2.view.read (Elt F) f2) (arg4.view.read (Elt F) f4) (split (arg3.view.read (Elt F) f3))) (k0_pay11 (F := F))) := by rw [← ev, ← eb]; rfl
  have e2' : tripleA.sl.v628 c arg2 arg3 arg4 arg7 arg8 f2 f3 f4 = addf (pre2 (fv (arg2.view.read (Elt F) f2) (arg4.view.read (Elt F) f4) (split (arg3.view.read (Elt F) f3)))) (base2 (fv (arg2.view.read (Elt F) f2) (arg4.view.read (Elt F) f4) (split (arg3.view.read (Elt F) f3))) (k0_pay11 (F := F))) := by rw [← ev, ← eb]; rfl
  have e3' : tripleA.sl.v821 c arg2 arg3 arg4 arg7 arg8 f2 f3 f4 = addf (pre3 (fv (arg2.view.read (Elt F) f2) (arg4.view.read (Elt F) f4) (split (arg3.view.read (Elt F) f3)))) (base3 (fv (arg2.view.read (Elt F) f2) (arg4.view.read (Elt F) f4) (split (arg3.view.read (Elt F) f3))) (k0_pay11 (F := F))) := by rw [← ev, ← eb]; rfl
  have e8 : k0_pay2 (tripleA.sl.v812 c arg2 arg3 arg4 arg7 arg8 f2 f3 f4) (tripleA.sl.v820 c arg2 arg3 arg4 arg7 f2 f3 f4) = next (arg2.view.read (Elt F) f2) (arg4.view.read (Elt F) f4) (split (arg3.view.read (Elt F) f3)) (k0_pay11 (F := F)) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleA.sl.v21 c arg2 arg3 arg4 arg7 f2 f3 f4) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleA.sl.v242 c arg2 arg3 arg4 arg7 arg8 f2 f3 f4) (tripleA.sl.v435 c arg2 arg3 arg4 arg7 arg8 f2 f3 f4) (tripleA.sl.v628 c arg2 arg3 arg4 arg7 arg8 f2 f3 f4) (tripleA.sl.v821 c arg2 arg3 arg4 arg7 arg8 f2 f3 f4) _ ?_ ?_ ?_ x <;> decide, ?_⟩)
    iterate 45 (refine List.forall_mem_cons.mpr ⟨fun x => by refine row_256 (tripleA.sl.v242 c arg2 arg3 arg4 arg7 arg8 f2 f3 f4) (tripleA.sl.v435 c arg2 arg3 arg4 arg7 arg8 f2 f3 f4) (tripleA.sl.v628 c arg2 arg3 arg4 arg7 arg8 f2 f3 f4) (tripleA.sl.v821 c arg2 arg3 arg4 arg7 arg8 f2 f3 f4) _ ?_ ?_ ?_ x <;> decide, ?_⟩)
    iterate 45 (refine List.forall_mem_cons.mpr ⟨fun x => by refine row_128 (tripleA.sl.v242 c arg2 arg3 arg4 arg7 arg8 f2 f3 f4) (tripleA.sl.v435 c arg2 arg3 arg4 arg7 arg8 f2 f3 f4) (tripleA.sl.v628 c arg2 arg3 arg4 arg7 arg8 f2 f3 f4) (tripleA.sl.v821 c arg2 arg3 arg4 arg7 arg8 f2 f3 f4) _ ?_ ?_ ?_ x <;> decide, ?_⟩)
    iterate 45 (refine List.forall_mem_cons.mpr ⟨fun x => by refine row_0 (tripleA.sl.v242 c arg2 arg3 arg4 arg7 arg8 f2 f3 f4) (tripleA.sl.v435 c arg2 arg3 arg4 arg7 arg8 f2 f3 f4) (tripleA.sl.v628 c arg2 arg3 arg4 arg7 arg8 f2 f3 f4) (tripleA.sl.v821 c arg2 arg3 arg4 arg7 arg8 f2 f3 f4) _ ?_ ?_ ?_ x <;> decide, ?_⟩)
    exact List.forall_mem_nil _
  isplitl [H7]
  · iexists _; isplitr
    swap; · iexact H7
    ipureintro
    rw [e4]
    exact View.read_writes_eq_canon _ _ _ (w3d_cover _)
  iexists _; isplitr
  swap; · iexact H8
  ipureintro
  rw [read_whole _ _ hz2, e8]

end Cert.KernelIdeal.Gate
-- ==== Proof.Ideal.GateB.lean ====
module

public import proofs.«01_k».proof.Proof.Gen.KernelIdeal.Loops
public import proofs.«01_k».proof.Proof.Gen.KernelIdeal.Points
public import proofs.«01_k».proof.Proof.Ideal.GateRows

/-! The gate's body at the first point of a later batch: it resets the running sum. -/

@[expose] public section
set_option maxRecDepth 16384
noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleB (hA : ¬ first i) (hB : reset i) (E : Set ℕ) (x2 : Vec F S1x2880x512 .bf16) (x3 : Vec F S45x2880 .f32) (x4 : Vec F S45x1 .f32) (x7 : Vec F S144x2880 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare x7 ∗ (∃ d, owns (c : Thread nD τ) arg8 fullShare d)
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 x7) ∗ owns (c : Thread nD τ) arg6 fullShare (outC x2 x4 x7 k0_pay11)
          ∗ owns (c : Thread nD τ) arg7 fullShare x7 ∗ owns (c : Thread nD τ) arg8 fullShare (next x2 x4 x7 k0_pay11)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, Hk⟩
  subst hf2 hf3 hf4 hf7
  sl_exec
  sl_step
  have ev : tripleB.sl.v21 c arg2 arg4 arg7 f2 f4 f7 = (fv (arg2.view.read (Elt F) f2) (arg4.view.read (Elt F) f4) (arg7.view.read (Elt F) f7)) := by
    have h : tripleB.sl.v21 c arg2 arg4 arg7 f2 f4 f7 = k0_pay12 (View.ld (arg7.view.read (Elt F) f7) (Rect.unit (s := S144x2880) ![0, 0] S144x2880.size inb_S144x2880_S144x2880_0_0)) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, View.ld_unit_zero hz2, View.ld_unit_zero hz3, View.ld_unit_zero hz2]
    rfl
  have eb : tripleB.sl.v233 c arg8 = (k0_pay11 (F := F)) := by
    unfold tripleB.sl.v233 tripleB.sl.H8_1
    rw [View.readCov_unit_zero _ hz2]
    rfl
  have e0 : tripleB.sl.v242 c arg2 arg4 arg7 arg8 f2 f4 f7 = addf (pre0 (fv (arg2.view.read (Elt F) f2) (arg4.view.read (Elt F) f4) (arg7.view.read (Elt F) f7))) (k0_pay11 (F := F)) := by rw [← ev, ← eb]; rfl
  have e1 : tripleB.sl.v435 c arg2 arg4 arg7 arg8 f2 f4 f7 = addf (pre1 (fv (arg2.view.read (Elt F) f2) (arg4.view.read (Elt F) f4) (arg7.view.read (Elt F) f7))) (base1 (fv (arg2.view.read (Elt F) f2) (arg4.view.read (Elt F) f4) (arg7.view.read (Elt F) f7)) (k0_pay11 (F := F))) := by rw [← ev, ← eb]; rfl
  have e2' : tripleB.sl.v628 c arg2 arg4 arg7 arg8 f2 f4 f7 = addf (pre2 (fv (arg2.view.read (Elt F) f2) (arg4.view.read (Elt F) f4) (arg7.view.read (Elt F) f7))) (base2 (fv (arg2.view.read (Elt F) f2) (arg4.view.read (Elt F) f4) (arg7.view.read (Elt F) f7)) (k0_pay11 (F := F))) := by rw [← ev, ← eb]; rfl
  have e3' : tripleB.sl.v821 c arg2 arg4 arg7 arg8 f2 f4 f7 = addf (pre3 (fv (arg2.view.read (Elt F) f2) (arg4.view.read (Elt F) f4) (arg7.view.read (Elt F) f7))) (base3 (fv (arg2.view.read (Elt F) f2) (arg4.view.read (Elt F) f4) (arg7.view.read (Elt F) f7)) (k0_pay11 (F := F))) := by rw [← ev, ← eb]; rfl
  have e8 : k0_pay2 (tripleB.sl.v812 c arg2 arg4 arg7 arg8 f2 f4 f7) (tripleB.sl.v820 c arg2 arg4 arg7 f2 f4 f7) = next (arg2.view.read (Elt F) f2) (arg4.view.read (Elt F) f4) (arg7.view.read (Elt F) f7) (k0_pay11 (F := F)) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleB.sl.v21 c arg2 arg4 arg7 f2 f4 f7) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleB.sl.v242 c arg2 arg4 arg7 arg8 f2 f4 f7) (tripleB.sl.v435 c arg2 arg4 arg7 arg8 f2 f4 f7) (tripleB.sl.v628 c arg2 arg4 arg7 arg8 f2 f4 f7) (tripleB.sl.v821 c arg2 arg4 arg7 arg8 f2 f4 f7) _ ?_ ?_ ?_ x <;> decide, ?_⟩)
    iterate 45 (refine List.forall_mem_cons.mpr ⟨fun x => by refine row_256 (tripleB.sl.v242 c arg2 arg4 arg7 arg8 f2 f4 f7) (tripleB.sl.v435 c arg2 arg4 arg7 arg8 f2 f4 f7) (tripleB.sl.v628 c arg2 arg4 arg7 arg8 f2 f4 f7) (tripleB.sl.v821 c arg2 arg4 arg7 arg8 f2 f4 f7) _ ?_ ?_ ?_ x <;> decide, ?_⟩)
    iterate 45 (refine List.forall_mem_cons.mpr ⟨fun x => by refine row_128 (tripleB.sl.v242 c arg2 arg4 arg7 arg8 f2 f4 f7) (tripleB.sl.v435 c arg2 arg4 arg7 arg8 f2 f4 f7) (tripleB.sl.v628 c arg2 arg4 arg7 arg8 f2 f4 f7) (tripleB.sl.v821 c arg2 arg4 arg7 arg8 f2 f4 f7) _ ?_ ?_ ?_ x <;> decide, ?_⟩)
    iterate 45 (refine List.forall_mem_cons.mpr ⟨fun x => by refine row_0 (tripleB.sl.v242 c arg2 arg4 arg7 arg8 f2 f4 f7) (tripleB.sl.v435 c arg2 arg4 arg7 arg8 f2 f4 f7) (tripleB.sl.v628 c arg2 arg4 arg7 arg8 f2 f4 f7) (tripleB.sl.v821 c arg2 arg4 arg7 arg8 f2 f4 f7) _ ?_ ?_ ?_ x <;> decide, ?_⟩)
    exact List.forall_mem_nil _
  isplitl [H7]
  · iexists _; isplitr
    swap; · iexact H7
    ipureintro
    rfl
  iexists _; isplitr
  swap; · iexact H8
  ipureintro
  rw [read_whole _ _ hz2, e8]

end Cert.KernelIdeal.Gate
-- ==== Proof.Ideal.GateC.lean ====
module

public import proofs.«01_k».proof.Proof.Gen.KernelIdeal.Loops
public import proofs.«01_k».proof.Proof.Gen.KernelIdeal.Points
public import proofs.«01_k».proof.Proof.Ideal.GateRows

/-! The gate's body at a later point of a batch: it carries both on. -/

@[expose] public section
set_option maxRecDepth 16384
noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]
variable (c : Dev nD) (i : grid0.Coords)
variable (arg2 : Memref sig .tc .vmem S1x2880x512 .bf16) (harg2 : arg2.IsWhole) (arg3 : Memref sig .tc .vmem S45x2880 .f32) (harg3 : arg3.IsWhole)
variable (arg4 : Memref sig .tc .vmem S45x1 .f32) (harg4 : arg4.IsWhole) (arg5 : Memref sig .tc .vmem S1x45x1x512 .f32) (harg5 : arg5.IsWhole)
variable (arg6 : Memref sig .tc .vmem S1x45x1x512 .f32) (harg6 : arg6.IsWhole) (arg7 : Memref sig .tc .vmem S144x2880 .bf16) (harg7 : arg7.IsWhole)
variable (arg8 : Memref sig .tc .vmem S45x128 .f32) (harg8 : arg8.IsWhole)

local notation "𝕄" => MT nD τ sig Unit (Elt F) ℕ (UR sig nD τ) ℕ

set_option maxHeartbeats 8000000 in
/-- The point reads its blocks and what the earlier points left, and leaves the logits, their running sums, and what the
    next point needs. -/
theorem tripleC (hA : ¬ first i) (hB : ¬ reset i) (E : Set ℕ) (x2 : Vec F S1x2880x512 .bf16) (x3 : Vec F S45x2880 .f32) (x4 : Vec F S45x1 .f32) (x7 : Vec F S144x2880 .bf16) (x8 : Vec F S45x128 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare x7 ∗ owns (c : Thread nD τ) arg8 fullShare x8
        ∗ (iprop(owns (c : Thread nD τ) arg2 fullShare x2 ∗ owns (c : Thread nD τ) arg3 fullShare x3 ∗ owns (c : Thread nD τ) arg4 fullShare x4
          ∗ owns (c : Thread nD τ) arg5 fullShare (outF x2 x4 x7) ∗ owns (c : Thread nD τ) arg6 fullShare (outC x2 x4 x7 x8)
          ∗ owns (c : Thread nD τ) arg7 fullShare x7 ∗ owns (c : Thread nD τ) arg8 fullShare (next x2 x4 x7 x8)) -∗ K ⟨⟩))
      ⊢ wp frame (wpE (defs₀ (F := F)) Variants.none c none) E (cc0_gate i arg2 harg2 arg3 harg3 arg4 harg4 arg5 harg5 arg6 harg6 arg7 harg7 arg8 harg8) K := by
  simp only [cc0_gate_eq_skeleton]; unfold cc0_gate_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf2 hf3 hf4 hf7 hf8
  sl_exec
  sl_step
  have ev : tripleC.sl.v21 c arg2 arg4 arg7 f2 f4 f7 = (fv (arg2.view.read (Elt F) f2) (arg4.view.read (Elt F) f4) (arg7.view.read (Elt F) f7)) := by
    have h : tripleC.sl.v21 c arg2 arg4 arg7 f2 f4 f7 = k0_pay12 (View.ld (arg7.view.read (Elt F) f7) (Rect.unit (s := S144x2880) ![0, 0] S144x2880.size inb_S144x2880_S144x2880_0_0)) (View.ld (arg2.view.read (Elt F) f2) (Rect.unit (s := S1x2880x512) ![0, 0, 0] S1x2880x512.size inb_S1x2880x512_S1x2880x512_0_0_0)) (View.ld (arg4.view.read (Elt F) f4) (Rect.unit (s := S45x1) ![0, 0] S45x1.size inb_S45x1_S45x1_0_0)) := rfl
    rw [h, View.ld_unit_zero hz2, View.ld_unit_zero hz3, View.ld_unit_zero hz2]
    rfl
  have eb : View.ld (arg8.view.read (Elt F) f8) (Rect.unit (s := S45x128) ![0, 0] S45x128.size inb_S45x128_S45x128_0_0) = (arg8.view.read (Elt F) f8) := View.ld_unit_zero hz2 _ _
  have e0 : tripleC.sl.v242 c arg2 arg4 arg7 arg8 f2 f4 f7 f8 = addf (pre0 (fv (arg2.view.read (Elt F) f2) (arg4.view.read (Elt F) f4) (arg7.view.read (Elt F) f7))) (arg8.view.read (Elt F) f8) := by rw [← ev, ← eb]; rfl
  have e1 : tripleC.sl.v435 c arg2 arg4 arg7 arg8 f2 f4 f7 f8 = addf (pre1 (fv (arg2.view.read (Elt F) f2) (arg4.view.read (Elt F) f4) (arg7.view.read (Elt F) f7))) (base1 (fv (arg2.view.read (Elt F) f2) (arg4.view.read (Elt F) f4) (arg7.view.read (Elt F) f7)) (arg8.view.read (Elt F) f8)) := by rw [← ev, ← eb]; rfl
  have e2' : tripleC.sl.v628 c arg2 arg4 arg7 arg8 f2 f4 f7 f8 = addf (pre2 (fv (arg2.view.read (Elt F) f2) (arg4.view.read (Elt F) f4) (arg7.view.read (Elt F) f7))) (base2 (fv (arg2.view.read (Elt F) f2) (arg4.view.read (Elt F) f4) (arg7.view.read (Elt F) f7)) (arg8.view.read (Elt F) f8)) := by rw [← ev, ← eb]; rfl
  have e3' : tripleC.sl.v821 c arg2 arg4 arg7 arg8 f2 f4 f7 f8 = addf (pre3 (fv (arg2.view.read (Elt F) f2) (arg4.view.read (Elt F) f4) (arg7.view.read (Elt F) f7))) (base3 (fv (arg2.view.read (Elt F) f2) (arg4.view.read (Elt F) f4) (arg7.view.read (Elt F) f7)) (arg8.view.read (Elt F) f8)) := by rw [← ev, ← eb]; rfl
  have e8 : k0_pay2 (tripleC.sl.v812 c arg2 arg4 arg7 arg8 f2 f4 f7 f8) (tripleC.sl.v820 c arg2 arg4 arg7 f2 f4 f7) = next (arg2.view.read (Elt F) f2) (arg4.view.read (Elt F) f4) (arg7.view.read (Elt F) f7) (arg8.view.read (Elt F) f8) := by
    unfold next; rw [← ev, ← eb]; rfl
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold outF; rw [← ev]
    refine read_rows _ _ _ _ ![1, 1, 1, 512] (by sl_kernel_rfl) ?_
    iterate 45 (refine List.forall_mem_cons.mpr ⟨fun x => by refine row512 (tripleC.sl.v21 c arg2 arg4 arg7 f2 f4 f7) _ ?_ ?_ ?_ x <;> decide, ?_⟩)
    exact List.forall_mem_nil _
  isplitl [H6]
  · iexists _; isplitr
    swap; · iexact H6
    ipureintro
    unfold outC; rw [← e0, ← e1, ← e2', ← e3']
    refine read_rows _ _ _ _ ![1, 1, 1, 128] (by sl_kernel_rfl) ?_
    iterate 45 (refine List.forall_mem_cons.mpr ⟨fun x => by refine row_384 (tripleC.sl.v242 c arg2 arg4 arg7 arg8 f2 f4 f7 f8) (tripleC.sl.v435 c arg2 arg4 arg7 arg8 f2 f4 f7 f8) (tripleC.sl.v628 c arg2 arg4 arg7 arg8 f2 f4 f7 f8) (tripleC.sl.v821 c arg2 arg4 arg7 arg8 f2 f4 f7 f8) _ ?_ ?_ ?_ x <;> decide, ?_⟩)
    iterate 45 (refine List.forall_mem_cons.mpr ⟨fun x => by refine row_256 (tripleC.sl.v242 c arg2 arg4 arg7 arg8 f2 f4 f7 f8) (tripleC.sl.v435 c arg2 arg4 arg7 arg8 f2 f4 f7 f8) (tripleC.sl.v628 c arg2 arg4 arg7 arg8 f2 f4 f7 f8) (tripleC.sl.v821 c arg2 arg4 arg7 arg8 f2 f4 f7 f8) _ ?_ ?_ ?_ x <;> decide, ?_⟩)
    iterate 45 (refine List.forall_mem_cons.mpr ⟨fun x => by refine row_128 (tripleC.sl.v242 c arg2 arg4 arg7 arg8 f2 f4 f7 f8) (tripleC.sl.v435 c arg2 arg4 arg7 arg8 f2 f4 f7 f8) (tripleC.sl.v628 c arg2 arg4 arg7 arg8 f2 f4 f7 f8) (tripleC.sl.v821 c arg2 arg4 arg7 arg8 f2 f4 f7 f8) _ ?_ ?_ ?_ x <;> decide, ?_⟩)
    iterate 45 (refine List.forall_mem_cons.mpr ⟨fun x => by refine row_0 (tripleC.sl.v242 c arg2 arg4 arg7 arg8 f2 f4 f7 f8) (tripleC.sl.v435 c arg2 arg4 arg7 arg8 f2 f4 f7 f8) (tripleC.sl.v628 c arg2 arg4 arg7 arg8 f2 f4 f7 f8) (tripleC.sl.v821 c arg2 arg4 arg7 arg8 f2 f4 f7 f8) _ ?_ ?_ ?_ x <;> decide, ?_⟩)
    exact List.forall_mem_nil _
  isplitl [H7]
  · iexists _; isplitr
    swap; · iexact H7
    ipureintro
    rfl
  iexists _; isplitr
  swap; · iexact H8
  ipureintro
  rw [read_whole _ _ hz2, e8]

end Cert.KernelIdeal.Gate
-- ==== Proof.Ideal.GateRun.lean ====
module

public import proofs.«01_k».proof.Proof.Ideal.GateA
public import proofs.«01_k».proof.Proof.Ideal.GateB
public import proofs.«01_k».proof.Proof.Ideal.GateC
public import proofs.«01_k».proof.Proof.Gen.KernelIdeal.Launch
public import Idealize.ShloMosaic.Lib.Pipeline.Frame
public import Idealize.ShloMosaic.Lib.Pipeline.FrameBody

/-! The gate call's points: what each window and each scratch buffer holds after the body, and the body at every point. -/

@[expose] public section
set_option maxRecDepth 16384
noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

theorem one_lt : 0 < cfg0.N := by rw [show cfg0.N = grid0.N from rfl, N_0]; decide
/-- The split weights, as the first point leaves them. -/
def ws (c : Dev nD) : Vec F S144x2880 .bf16 := split (iblk W c 1 ⟨0, one_lt⟩)
/-- The same point numbered by a natural number. -/
def pt (n : ℕ) : Fin cfg0.N := ⟨n % 4, by rw [show cfg0.N = grid0.N from rfl, N_0]; exact Nat.mod_lt _ (by norm_num)⟩
/-- The running sum on entering point `n`: zero at the first half of a batch, else what the first half left. -/
def cin (c : Dev nD) (n : ℕ) : Vec F S45x128 .f32 :=
  if n % 2 = 0 then k0_pay11 else next (iblk W c 0 (pt (n - 1))) (iblk W c 2 (pt (n - 1))) (ws W c) k0_pay11
/-- The running sum on leaving point `n`. -/
def cout (c : Dev nD) (n : ℕ) : Vec F S45x128 .f32 := next (iblk W c 0 (pt n)) (iblk W c 2 (pt n)) (ws W c) (cin W c n)

/-- The scoped buffers that the gate does not use. -/
def rest (c : Dev nD) : sProp 𝕄 :=
  iprop((∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The gate's two scratch buffers before point `k`. -/
def scr (c : Dev nD) (k : ℕ) : sProp 𝕄 :=
  if k = 0 then iprop((∃ d, owns (c : Thread nD τ) (Memref.whole cc0_scratch0) fullShare d) ∗ (∃ d, owns (c : Thread nD τ) (Memref.whole cc0_scratch1) fullShare d))
  else iprop(owns (c : Thread nD τ) (Memref.whole cc0_scratch0) fullShare (ws W c) ∗ owns (c : Thread nD τ) (Memref.whole cc0_scratch1) fullShare (cout W c (k - 1)))

/-- After the body each input's buffer is at its block and each output's at what the body computes from the blocks and the
    running sum; between points the scratch buffers hold the split weights and the running sum. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => outF (iblk W c 0 t) (iblk W c 2 t) (ws W c)
    | ⟨4, _⟩ => outC (iblk W c 0 t) (iblk W c 2 t) (ws W c) (cin W c t.val)
  Φ k := iprop(scr W c k.val ∗ rest c ∗ ∃ r, prngReg c r)
  q _ := fullShare
  owed _ := 0

theorem A_eq (c : Dev nD) (w : Fin cfg0.W) : (dats W c).A w = W c (Proc.devRef .tc (Pipeline.arrRef spec0 w)) := by
  dsimp only [dats]

theorem after_0 (c : Dev nD) (t : Fin cfg0.N) : (dats W c).after 0 t = iblk W c 0 t := by dsimp only [dats]
theorem after_1 (c : Dev nD) (t : Fin cfg0.N) : (dats W c).after 1 t = iblk W c 1 t := by dsimp only [dats]
theorem after_2 (c : Dev nD) (t : Fin cfg0.N) : (dats W c).after 2 t = iblk W c 2 t := by dsimp only [dats]
theorem after_3 (c : Dev nD) (t : Fin cfg0.N) : (dats W c).after 3 t = outF (iblk W c 0 t) (iblk W c 2 t) (ws W c) := by dsimp only [dats]
theorem after_4 (c : Dev nD) (t : Fin cfg0.N) : (dats W c).after 4 t = outC (iblk W c 0 t) (iblk W c 2 t) (ws W c) (cin W c t.val) := by dsimp only [dats]

/-- Each input's current buffer holds its block at every point, fetched there or not. -/
theorem before_0 (c : Dev nD) (t : Fin cfg0.N) (d) : (dats W c).before 0 t d = iblk W c 0 t :=
  ((dats W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats W c).before 1 t d = iblk W c 1 t :=
  ((dats W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats W c).before 2 t d = iblk W c 2 t :=
  ((dats W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats W c).Φ t.castSucc ∗ (dats W c).owesAt () t.castSucc
    ∗ (∃ d, owns (c : Thread nD τ) (st0_0 t) fullShare ((dats W c).before 0 t d))
    ∗ (∃ d, owns (c : Thread nD τ) (st0_1 t) fullShare ((dats W c).before 1 t d))
    ∗ (∃ d, owns (c : Thread nD τ) (st0_2 t) fullShare ((dats W c).before 2 t d))
    ∗ (∃ d, owns (c : Thread nD τ) (st0_3 t) fullShare ((dats W c).before 3 t d))
    ∗ (∃ d, owns (c : Thread nD τ) (st0_4 t) fullShare ((dats W c).before 4 t d)))

/-- and what it returns. -/
def bodyPost (c : Dev nD) (t : Fin cfg0.N) : sProp 𝕄 :=
  iprop((dats W c).Φ t.succ ∗ (dats W c).owesAt () t.succ
    ∗ owns (c : Thread nD τ) (st0_0 t) fullShare ((dats W c).after 0 t)
    ∗ owns (c : Thread nD τ) (st0_1 t) fullShare ((dats W c).after 1 t)
    ∗ owns (c : Thread nD τ) (st0_2 t) fullShare ((dats W c).after 2 t)
    ∗ owns (c : Thread nD τ) (st0_3 t) fullShare ((dats W c).after 3 t)
    ∗ owns (c : Thread nD τ) (st0_4 t) fullShare ((dats W c).after 4 t))

theorem Φ_eq (c : Dev nD) (k : Fin (cfg0.N + 1)) : (dats W c).Φ k = iprop(scr W c k.val ∗ rest c ∗ ∃ r, prngReg c r) := rfl

theorem scr_zero (c : Dev nD) : scr W c 0 = iprop((∃ d, owns (c : Thread nD τ) (Memref.whole cc0_scratch0) fullShare d) ∗ (∃ d, owns (c : Thread nD τ) (Memref.whole cc0_scratch1) fullShare d)) := if_pos rfl
theorem scr_succ (c : Dev nD) (k : ℕ) : scr W c (k + 1) = iprop(owns (c : Thread nD τ) (Memref.whole cc0_scratch0) fullShare (ws W c) ∗ owns (c : Thread nD τ) (Memref.whole cc0_scratch1) fullShare (cout W c k)) := if_neg (Nat.succ_ne_zero k)

theorem pt_val (t : Fin cfg0.N) : pt t.val = t := by
  have h : t.val < 4 := lt_of_lt_of_eq t.isLt N_0
  exact Fin.ext (Nat.mod_eq_of_lt h)

/-- The weights' block is the whole array, so it does not depend on the point. -/
theorem cin_odd (c : Dev nD) (n : ℕ) (h : n % 2 = 0) : cin W c (n + 1) = cout W c n := by
  unfold cout cin
  rw [if_neg (by omega), if_pos h, Nat.add_sub_cancel]

theorem first_0 : first (grid0.coords t0_0) := by decide
theorem first_1 : ¬ first (grid0.coords t0_1) := by decide
theorem first_2 : ¬ first (grid0.coords t0_2) := by decide
theorem first_3 : ¬ first (grid0.coords t0_3) := by decide
theorem reset_0 : reset (grid0.coords t0_0) := by decide
theorem reset_1 : ¬ reset (grid0.coords t0_1) := by decide
theorem reset_2 : reset (grid0.coords t0_2) := by decide
theorem reset_3 : ¬ reset (grid0.coords t0_3) := by decide

set_option maxHeartbeats 1600000 in
theorem body_first (c : Dev nD) (t : Fin cfg0.N) (hA : first (grid0.coords t)) (hB : reset (grid0.coords t)) (h0 : t.val = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_zero, cout, show pt 0 = t from by rw [← h0, pt_val], show cin W c 0 = k0_pay11 from if_pos rfl, show ws W c = split (iblk W c 1 t) from by unfold ws; rw [show t = ⟨0, one_lt⟩ from Fin.ext h0]]
  iintro ⟨⟨⟨S0, S1⟩, Hr, Hp⟩, Ho, ⟨%d0, H0⟩, ⟨%d1, H1⟩, ⟨%d2, H2⟩, ⟨%d3, H3⟩, ⟨%d4, H4⟩⟩
  iapply (tripleA c (grid0.coords t) _ _ _ _ _ _ _ _ _ _ _ _ _ _ hA hB Set.univ (iblk W c 0 t) (iblk W c 1 t) (iblk W c 2 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

set_option maxHeartbeats 1600000 in
theorem body_reset (c : Dev nD) (t : Fin cfg0.N) (hA : ¬ first (grid0.coords t)) (hB : reset (grid0.coords t)) (k : ℕ) (h0 : t.val = k + 1) (he : (k + 1) % 2 = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_succ, cout.eq_1 W c (k + 1), show pt (k + 1) = t from by rw [← h0, pt_val], show cin W c (k + 1) = k0_pay11 from if_pos he]
  iintro ⟨⟨⟨S0, S1⟩, Hr, Hp⟩, Ho, ⟨%d0, H0⟩, ⟨%d1, H1⟩, ⟨%d2, H2⟩, ⟨%d3, H3⟩, ⟨%d4, H4⟩⟩
  iapply (tripleB c (grid0.coords t) _ _ _ _ _ _ _ _ _ _ _ _ _ _ hA hB Set.univ (iblk W c 0 t) (iblk W c 1 t) (iblk W c 2 t) (ws W c) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexists _; iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

set_option maxHeartbeats 1600000 in
theorem body_next (c : Dev nD) (t : Fin cfg0.N) (hA : ¬ first (grid0.coords t)) (hB : ¬ reset (grid0.coords t)) (k : ℕ) (h0 : t.val = k + 1) (he : k % 2 = 0) :
    bodyPre W c t ⊢ wp frame (wpE (defs₀ (F := F)) Variants.none c none) Set.univ (bodyAt0 t) (fun _ => bodyPost W c t) := by
  unfold bodyPre bodyPost bodyAt0
  simp only [before_0, before_1, before_2]
  rw [Φ_eq, Φ_eq, show (dats W c).owesAt () t.succ = (dats W c).owesAt () t.castSucc from rfl,
    after_0, after_1, after_2, after_3, after_4, Fin.val_succ, Fin.val_castSucc, scr_succ, h0, scr_succ, cout.eq_1 W c (k + 1), show pt (k + 1) = t from by rw [← h0, pt_val], cin_odd W c k he]
  iintro ⟨⟨⟨S0, S1⟩, Hr, Hp⟩, Ho, ⟨%d0, H0⟩, ⟨%d1, H1⟩, ⟨%d2, H2⟩, ⟨%d3, H3⟩, ⟨%d4, H4⟩⟩
  iapply (tripleC c (grid0.coords t) _ _ _ _ _ _ _ _ _ _ _ _ _ _ hA hB Set.univ (iblk W c 0 t) (iblk W c 1 t) (iblk W c 2 t) (ws W c) (cout W c k) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  iintro ⟨H0, H1, H2, H3, H4, S0, S1⟩
  isplitl [Hr Hp S0 S1]
  · isplitl [S0 S1]
    · isplitl [S0]; · iexact S0
      iexact S1
    isplitl [Hr]; · iexact Hr
    iexact Hp
  isplitl [Ho]; · iexact Ho
  isplitl [H0]; · iexact H0
  isplitl [H1]; · iexact H1
  isplitl [H2]; · iexact H2
  isplitl [H3]; · iexact H3
  iexact H4

theorem sound_body (c : Dev nD) (t : Fin cfg0.N) :
    bodyPre W c t ⊢ wp frame (wpE (defs₀ (F := F)) Variants.none c none) Set.univ (bodyAt0 t) (fun _ => bodyPost W c t) := by
  rcases fin_N0 t with rfl | rfl | rfl | rfl
  · exact body_first W c _ first_0 reset_0 rfl
  · exact body_next W c _ first_1 reset_1 0 rfl rfl
  · exact body_reset W c _ first_2 reset_2 1 rfl rfl
  · exact body_next W c _ first_3 reset_3 2 rfl rfl

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

/-- The region hands the invariant its scratch buffers at anything, -/
theorem hin (c : Dev nD) : iprop(Pipeline.scopedRest spec0 c ∗ ∃ r, prngReg c r) ⊢ ((dats W c).Φ 0 : sProp 𝕄) := by
  rw [Φ_eq, show ((0 : Fin (cfg0.N + 1)) : ℕ) = 0 from rfl, scr_zero, scopedRest0_eq]
  unfold rest
  iintro ⟨⟨⟨%f0, S0⟩, ⟨%f1, S1⟩, Hr⟩, Hp⟩
  isplitl [S0 S1]
  · isplitl [S0]
    · iexists f0; rw [owns_whole]; iexact S0
    iexists f1; rw [owns_whole]; iexact S1
  isplitl [Hr]; · iexact Hr
  iexact Hp

/-- and gets them back. -/
theorem hout (c : Dev nD) : ((dats W c).Φ (Fin.last cfg0.N) : sProp 𝕄) ⊢ iprop(Pipeline.scopedRest spec0 c ∗ ∃ r, prngReg c r) := by
  rw [Φ_eq, show ((Fin.last cfg0.N : Fin (cfg0.N + 1)) : ℕ) = 3 + 1 from N_0, scr_succ, scopedRest0_eq, owns_whole, owns_whole]
  unfold rest
  iintro ⟨⟨S0, S1⟩, Hr, Hp⟩
  isplitr [Hp]
  swap; · iexact Hp
  isplitl [S0]; · iexists _; iexact S0
  isplitl [S1]; · iexists _; iexact S1
  iexact Hr

end Cert.KernelIdeal.Gate
-- ==== Proof.Ideal.Run.lean ====
module

public import proofs.«01_k».proof.Proof.Ideal.AttnRun
public import proofs.«01_k».proof.Proof.Ideal.GateRun
public import proofs.«01_k».proof.Proof.Gen.KernelIdeal.Regions
public import Idealize.ShloMosaic.Lib.Pipeline.FrameTail
public import Idealize.ShloMosaic.Lib.Pipeline.RegionArraysS

/-! The whole program: the host's transposes, the gate, the attention and the host's last transposes, one after the other. -/

@[expose] public section
noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Pipeline (Dat Seg HostSeg RegionSeg)
open Cert.KernelIdeal.Gen

variable {F : FTy → Type} [FloatOps F] [Named F]

local notation "𝕄" => MT nD τ sig Unit (Elt F) ℕ (UR sig nD τ) ℕ

/-- What rides beside the buffers: the generator register and the core owing nothing. -/
def rides (c : Dev nD) : sProp 𝕄 := iprop((∃ r, prngReg c r) ∗ ∃ W, owes (c : Thread nD τ) (0 : CellTallies nD τ sig Unit) W)

set_option backward.isDefEq.respectTransparency.types false in
/-- One call's segment: it finds every buffer at `V` and leaves its arrays as its proof data say and every other buffer as
    it was. -/
def region (pdats : (p : Fin 2) → (c : Dev nD) → Dat τ (Elt F) Unit ℕ (UR sig nD τ) ℕ (cfgs p) c) (p : Fin 2)
    (kit : Pipeline.LaunchFacts (nD := nD) (τ := τ) cfgs p) (V : Dev nD → Valuation τ sig (Elt F))
    (hbody : ∀ c, Pipeline.BodyObligationLoose (pdats p c) (defs₀ (F := F)) Variants.none () Set.univ)
    (hshare : ∀ c w, (pdats p c).share w = fullShare) (howed : ∀ c t, (pdats p c).owed t = 0)
    (hrec : ∀ c t, (pdats p c).recorded t = Set.univ)
    (hA : ∀ c w, (pdats p c).A w = V c (Proc.devRef .tc (Pipeline.arrRef (cfgs p).spec w)))
    (hin : ∀ c, Pipeline.ΦA (cfgs p).spec c ⊢ (pdats p c).Φ 0) (hout : ∀ c, (pdats p c).Φ (Fin.last (cfgs p).N) ⊢ Pipeline.ΦA (cfgs p).spec c) :
    RegionSeg (pcfgs (F := F)) adm pdats () defs₀ Variants.none (fun _ => ∅) (fun _ _ => 0) p :=
  { win := (kit.toP (Val := Elt F)).win.to₀
    block_pos := (kit.toP (Val := Elt F)).block_pos
    stage_whole := (kit.toP (Val := Elt F)).stage_whole
    K := PEmpty
    osem := fun k => k.elim
    ho := Pipeline.OwnSemFacts.none _
    hbody := hbody
    hwaits := Pipeline.hwaits_of_owed_zero (pcfgs (F := F)) adm pdats () (fun _ => ∅) (fun _ _ => 0) p howed
    pre := fun c => iprop(StableHlo.held (c : Thread nD τ) (Pipeline.ucRefs τ sig) (V c) ∗ rides c)
    post := fun c => iprop(StableHlo.held (c : Thread nD τ) (Pipeline.ucRefs τ sig) (Pipeline.afterRegion (pdats p c) (V c)) ∗ rides c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs (p := p) (pcfgs (F := F)) adm pdats (kit.toP (Val := Elt F)).win (kit.toP (Val := Elt F)).arr_whole c (hshare c)
        (fun b => V c (Proc.devRef .tc b)) (fun w => hA c w)
      unfold rides
      iintro ⟨⟨Hub, Hp, ⟨%W, HO⟩⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin
        rw [howed c 0]
        iexists W; isplitr
        · ipureintro; unfold Pipeline.Dat.bound; rw [hrec c 0]; exact fun x _ => Or.inl (Set.mem_univ _)
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := p) (pcfgs (F := F)) adm (Ix := Unit) (Name := ℕ) (U := UR sig nD τ) (Lvl := ℕ)
        (kit.toP (Val := Elt F)).win (kit.toP (Val := Elt F)).arr_whole c pdats (hshare c)
        (fun b => V c (Proc.devRef .tc b)) (fun b => Pipeline.afterRegion (pdats p c) (V c) (Proc.devRef .tc b)) ((pdats p c).arrAt · (cfgs p).N)
        (fun w => (Pipeline.afterRegion_arr (pdats p c) (V c) kit.win.arr_inj w).symm)
        (fun b hb => Pipeline.afterRegion_of_not_arr (pdats p c) (V c)
          fun w h => hb (h ▸ Finset.mem_image.mpr ⟨w, Finset.mem_univ _, rfl⟩))
      rw [show StableHlo.held (c : Thread nD τ) (Pipeline.ucRefs τ sig) (Pipeline.afterRegion (pdats p c) (V c)) = unscopedBufs c (fun b => Pipeline.afterRegion (pdats p c) (V c) (Proc.devRef .tc b))
          from (Pipeline.unscopedBufs_held (Ix := Unit) (Name := ℕ) (U := UR sig nD τ) (Lvl := ℕ) c (Pipeline.afterRegion (pdats p c) (V c))).symm]
      unfold rides
      iintro ⟨Ha, HO, Hp, Hrest⟩
      imodintro
      isplitl [Ha Hrest]
      · iapply hjoin; isplitl [Ha] <;> iassumption
      isplitl [Hp]; · iexact Hp
      unfold Pipeline.Dat.owesAt Pipeline.owesWithin
      rw [howed c (Fin.last _)]
      icases HO with ⟨%W, -, HO⟩; iexists W; iexact HO }

variable (m : (ℓ : Loc nD τ sig) → Buf (Elt F) ℓ)

/-- The buffers after the gate, -/
def U2 (c : Dev nD) : Valuation τ sig (Elt F) := Pipeline.afterRegion (Gate.dats (V1 m) c) (V1 m c)
/-- after the attention, -/
def U3 (c : Dev nD) : Valuation τ sig (Elt F) := Pipeline.afterRegion (Attn.dats (U2 m) c) (U2 m c)
/-- and at the end. -/
def U4 (c : Dev nD) : Valuation τ sig (Elt F) := StableHlo.after hostOps2 (U3 m c)

/-- Both calls' proof data. -/
def pdats : (p : Fin 2) → (c : Dev nD) → Dat τ (Elt F) Unit ℕ (UR sig nD τ) ℕ (cfgs p) c
  | 0 => Gate.dats (V1 m)
  | 1 => Attn.dats (U2 m)

/-- The gate's segment. -/
def R0 : RegionSeg (pcfgs (F := F)) adm (pdats m) () defs₀ Variants.none (fun _ => ∅) (fun _ _ => 0) 0 :=
  region (pdats m) 0 launch0 (V1 m) (fun c => (Gate.body_obligation (V1 m) c).loose)
    (fun c w => by unfold Dat.share; split <;> rfl) (fun _ _ => rfl) (fun _ _ => rfl) (fun c w => Gate.A_eq (V1 m) c w)
    (fun c => by unfold Pipeline.ΦA; exact Gate.hin (V1 m) c) (fun c => by unfold Pipeline.ΦA; exact Gate.hout (V1 m) c)
/-- The attention's. -/
def R1 : RegionSeg (pcfgs (F := F)) adm (pdats m) () defs₀ Variants.none (fun _ => ∅) (fun _ _ => 0) 1 :=
  region (pdats m) 1 launch1 (U2 m) (fun c => (Attn.body_obligation (U2 m) c).loose)
    (fun c w => by unfold Dat.share; split <;> rfl) (fun _ _ => rfl) (fun _ _ => rfl) (fun c w => Attn.A_eq (U2 m) c w)
    (fun c => .rfl) (fun c => .rfl)

/-- The program's items. -/
def items : List (Seg (pcfgs (F := F)) adm (pdats m) () defs₀ Variants.none (fun _ => ∅) (fun _ _ => 0)) :=
  [.host (seg0 m Variants.none (fun _ => ∅) (fun _ _ => 0) (fun _ => rides)), .region (R0 m), .region (R1 m),
    .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (U3 m) rides)]

set_option backward.isDefEq.respectTransparency.types false in
/-- Every execution ends with every buffer at the last valuation and every semaphore at zero. -/
theorem ends (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = U4 m c b) ∧ r.2.sem = fun _ => 0) := by
  refine Pipeline.θ_run_regions_kit_dev_sems (pcfgs (F := F)) adm (pdats m) () cellOf_inj emb₁ defs₀ Variants.none (fun _ => ∅) (fun _ _ => 0) m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (U4 m c))
    (hch := fun c => ⟨.rfl, .rfl, .rfl, .rfl,
      (show iprop(StableHlo.held (c : Thread nD τ) (Pipeline.ucRefs τ sig) (U4 m c) ∗ rides c) ⊢ (_ : sProp 𝕄) from by
        unfold rides
        iintro ⟨Hh, -, HO⟩
        isplitl [Hh] <;> iassumption)⟩)
    (hinit := by
      refine Pipeline.initEach (fun _ => ∅) (fun _ _ => 0) fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold rides
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c : Thread nD τ).1, b) = U4 m c b)
    (hfin := fun c s' => by
      unfold StableHlo.held
      iintro ⟨Hh, HSI⟩
      ihave Hr := (pointsTo_read_all (Pipeline.ucRefs τ sig) (fun b => ((c : Thread nD τ).1, b)) (U4 m c) s') $$ [Hh HSI]
      · isplitl [Hh] <;> iassumption
      imodintro; iexact Hr)
    (hQ := fun _ h hz => ⟨h, funext fun g => hz g (.inr (regions_no_unscoped g.2))⟩)

/-- A buffer no item writes ends as launched. -/
theorem kept (c : Dev nD) (r : Ref sig .tc) (h0 : r ∉ hostOps0_W) (h2 : r ∉ hostOps2_W)
    (g : ∀ w, Pipeline.arrRef spec0 w = r → (cfg0.win w).isOut = false) (a : ∀ w, Pipeline.arrRef spec1 w = r → (cfg1.win w).isOut = false) :
    U4 m c (Proc.devRef .tc r) = m ((c : Thread nD τ).loc r) :=
  (StableHlo.after_of_writes_sub hostOps2 _ hostOps2_writes h2).trans <|
    (Pipeline.afterRegion_keeps (Attn.dats (U2 m) c) (U2 m c) launch1.win.arr_inj (Attn.A_eq (U2 m) c) r a).trans <|
    (Pipeline.afterRegion_keeps (Gate.dats (V1 m) c) (V1 m c) launch0.win.arr_inj (Gate.A_eq (V1 m) c) r g).trans <|
    V1_of m c r h0

/-- An unscoped buffer's end, read off `ends`. -/
theorem at_end {s : MemSt nD τ sig (Elt F)} {c : Dev nD} (h : ∀ b ∈ Pipeline.ucRefs τ sig, s.mem ((c : Thread nD τ).1, b) = U4 m c b)
    (r : Ref sig .tc) (hr : r.isScoped = false) : s.mem ((c : Thread nD τ).loc r) = U4 m c (Proc.devRef .tc r) :=
  h _ (Pipeline.devRef_mem_ucRefs hr)

/-- Nine buffers at once: the arguments end as launched. -/
theorem args_kept {s : MemSt nD τ sig (Elt F)} {c : Dev nD} (h : ∀ b ∈ Pipeline.ucRefs τ sig, s.mem ((c : Thread nD τ).1, b) = U4 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(at_end m h main_arg0 rfl).trans (kept m c main_arg0 (by decide) (by decide) (by decide) (by decide)),
    (at_end m h main_arg1 rfl).trans (kept m c main_arg1 (by decide) (by decide) (by decide) (by decide)),
    (at_end m h main_arg2 rfl).trans (kept m c main_arg2 (by decide) (by decide) (by decide) (by decide)),
    (at_end m h main_arg3 rfl).trans (kept m c main_arg3 (by decide) (by decide) (by decide) (by decide)),
    (at_end m h main_arg4 rfl).trans (kept m c main_arg4 (by decide) (by decide) (by decide) (by decide)),
    (at_end m h main_arg5 rfl).trans (kept m c main_arg5 (by decide) (by decide) (by decide) (by decide)),
    (at_end m h main_arg6 rfl).trans (kept m c main_arg6 (by decide) (by decide) (by decide) (by decide)),
    (at_end m h main_arg7 rfl).trans (kept m c main_arg7 (by decide) (by decide) (by decide) (by decide)),
    (at_end m h main_arg8 rfl).trans (kept m c main_arg8 (by decide) (by decide) (by decide) (by decide))⟩

end Cert.KernelIdeal.Run
-- ==== Proof.Val.Row.lean ====
module

public import Idealize.ShloMosaic.PureOps.Ideal
public import Mathlib.Data.EReal.Operations
public import Mathlib.Data.EReal.Inv

/-! One row of causal softmax attention with a decay, over the extended reals: the row the kernel computes, with base-two
exponentials over the keys up to its block's end, against the row the reference computes, with natural exponentials over
all keys. Nothing here knows either program. -/

@[expose] public section
noncomputable section

namespace Cert.Row

open Idealize.ShloMosaic

/-- The largest of finitely many extended reals, `⊥` if there are none. -/
def top {n : ℕ} (w : Fin n → EReal) : EReal := Finset.univ.fold max ⊥ w

theorem top_eq_sup {n : ℕ} (w : Fin n → EReal) : top w = Finset.univ.sup w := rfl

theorem le_top {n : ℕ} (w : Fin n → EReal) (j : Fin n) : w j ≤ top w := by
  rw [top_eq_sup]; exact Finset.le_sup (Finset.mem_univ j)

theorem top_map {n : ℕ} (f : EReal → EReal) (hf : Monotone f) (h0 : f ⊥ = ⊥) (w : Fin n → EReal) :
    top (fun j => f (w j)) = f (top w) := by
  unfold top
  rw [← Finset.fold_hom (op := max) (op' := max) (m := f) (fun x y => hf.map_max), h0]

/-- Keys whose score is `⊥` do not change the largest score. -/
theorem top_cut {n N : ℕ} (hn : n ≤ N) (w : Fin N → EReal) (hw : ∀ j : Fin N, n ≤ j.val → w j = ⊥) :
    top (fun k : Fin n => w (Fin.castLE hn k)) = top w := by
  rw [top_eq_sup, top_eq_sup]
  apply le_antisymm
  · exact Finset.sup_le fun k _ => Finset.le_sup (f := w) (Finset.mem_univ (Fin.castLE hn k))
  · refine Finset.sup_le fun j _ => ?_
    by_cases h : n ≤ j.val
    · rw [hw j h]; exact bot_le
    · exact Finset.le_sup (f := fun k : Fin n => w (Fin.castLE hn k)) (Finset.mem_univ (⟨j.val, by omega⟩ : Fin n))

/-- Terms that are zero past the block's end do not change a sum. -/
theorem sum_cut {n N : ℕ} (hn : n ≤ N) (g : Fin N → EReal) (hg : ∀ j : Fin N, n ≤ j.val → g j = 0) :
    ∑ k : Fin n, g (Fin.castLE hn k) = ∑ j : Fin N, g j := by
  refine Finset.sum_of_injOn (Fin.castLE hn) (fun a _ b _ h => ?_) (fun _ _ => Finset.mem_coe.2 (Finset.mem_univ _))
    (fun j _ hj => hg j ?_) (fun _ _ => rfl)
  · exact Fin.castLE_injective hn h
  · by_contra h
    exact hj ⟨⟨j.val, by omega⟩, by simp, by ext; simp⟩

/-- log2 e. -/
def L : ℝ := (Real.log 2)⁻¹
theorem L_pos : 0 < L := inv_pos.2 (Real.log_pos (by norm_num))
theorem log2_L : Real.log 2 * L = 1 := mul_inv_cancel₀ (Real.log_pos (by norm_num)).ne'

theorem top_mul_L : (⊤ : EReal) * ((L : ℝ) : EReal) = ⊤ := EReal.top_mul_coe_of_pos L_pos
theorem bot_mul_L : (⊥ : EReal) * ((L : ℝ) : EReal) = ⊥ := EReal.bot_mul_coe_of_pos L_pos

theorem mul_L_mono : Monotone (fun x : EReal => x * ((L : ℝ) : EReal)) := fun x y h =>
  mul_le_mul_of_nonneg_right h (by exact_mod_cast L_pos.le)

theorem sub_mul_L (x y : EReal) : x * ((L : ℝ) : EReal) - y * ((L : ℝ) : EReal) = (x - y) * ((L : ℝ) : EReal) := by
  induction x <;> induction y <;>
    simp only [sub_eq_add_neg, EReal.neg_top, EReal.neg_bot, ← EReal.coe_neg, top_mul_L, bot_mul_L, ← EReal.coe_mul, ← EReal.coe_add,
      EReal.bot_add, EReal.add_bot, EReal.top_add_coe, EReal.coe_add_top, EReal.top_add_top, add_mul, neg_mul]

theorem exp2_mul_L (z : EReal) : Ideal.exp2 (z * ((L : ℝ) : EReal)) = Ideal.exp z := by
  induction z with
  | bot => rw [bot_mul_L]; rfl
  | top => rw [top_mul_L]; rfl
  | coe r =>
    rw [← EReal.coe_mul]
    show ((Real.rpow 2 (r * L) : ℝ) : EReal) = ((Real.exp r : ℝ) : EReal)
    congr 1
    show (2 : ℝ) ^ (r * L) = _
    rw [Real.rpow_def_of_pos (by norm_num), show Real.log 2 * (r * L) = r from by rw [mul_left_comm, log2_L, mul_one]]

theorem exp2_sub (x y : EReal) :
    Ideal.exp2 (x * ((L : ℝ) : EReal) - y * ((L : ℝ) : EReal)) = Ideal.exp (x - y) := by
  rw [sub_mul_L, exp2_mul_L]

theorem shift_sub (x y : EReal) (r : ℝ) : (x + (r : EReal)) - (y + (r : EReal)) = x - y := by
  induction x <;> induction y <;>
    simp only [sub_eq_add_neg, EReal.neg_top, EReal.neg_bot, ← EReal.coe_neg, ← EReal.coe_add,
      EReal.bot_add, EReal.add_bot, EReal.top_add_coe, EReal.coe_add_top, EReal.top_add_top]
  congr 1; ring

theorem shift_score (u : EReal) (ci cj : ℝ) : (u + (ci : EReal)) - (cj : EReal) = (u - (cj : EReal)) + (ci : EReal) := by
  induction u <;>
    simp only [sub_eq_add_neg, ← EReal.coe_neg, ← EReal.coe_add, EReal.bot_add, EReal.top_add_coe]
  congr 1; ring

theorem shift_mono (r : ℝ) : Monotone (fun x : EReal => x + (r : EReal)) := fun _ _ h => add_le_add_left h _

theorem lse_eq (x y : EReal) (r : ℝ) :
    ((Real.log 2 : ℝ) : EReal) * (x * ((L : ℝ) : EReal) + y * ((L : ℝ) : EReal)) + (r : EReal) = (x + (r : EReal)) + y := by
  have hb : ((Real.log 2 : ℝ) : EReal) * ⊥ = ⊥ := EReal.coe_mul_bot_of_pos (Real.log_pos (by norm_num))
  have ht : ((Real.log 2 : ℝ) : EReal) * ⊤ = ⊤ := EReal.coe_mul_top_of_pos (Real.log_pos (by norm_num))
  induction x <;> induction y <;>
    simp only [top_mul_L, bot_mul_L, hb, ht, ← EReal.coe_mul, ← EReal.coe_add, EReal.bot_add, EReal.add_bot, EReal.top_add_coe,
      EReal.coe_add_top, EReal.top_add_top]
  congr 1
  rw [← add_mul, mul_left_comm, log2_L]; ring

/-- A nonnegative real factor moves into a sum. -/
theorem sum_mul_coe {n : ℕ} (f : Fin n → EReal) (r : ℝ) (hr : 0 ≤ r) :
    (∑ j, f j) * (r : EReal) = ∑ j, f j * (r : EReal) := by
  have h : ∀ s : Finset (Fin n), (∑ j ∈ s, f j) * (r : EReal) = ∑ j ∈ s, f j * (r : EReal) := by
    intro s
    induction s using Finset.induction with
    | empty => simp
    | insert a s ha ih =>
      rw [Finset.sum_insert ha, Finset.sum_insert ha, ← ih,
        EReal.right_distrib_of_nonneg_of_ne_top (by exact_mod_cast hr) (EReal.coe_ne_top r)]
  exact h _

variable {n : ℕ}

/-- The unnormalized weights. -/
def wt (w : Fin n → EReal) (j : Fin n) : EReal := Ideal.exp (w j - top w)
def den (w : Fin n → EReal) : EReal := ∑ j, wt w j

theorem bot_or_top_or (w : Fin n → EReal) :
    (∀ j, w j - top w = ⊥) ∨ ∃ M : ℝ, top w = (M : EReal) := by
  have hle := le_top w
  generalize top w = m at hle ⊢
  induction m with
  | bot => left; intro j; rw [le_bot_iff.1 (hle j)]; rfl
  | top => left; intro j; exact EReal.sub_top _
  | coe M => exact .inr ⟨M, rfl⟩

/-- Some key has the largest score. -/
theorem exists_eq_top (w : Fin n → EReal) (hn : 0 < n) : ∃ j, w j = top w := by
  obtain ⟨j, _, h⟩ := Finset.exists_mem_eq_sup Finset.univ ⟨⟨0, hn⟩, Finset.mem_univ _⟩ w
  exact ⟨j, h.symm⟩

theorem exp_real (x : EReal) (h : x ≤ 0) : ∃ e : ℝ, 0 ≤ e ∧ Ideal.exp x = (e : EReal) := by
  induction x with
  | bot => exact ⟨0, le_rfl, rfl⟩
  | coe r => exact ⟨Real.exp r, (Real.exp_pos r).le, rfl⟩
  | top => exact absurd h (by simp)

/-- With a real largest score the normalizer is a positive real. -/
theorem den_real (w : Fin n → EReal) (hn : 0 < n) {M : ℝ} (hM : top w = (M : EReal)) :
    ∃ l : ℝ, 0 < l ∧ den w = (l : EReal) := by
  have hx : ∀ j, w j - top w ≤ 0 := fun j => by
    have := le_top w j
    rw [hM] at this ⊢
    exact EReal.sub_nonpos.2 this
  choose e he0 he using fun j => exp_real _ (hx j)
  have hden : den w = ((∑ j, e j : ℝ) : EReal) := by
    unfold den wt
    rw [Finset.sum_congr rfl fun j _ => he j]
    exact (map_sum (⟨⟨fun x : ℝ => (x : EReal), EReal.coe_zero⟩, EReal.coe_add⟩ : ℝ →+ EReal) e Finset.univ).symm
  obtain ⟨j, hj⟩ := exists_eq_top w hn
  refine ⟨_, ?_, hden⟩
  have h1 : e j = 1 := by
    have := he j
    rw [hj, hM, ← EReal.coe_sub, sub_self] at this
    have h2 : ((Real.exp 0 : ℝ) : EReal) = (e j : EReal) := this
    rw [← EReal.coe_eq_coe_iff.1 h2, Real.exp_zero]
  exact lt_of_lt_of_le (by rw [h1]; exact one_pos) (Finset.single_le_sum (fun i _ => he0 i) (Finset.mem_univ j))

theorem exp_sub_log (x : EReal) (l : ℝ) (hl : 0 < l) :
    Ideal.exp (x - Ideal.log (l : EReal)) = Ideal.exp x * Ideal.div 1 (l : EReal) := by
  have hlog : Ideal.log (l : EReal) = ((Real.log l : ℝ) : EReal) := by
    show (if l ≤ 0 then (⊥ : EReal) else ((Real.log l : ℝ) : EReal)) = _
    rw [if_neg (not_le.2 hl)]
  have hdiv : Ideal.div 1 (l : EReal) = ((l⁻¹ : ℝ) : EReal) := by
    unfold Ideal.div
    rw [if_neg (by exact_mod_cast hl.ne'), one_mul, EReal.coe_inv]
  rw [hlog, hdiv]
  induction x with
  | bot =>
    show Ideal.exp (⊥ - ((Real.log l : ℝ) : EReal)) = Ideal.exp ⊥ * _
    rw [EReal.bot_sub]
    show (0 : EReal) = 0 * _
    rw [zero_mul]
  | top =>
    rw [EReal.top_sub_coe]
    show (⊤ : EReal) = ⊤ * _
    rw [EReal.top_mul_coe_of_pos (inv_pos.2 hl)]
  | coe r =>
    rw [← EReal.coe_sub]
    show ((Real.exp (r - Real.log l) : ℝ) : EReal) = ((Real.exp r : ℝ) : EReal) * _
    rw [← EReal.coe_mul, Real.exp_sub, Real.exp_log hl, div_eq_mul_inv]

/-- Normalizing the weighted sum is normalizing each weight. -/
theorem normalize (w v : Fin n → EReal) (hn : 0 < n) :
    (∑ j, v j * wt w j) * Ideal.div 1 (den w) = ∑ j, Ideal.exp ((w j - top w) - Ideal.log (den w)) * v j := by
  rcases bot_or_top_or w with h | ⟨M, hM⟩
  · have hw : ∀ j, wt w j = 0 := fun j => by unfold wt; rw [h j]; rfl
    rw [Finset.sum_congr rfl fun j _ => by rw [hw j, mul_zero], Finset.sum_const_zero, zero_mul]
    refine (Finset.sum_eq_zero fun j _ => ?_).symm
    rw [h j, EReal.bot_sub]
    exact zero_mul _
  · obtain ⟨l, hl, hd⟩ := den_real w hn hM
    have hdiv : Ideal.div 1 (l : EReal) = ((l⁻¹ : ℝ) : EReal) := by
      unfold Ideal.div
      rw [if_neg (by exact_mod_cast hl.ne'), one_mul, EReal.coe_inv]
    rw [hd]
    simp only [exp_sub_log _ l hl]
    rw [hdiv, sum_mul_coe _ _ (inv_pos.2 hl).le]
    exact Finset.sum_congr rfl fun j _ => by unfold wt; rw [mul_assoc, mul_comm]

/-- The kernel's row, from its masked scores `t` in base-two units: weights, normalizer, output and log-sum-exp. -/
def kW (t : Fin n → EReal) (j : Fin n) : EReal := Ideal.exp2 (t j - top t)
def kDen (t : Fin n → EReal) : EReal := ∑ j, kW t j
def kO (t v : Fin n → EReal) (vs : EReal) : EReal := (∑ j, v j * kW t j) * Ideal.div 1 (kDen t) * vs
def kL (t : Fin n → EReal) (ci : EReal) : EReal :=
  ((Real.log 2 : ℝ) : EReal) * (top t + Ideal.log (kDen t) * ((L : ℝ) : EReal)) + ci

/-- The reference's row, from its masked scores `r`: the softmax's output and the log-sum-exp. -/
def rDen (r : Fin n → EReal) : EReal := ∑ j, Ideal.exp (r j - top r)
def rO (r v : Fin n → EReal) (vs : EReal) : EReal :=
  (∑ j, Ideal.exp ((r j - top r) - Ideal.log (rDen r)) * v j) * vs
def rL (r : Fin n → EReal) : EReal := top r + Ideal.log (rDen r)

/-- The reference's masked scores of query `i`: products `u`, running gate sums `c`. -/
def score (i : ℕ) (u : Fin n → EReal) (c : Fin n → EReal) (ci : EReal) (j : Fin n) : EReal :=
  if j.val ≤ i then (u j + ci) - c j else ⊥

/-- Running sums that are reals, or `⊥` throughout. -/
def Sums (c : Fin n → EReal) : Prop := (∃ r : Fin n → ℝ, c = fun j => (r j : EReal)) ∨ c = fun _ => ⊥

section Row
variable {N : ℕ} (hn : n ≤ N) (i : ℕ) (hi : i < n) (u : Fin N → EReal) (c : Fin N → ℝ) (ci : ℝ) (t : Fin n → EReal)
  (ht : ∀ k : Fin n, t k = if k.val ≤ i then u (Fin.castLE hn k) * ((L : ℝ) : EReal) - (c (Fin.castLE hn k) : EReal) * ((L : ℝ) : EReal) else ⊥)

/-- The scores both rows are images of. -/
def base (j : Fin N) : EReal := if j.val ≤ i then u j - (c j : EReal) else ⊥

theorem score_eq (j : Fin N) : score i u (fun j => (c j : EReal)) (ci : EReal) j = base i u c j + (ci : EReal) := by
  unfold score base
  split
  · exact shift_score _ _ _
  · exact (EReal.bot_add _).symm

theorem base_cut (hi : i < n) (j : Fin N) (h : n ≤ j.val) : base i u c j = ⊥ := if_neg (by omega)

theorem top_score : top (score i u (fun j => (c j : EReal)) (ci : EReal)) = top (base i u c) + (ci : EReal) := by
  rw [show score i u (fun j => (c j : EReal)) (ci : EReal) = fun j => base i u c j + (ci : EReal) from funext (score_eq i u c ci)]
  exact top_map (fun x => x + (ci : EReal)) (shift_mono ci) (EReal.bot_add _) _

theorem score_sub (j : Fin N) : score i u (fun j => (c j : EReal)) (ci : EReal) j - top (score i u (fun j => (c j : EReal)) (ci : EReal)) = base i u c j - top (base i u c) := by
  rw [top_score, score_eq, shift_sub]

theorem rDen_eq : rDen (score i u (fun j => (c j : EReal)) (ci : EReal)) = den (base i u c) :=
  Finset.sum_congr rfl fun j _ => by rw [score_sub]; rfl

include ht

theorem t_eq (k : Fin n) : t k = base i u c (Fin.castLE hn k) * ((L : ℝ) : EReal) := by
  rw [ht k]; unfold base
  simp only [Fin.val_castLE]
  split
  · exact sub_mul_L _ _
  · exact bot_mul_L.symm

include hi

theorem top_t : top t = top (base i u c) * ((L : ℝ) : EReal) := by
  rw [show t = fun k => base i u c (Fin.castLE hn k) * ((L : ℝ) : EReal) from funext (t_eq hn i u c t ht),
    top_map (fun x => x * ((L : ℝ) : EReal)) mul_L_mono bot_mul_L, top_cut hn _ (base_cut i u c hi)]

theorem kW_eq (k : Fin n) : kW t k = wt (base i u c) (Fin.castLE hn k) := by
  unfold kW wt
  rw [top_t hn i hi u c t ht, t_eq hn i u c t ht, exp2_sub]

theorem wt_cut (j : Fin N) (h : n ≤ j.val) : wt (base i u c) j = 0 := by
  unfold wt; rw [base_cut i u c hi j h, EReal.bot_sub]; rfl

theorem kDen_eq : kDen t = den (base i u c) := by
  unfold kDen den
  rw [← sum_cut hn _ (wt_cut hn i hi u c t ht)]
  exact Finset.sum_congr rfl fun k _ => kW_eq hn i hi u c t ht k

/-- With real running sums the kernel's log-sum-exp is the reference's, -/
theorem kL_real : kL t (ci : EReal) = rL (score i u (fun j => (c j : EReal)) (ci : EReal)) := by
  unfold kL rL
  rw [kDen_eq hn i hi u c t ht, top_t hn i hi u c t ht, lse_eq, top_score, rDen_eq]

/-- and so is its output. -/
theorem kO_real (v : Fin N → EReal) (vs : EReal) :
    kO t (fun k => v (Fin.castLE hn k)) vs = rO (score i u (fun j => (c j : EReal)) (ci : EReal)) v vs := by
  unfold kO rO
  rw [kDen_eq hn i hi u c t ht, rDen_eq]
  simp only [score_sub]
  rw [← normalize _ _ (by omega : 0 < N)]
  congr 2
  rw [← sum_cut hn (fun j => v j * wt (base i u c) j) (fun j h => by rw [wt_cut hn i hi u c t ht j h, mul_zero])]
  exact Finset.sum_congr rfl fun k _ => by rw [kW_eq hn i hi u c t ht k]

end Row

section Bot
variable {N : ℕ} (hn : n ≤ N) (i : ℕ) (u : Fin N → EReal) (t : Fin n → EReal)

theorem score_bot (j : Fin N) : score i u (fun _ => ⊥) ⊥ j = ⊥ := by
  unfold score
  split
  · rw [EReal.add_bot, EReal.bot_sub]
  · rfl

theorem rL_bot : rL (score i u (fun _ => ⊥) ⊥) = ⊥ := by
  have e : top (score i u (fun _ => ⊥) ⊥) = ⊥ := by
    rw [top_eq_sup]
    exact (Finset.sup_eq_bot_iff _ _).2 fun j _ => score_bot i u j
  unfold rL
  rw [e, EReal.bot_add]

theorem rO_bot (v : Fin N → EReal) (vs : EReal) : rO (score i u (fun _ => ⊥) ⊥) v vs = 0 := by
  unfold rO
  rw [Finset.sum_eq_zero fun j _ => ?_, zero_mul]
  rw [score_bot, EReal.bot_sub, EReal.bot_sub]
  exact zero_mul _

variable (ht : ∀ k : Fin n, t k = if k.val ≤ i then u (Fin.castLE hn k) * ((L : ℝ) : EReal) - ⊥ * ((L : ℝ) : EReal) else ⊥)
include ht

theorem kW_bot (k : Fin n) : kW t k = 0 := by
  have h : t k - top t = ⊥ := by
    have hk : t k = ⊥ ∨ t k = ⊤ := by
      rw [ht k, bot_mul_L]
      split
      · generalize u (Fin.castLE hn k) * ((L : ℝ) : EReal) = z
        induction z with
        | bot => exact .inl (EReal.bot_sub _)
        | top => exact .inr rfl
        | coe r => exact .inr rfl
      · exact .inl rfl
    rcases hk with hk | hk
    · rw [hk, EReal.bot_sub]
    · have e : top t = ⊤ := top_le_iff.1 (hk.symm.le.trans (le_top t k))
      rw [e, EReal.sub_top]
  unfold kW
  rw [h]
  rfl

theorem kO_bot (v : Fin n → EReal) (vs : EReal) : kO t v vs = 0 := by
  unfold kO
  rw [Finset.sum_eq_zero fun k _ => by rw [kW_bot hn i u t ht, mul_zero], zero_mul, zero_mul]

end Bot

section Both
variable {N : ℕ} (hn : n ≤ N) (i : ℕ) (hi : i < n) (u : Fin N → EReal) (c : Fin N → EReal) (q : Fin N) (t : Fin n → EReal) (hc : Sums c)
  (ht : ∀ k : Fin n, t k = if k.val ≤ i then u (Fin.castLE hn k) * ((L : ℝ) : EReal) - c (Fin.castLE hn k) * ((L : ℝ) : EReal) else ⊥)
include hi hc ht

/-- The kernel's log-sum-exp is the reference's. -/
theorem kL_eq : kL t (c q) = rL (score i u c (c q)) := by
  rcases hc with ⟨r, rfl⟩ | rfl
  · exact kL_real hn i hi u r (r q) t ht
  · exact (EReal.add_bot _).trans (rL_bot i u).symm

/-- The kernel's output is the reference's. -/
theorem kO_eq (v : Fin N → EReal) (vs : EReal) : kO t (fun k => v (Fin.castLE hn k)) vs = rO (score i u c (c q)) v vs := by
  rcases hc with ⟨r, rfl⟩ | rfl
  · exact kO_real hn i hi u r (r q) t ht v vs
  · exact (kO_bot hn i u t ht _ vs).trans (rO_bot i u v vs).symm

end Both

end Cert.Row
-- ==== Proof.Val.Consts.lean ====
module

public import proofs.«01_k».proof.Proof.Val.Row
public import Idealize.ShloMosaic.Lib.Pointwise
public import Idealize.ShloMosaic.Lib.WordCmp

/-! Constants, the causal comparison, and a running sum, over the extended reals. -/

@[expose] public section
set_option maxRecDepth 8192
noncomputable section

namespace Cert.Row

open Idealize.ShloMosaic

theorem ninf : Ideal.ofBits .f32 4286578688#32 = (⊥ : EReal) := by simp [Ideal.ofBits, Ideal.ieee]

theorem cmp_le {a b : ℕ} (ha : a < 2 ^ 31) (hb : b < 2 ^ 31) (x y : EReal) :
    Scalar.select (IntOp.cmpi .sle (BitVec.ofNat 32 a) (BitVec.ofNat 32 b)) x y = if a ≤ b then x else y := by
  unfold Scalar.select
  by_cases h : a ≤ b
  · rw [if_pos h]; exact if_pos ((WordCmp.cmpi_sle_ofNat_eq_one_iff (w := 32) ha hb).2 h)
  · rw [if_neg h]; exact if_neg (fun e => h ((WordCmp.cmpi_sle_ofNat_eq_one_iff (w := 32) ha hb).1 e))

/-- The log-sigmoid, as minus the softplus of the negative. -/
def logSig (f : EReal) : EReal := -(max (-f) 0 + Ideal.log1p (Ideal.exp (-(FloatOps.absf (F := Ideal) (φ := .f32) (-f)))))

/-- The lane a column reads of a row of 128 laid side by side. -/
def lane {n : ℕ} (l : Fin n) : Fin 128 := ⟨l.val % 128, Nat.mod_lt _ (by norm_num)⟩

/-- A fold of additions is a sum. -/
theorem foldl_add {n : ℕ} (g : Fin n → EReal) (v : EReal) : (List.finRange n).foldl (fun r k => r + g k) v = v + ∑ k, g k := by
  have : ∀ (L : List (Fin n)) (v : EReal), L.foldl (fun r k => r + g k) v = v + (L.map g).sum := by
    intro L
    induction L with
    | nil => intro v; simp
    | cons a L ih => intro v; rw [List.foldl_cons, ih, List.map_cons, List.sum_cons, add_assoc]
  rw [this, ← List.ofFn_eq_map, List.sum_ofFn]

/-- Positions of a window one wide but along the middle axis are the positions along it. -/
def mid (N : ℕ) : Fin N ≃ (⟨3, ![1, N, 1]⟩ : Shape).Idx where
  toFun w := ix3 0 w 0
  invFun i := i 1
  left_inv w := rfl
  right_inv i := by
    funext a
    match a with
    | ⟨0, _⟩ => exact Fin.ext (by have := (i 0).isLt; change 0 = (i 0).val; have h : (i 0).val < 1 := this; omega)
    | ⟨1, _⟩ => rfl
    | ⟨2, _⟩ => exact Fin.ext (by have := (i 2).isLt; change 0 = (i 2).val; have h : (i 2).val < 1 := this; omega)

/-- A sum over a window that ends at `s` is a sum over the positions up to `s`. -/
theorem sum_window (s : Fin 1024) (f : Fin 1024 → EReal) :
    (∑ w : Fin 1024, if h : 1023 ≤ s.val + w.val then f ⟨s.val + w.val - 1023, by omega⟩ else 0)
      = ∑ j : Fin 1024, if j.val ≤ s.val then f j else 0 := by
  rw [← Finset.sum_filter]
  refine Finset.sum_bij_ne_zero (fun w _ _ => if h : 1023 ≤ s.val + w.val then ⟨s.val + w.val - 1023, by omega⟩ else 0) ?_ ?_ ?_ ?_
  · intro w _ hw
    by_cases h : 1023 ≤ s.val + w.val
    · rw [dif_pos h, Finset.mem_filter]; exact ⟨Finset.mem_univ _, by change s.val + w.val - 1023 ≤ s.val; omega⟩
    · exact absurd (dif_neg h) hw
  · intro w _ hw w' _ hw' e
    by_cases h : 1023 ≤ s.val + w.val
    · by_cases h' : 1023 ≤ s.val + w'.val
      · rw [dif_pos h, dif_pos h', Fin.mk.injEq] at e
        exact Fin.ext (by omega)
      · exact absurd (dif_neg h') hw'
    · exact absurd (dif_neg h) hw
  · intro j hj hj0
    have hj' : j.val ≤ s.val := (Finset.mem_filter.1 hj).2
    have h : 1023 ≤ s.val + (j.val + 1023 - s.val) := by omega
    have e : (⟨s.val + (j.val + 1023 - s.val) - 1023, by omega⟩ : Fin 1024) = j := Fin.ext (by simp; omega)
    refine ⟨⟨j.val + 1023 - s.val, by omega⟩, Finset.mem_univ _, ?_, ?_⟩
    · rw [dif_pos h, e]; exact hj0
    · rw [dif_pos h]; exact e
  · intro w _ hw
    by_cases h : 1023 ≤ s.val + w.val
    · rw [dif_pos h]; simp only [dif_pos h]
    · exact absurd (dif_neg h) hw

/-- The running sum along the middle axis, as it prints. -/
theorem cumsum_mid {n0 n2 : ℕ} (x : (⟨3, ![n0, 1024, n2]⟩ : Shape).Idx → EReal) (init : EReal) (hi : init = 0)
    (h : (⟨3, ![n0, 1024, n2]⟩ : Shape).ReduceWindows ![1, 1024, 1] ![1, 1, 1] ![0, 1023, 0] ![0, 0, 0] ⟨3, ![n0, 1024, n2]⟩)
    (b : Fin n0) (s : Fin 1024) (k : Fin n2) :
    Ideal.hostReduceWindowAdd (s := ⟨3, ![n0, 1024, n2]⟩) ![1, 1024, 1] ![1, 1, 1] ![0, 1023, 0] ![0, 0, 0] h x init (ix3 b s k)
      = ∑ j : Fin 1024, if j.val ≤ s.val then x (ix3 b j k) else 0 := by
  unfold Ideal.hostReduceWindowAdd Host.reduceWindow
  rw [foldl_add, hi, zero_add, ← sum_window s (fun j => x (ix3 b j k)),
    ← Equiv.sum_comp ((mid 1024).trans (Shape.rowMajor (⟨3, ![1, 1024, 1]⟩ : Shape)))]
  refine Finset.sum_congr rfl fun w _ => ?_
  have e : (Shape.rowMajor (⟨3, ![1, 1024, 1]⟩ : Shape)).symm (((mid 1024).trans (Shape.rowMajor (⟨3, ![1, 1024, 1]⟩ : Shape))) w) = mid 1024 w :=
    Equiv.symm_apply_apply _ _
  simp only [e]
  have hw := w.isLt
  have hs := s.isLt
  have h0 := b.isLt
  have h2 := k.isLt
  by_cases hc : 1023 ≤ s.val + w.val
  · rw [dif_pos hc, dif_pos]
    · congr 1
      funext a
      match a with
      | ⟨0, _⟩ => exact Fin.ext (by change b.val * 1 + 0 - 0 = b.val; omega)
      | ⟨1, _⟩ => exact Fin.ext (by change s.val * 1 + w.val - 1023 = s.val + w.val - 1023; omega)
      | ⟨2, _⟩ => exact Fin.ext (by change k.val * 1 + 0 - 0 = k.val; omega)
    · intro a
      match a with
      | ⟨0, _⟩ => change 0 ≤ b.val * 1 + 0 ∧ b.val * 1 + 0 - 0 < n0; omega
      | ⟨1, _⟩ => change 1023 ≤ s.val * 1 + w.val ∧ s.val * 1 + w.val - 1023 < 1024; omega
      | ⟨2, _⟩ => change 0 ≤ k.val * 1 + 0 ∧ k.val * 1 + 0 - 0 < n2; omega
  · rw [dif_neg hc, dif_neg]
    intro hin
    have := (hin (1 : Fin 3)).1
    change 1023 ≤ s.val * 1 + w.val at this
    omega

end Cert.Row
-- ==== Proof.Val.Reals.lean ====
module

public import proofs.«01_k».proof.Proof.Val.Consts

/-! Which of the values are real numbers. -/

@[expose] public section
noncomputable section

namespace Cert.Row

open Idealize.ShloMosaic

/-- An extended real that is a real. -/
def Re (x : EReal) : Prop := ∃ r : ℝ, x = r

theorem Re.add {x y : EReal} : Re x → Re y → Re (x + y) := by rintro ⟨r, rfl⟩ ⟨s, rfl⟩; exact ⟨r + s, (EReal.coe_add r s).symm⟩
theorem Re.mul {x y : EReal} : Re x → Re y → Re (x * y) := by rintro ⟨r, rfl⟩ ⟨s, rfl⟩; exact ⟨r * s, (EReal.coe_mul r s).symm⟩
theorem Re.neg {x : EReal} : Re x → Re (-x) := by rintro ⟨r, rfl⟩; exact ⟨-r, (EReal.coe_neg r).symm⟩
theorem Re.max {x y : EReal} (hx : Re x) (hy : Re y) : Re (max x y) := by
  rcases max_choice x y with h | h <;> rw [h] <;> assumption
theorem Re.zero : Re 0 := ⟨0, EReal.coe_zero.symm⟩
theorem Re.sum {n : ℕ} {f : Fin n → EReal} (h : ∀ k, Re (f k)) : Re (∑ k, f k) :=
  Finset.sum_induction f Re (fun _ _ => Re.add) Re.zero (fun k _ => h k)

/-- The log-sigmoid of a real is a real. -/
theorem logSig_re {x : EReal} (h : Re x) : Re (logSig x) := by
  unfold logSig
  refine Re.neg (Re.add (Re.max (Re.neg h) Re.zero) ?_)
  obtain ⟨r, hr⟩ : Re (-(FloatOps.absf (F := Ideal) (φ := .f32) (-x))) := Re.neg (Re.max (Re.neg h) (Re.neg (Re.neg h)))
  rw [hr]
  refine ⟨Real.log (1 + Real.exp r), ?_⟩
  show Ideal.log (1 + ((Real.exp r : ℝ) : EReal)) = _
  rw [← EReal.coe_one, ← EReal.coe_add]
  show (if 1 + Real.exp r ≤ 0 then (⊥ : EReal) else ((Real.log (1 + Real.exp r) : ℝ) : EReal)) = _
  rw [if_neg (by have := Real.exp_pos r; linarith)]

/-- It is of every other value but `⊥`, -/
theorem logSig_top : Re (logSig ⊤) := by
  refine ⟨0, ?_⟩
  unfold logSig
  have h : FloatOps.absf (F := Ideal) (φ := .f32) (-(⊤ : EReal)) = (⊤ : EReal) := by
    show max (-(⊤ : EReal)) (-(-(⊤ : EReal))) = ⊤
    simp
  rw [h, EReal.neg_top]
  show -(max (⊥ : EReal) 0 + Ideal.log (1 + 0)) = ((0 : ℝ) : EReal)
  rw [add_zero, ← EReal.coe_one]
  show -(max (⊥ : EReal) 0 + (if (1 : ℝ) ≤ 0 then (⊥ : EReal) else ((Real.log 1 : ℝ) : EReal))) = _
  rw [if_neg (by norm_num), Real.log_one]
  simp
theorem logSig_of_ne {x : EReal} (h : x ≠ ⊥) : Re (logSig x) := by
  induction x with
  | bot => exact absurd rfl h
  | top => exact logSig_top
  | coe r => exact logSig_re ⟨r, rfl⟩
/-- where it is `⊥`. -/
theorem logSig_bot : logSig ⊥ = ⊥ := by
  unfold logSig
  have h : FloatOps.absf (F := Ideal) (φ := .f32) (-(⊥ : EReal)) = (⊤ : EReal) := by
    show max (-(⊥ : EReal)) (-(-(⊥ : EReal))) = ⊤
    simp
  rw [h, EReal.neg_top, EReal.neg_bot]
  show -(max (⊤ : EReal) 0 + Ideal.log (1 + 0)) = ⊥
  rw [add_zero, ← EReal.coe_one]
  show -(max (⊤ : EReal) 0 + (if (1 : ℝ) ≤ 0 then (⊥ : EReal) else ((Real.log 1 : ℝ) : EReal))) = _
  rw [if_neg (by norm_num), Real.log_one]
  simp

/-- A sum with a term `⊥` is `⊥`. -/
theorem sum_bot {n : ℕ} (f : Fin n → EReal) (k : Fin n) (h : f k = ⊥) : ∑ j, f j = ⊥ := by
  rw [← Finset.add_sum_erase _ _ (Finset.mem_univ k), h, EReal.bot_add]
theorem re_add_ne {x y : EReal} (hx : Re x) (hy : y ≠ ⊥) : x + y ≠ ⊥ := by
  obtain ⟨r, rfl⟩ := hx
  rw [Ne, EReal.add_eq_bot_iff]
  rintro (h | h)
  · exact EReal.coe_ne_bot r h
  · exact hy h

end Cert.Row
-- ==== Proof.Val.Pre.lean ====
module

public import proofs.«01_k».proof.Pre_finite
public import proofs.«01_k».proof.Proof.Val.Reals
public import Idealize.ShloMosaic.Lib.ReduceAll
public import Idealize.ShloMosaic.Lib.Affine

/-! What the precondition says: every element of the gate's input and weights is a real. -/

@[expose] public section
noncomputable section

namespace Cert.Pre_finite

open Idealize.ShloMosaic Cert.Row

instance facts : Cert.Pre_finite.Facts where
  bcast_S_S2x1024x2880 := by decide
  reducesTo_S2x1024x2880_S_d0_1_2 := by decide
  h_S_ := by decide
  bcast_S_S2880x45 := by decide
  reducesTo_S2880x45_S_d0_1 := by decide

/-- A value whose absolute value is below infinity is a real. -/
theorem re_of {x t : EReal} (ht : t = ⊤) (h : max x (-x) < t) : Re x := by
  subst ht
  refine ⟨x.toReal, (EReal.coe_toReal ?_ ?_).symm⟩
  · rintro rfl
    simp at h
  · rintro rfl
    simp at h

theorem inf16 : Ideal.ofBits .bf16 0x7F80#16 = ⊤ := by simp [Ideal.ofBits, Ideal.ieee]
theorem inf32 : Ideal.ofBits .f32 0x7F800000#32 = ⊤ := by simp [Ideal.ofBits, Ideal.ieee]

theorem lt_of_cmp {x y : EReal} (h : BitVec.ofBool (decide (x < y)) = 1#1) : x < y := by
  by_contra hn
  rw [decide_eq_false hn] at h
  exact absurd h (by decide)

/-- An array whose `jnp.all(jnp.abs(x) < inf)` holds is of reals. -/
theorem re_all {s t u : Shape} {φ : FTy} {axes : List (Fin s.rank)} [Subsingleton t.Idx] (x : FVec Ideal s φ) (b : FVec Ideal s φ) (hb : ∀ i, (b i : EReal) = ⊤)
    (init : u.Idx → BitVec 1) (h : s.ReducesTo axes t) (hu : 0 < u.numel) (j : t.Idx)
    (e : Host.reduce IntOp.andi (cmpf .olt (Host.absf x) b) init h hu j = 1#1) (i : s.Idx) : Re (x i) :=
  re_of (hb i) (lt_of_cmp (Host.reduce_andi_all _ init h hu j e i))

variable (x0 : FVec Ideal S2x1024x45x64 .fp8e4m3) (x1 : FVec Ideal S2x45 .f32) (x2 : FVec Ideal S2x1024x5x64 .fp8e4m3) (x3 : FVec Ideal S2x5 .f32) (x4 : FVec Ideal S2x1024x5x64 .fp8e4m3) (x5 : FVec Ideal S2x5x64 .f32) (x6 : FVec Ideal S2x1024x2880 .bf16) (x7 : FVec Ideal S2880x45 .f32) (x8 : FVec Ideal S45 .f32)

instance : Subsingleton S_.Idx := ⟨fun a b => funext fun i => i.elim0⟩

theorem decode (h : fn x0 x1 x2 x3 x4 x5 x6 x7 x8 = fun _ => 1#1) : (∀ i, Re (x6 i)) ∧ (∀ i, Re (x7 i)) := by
  have h := congrFun h (Shape.Idx.first Facts.h_S_)
  dsimp only [fn] at h
  obtain ⟨h6, h7⟩ := IntOp.andi_eq_one.1 h
  exact ⟨re_all x6 _ (fun _ => inf16) _ _ _ _ h6, re_all x7 _ (fun _ => inf32) _ _ _ _ h7⟩

end Cert.Pre_finite
-- ==== Proof.Val.RefRun.lean ====
module

public import proofs.«01_k».proof.Proof.Gen.ReferenceIdeal.Frame
public import Idealize.ShloMosaic.Lib.StableHlo.ReadAt

/-! The reference's run: its results as plain functions, in named stages, of the arguments and of what its one kernel
region (the widening of the codes) leaves. -/

@[expose] public section
set_option maxRecDepth 8192
noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The gate's logits. -/
def fF (x6 : FVec F S2x1024x2880 .bf16) (x7 : FVec F S2880x45 .f32) (x8 : FVec F S45 .f32) : FVec F S2x1024x45 .f32 :=
  addf (Host.dotGeneral dot_S2x1024x2880_S2880x45_S2x1024x45_2_0_01_1_n_n (some .fp32) (extf .f32 x6 bitsLt_bf16_f32) x7) (broadcastInDim S2x1024x45 ![0, 1, 2] bcast_S1x1x45_S2x1024x45_0_1_2 (broadcastInDim S1x1x45 ![2] bcast_S45_S1x1x45_2 x8))
/-- The log-sigmoid of the logits, as minus the softplus of their negatives. -/
def lsF (f : FVec F S2x1024x45 .f32) : FVec F S2x1024x45 .f32 :=
  Host.negf (select (cmpf .une (subf (Host.negf f) (broadcastInDim S2x1024x45 ![] bcast_S_S2x1024x45 (constant S_ .f32 0x00000000#32))) (subf (Host.negf f) (broadcastInDim S2x1024x45 ![] bcast_S_S2x1024x45 (constant S_ .f32 0x00000000#32)))) (addf (Host.negf f) (broadcastInDim S2x1024x45 ![] bcast_S_S2x1024x45 (constant S_ .f32 0x00000000#32))) (addf (maximumf (Host.negf f) (broadcastInDim S2x1024x45 ![] bcast_S_S2x1024x45 (constant S_ .f32 0x00000000#32))) (Host.log1p (Host.exp (Host.negf (Host.absf (subf (Host.negf f) (broadcastInDim S2x1024x45 ![] bcast_S_S2x1024x45 (constant S_ .f32 0x00000000#32)))))))))
/-- Its running sum, by head. -/
def cF (ls : FVec F S2x1024x45 .f32) : FVec F S2x5x9x1024 .f32 :=
  shapeCast _ (transpose S2x45x1024 [0, 2, 1] (Host.reduceWindowAdd ![1, 1024, 1] ![1, 1, 1] ![0, 1023, 0] ![0, 0, 0] ls (broadcastInDim S_ ![] bcast_S_S_ (constant S_ .f32 0x00000000#32)) reduceWindows_S2x1024x45_S2x1024x45_w1s1p0_0_w1024s1p1023_0_w1s1p0_0 h_S_) transposes_S2x1024x45_S2x45x1024_0_2_1) shapeCasts_S2x45x1024_S2x5x9x1024
/-- The scale of the scores. -/
def aF (x1 : FVec F S2x45 .f32) (x3 : FVec F S2x5 .f32) : FVec F S2x5x9 .f32 :=
  mulf (mulf (shapeCast _ x1 shapeCasts_S2x45_S2x5x9) (broadcastInDim S2x5x9 ![0, 1, 2] bcast_S2x5x1_S2x5x9_0_1_2 (broadcastInDim S2x5x1 ![0, 1] bcast_S2x5_S2x5x1_0_1 x3))) (broadcastInDim S2x5x9 ![] bcast_S_S2x5x9 (constant S_ .f32 0x3E000000#32))
/-- The masked scores. -/
def sF (r0 : FVec F S2x1024x45x64 .f32) (r1 : FVec F S2x1024x5x64 .f32) (e0 : FVec F S2x5x9 .f32) (e1 : FVec F S2x5x9x1024 .f32) : FVec F S2x5x9x1024x1024 .f32 :=
  select (broadcastInDim S2x5x9x1024x1024 ![3, 4] bcast_S1024x1024_S2x5x9x1024x1024_3_4 (cmpi .sle (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) (subf (addf (mulf (Host.dotGeneral dot_S2x5x9x1024x64_S2x5x1024x64_S2x5x9x1024x1024_4_3_23_2_01_01 none (transpose S2x5x9x1024x64 [0, 2, 3, 1, 4] (shapeCast _ r0 shapeCasts_S2x1024x45x64_S2x1024x5x9x64) transposes_S2x1024x5x9x64_S2x5x9x1024x64_0_2_3_1_4) (transpose S2x5x1024x64 [0, 2, 1, 3] r1 transposes_S2x1024x5x64_S2x5x1024x64_0_2_1_3)) (broadcastInDim S2x5x9x1024x1024 ![0, 1, 2, 3, 4] bcast_S2x5x9x1x1_S2x5x9x1024x1024_0_1_2_3_4 (broadcastInDim S2x5x9x1x1 ![0, 1, 2] bcast_S2x5x9_S2x5x9x1x1_0_1_2 e0))) (broadcastInDim S2x5x9x1024x1024 ![0, 1, 2, 3, 4] bcast_S2x5x9x1024x1_S2x5x9x1024x1024_0_1_2_3_4 (broadcastInDim S2x5x9x1024x1 ![0, 1, 2, 3] bcast_S2x5x9x1024_S2x5x9x1024x1_0_1_2_3 e1))) (broadcastInDim S2x5x9x1024x1024 ![0, 1, 2, 3, 4] bcast_S2x5x9x1x1024_S2x5x9x1024x1024_0_1_2_3_4 (broadcastInDim S2x5x9x1x1024 ![0, 1, 2, 4] bcast_S2x5x9x1024_S2x5x9x1x1024_0_1_2_4 e1))) (broadcastInDim S2x5x9x1024x1024 ![] bcast_S_S2x5x9x1024x1024 (id (constant S_ .f32 0xFF800000#32)))
/-- The largest score of each query. -/
def mF (s : FVec F S2x5x9x1024x1024 .f32) : FVec F S2x5x9x1024x1 .f32 :=
  broadcastInDim S2x5x9x1024x1 ![0, 1, 2, 3] bcast_S2x5x9x1024_S2x5x9x1024x1_0_1_2_3 (Host.reduce FloatOps.maximumf s (constant S_ .f32 0xFF800000#32) reducesTo_S2x5x9x1024x1024_S2x5x9x1024_d4 h_S_)
/-- The scores less the largest. -/
def dF (s : FVec F S2x5x9x1024x1024 .f32) : FVec F S2x5x9x1024x1024 .f32 :=
  subf s (broadcastInDim S2x5x9x1024x1024 ![0, 1, 2, 3, 4] bcast_S2x5x9x1024x1_S2x5x9x1024x1024_0_1_2_3_4 (mF s))
/-- The logarithm of the sum of the exponentials of those. -/
def lF (s : FVec F S2x5x9x1024x1024 .f32) : FVec F S2x5x9x1024x1 .f32 :=
  Host.log (broadcastInDim S2x5x9x1024x1 ![0, 1, 2, 3] bcast_S2x5x9x1024_S2x5x9x1024x1_0_1_2_3 (Host.reduceAdd (Host.exp (dF s)) (constant S_ .f32 0x00000000#32) reducesTo_S2x5x9x1024x1024_S2x5x9x1024_d4 h_S_))
/-- The log-sum-exp, laid out as returned. -/
def lseF (s : FVec F S2x5x9x1024x1024 .f32) : FVec F S2x1024x45 .f32 :=
  shapeCast _ (transpose S2x1024x5x9 [0, 3, 1, 2] (shapeCast S2x5x9x1024 (addf (mF s) (lF s)) shapeCasts_S2x5x9x1024x1_S2x5x9x1024) transposes_S2x5x9x1024_S2x1024x5x9_0_3_1_2) shapeCasts_S2x1024x5x9_S2x1024x45
/-- The attention output, laid out as returned. -/
def oF (s : FVec F S2x5x9x1024x1024 .f32) (r2 : FVec F S2x1024x5x64 .bf16) (x5 : FVec F S2x5x64 .f32) : FVec F S2x1024x2880 .bf16 :=
  shapeCast _ (transpose S2x1024x5x9x64 [0, 3, 1, 2, 4] (truncf .bf16 (mulf (Host.dotGeneral dot_S2x5x9x1024x1024_S2x5x1024x64_S2x5x9x1024x64_4_2_23_3_01_01 none (truncf .bf16 (Host.exp (subf (dF s) (broadcastInDim S2x5x9x1024x1024 ![0, 1, 2, 3, 4] bcast_S2x5x9x1024x1_S2x5x9x1024x1024_0_1_2_3_4 (lF s)))) bitsLt_bf16_f32) (transpose S2x5x1024x64 [0, 2, 1, 3] r2 transposes_S2x1024x5x64_S2x5x1024x64_0_2_1_3)) (broadcastInDim S2x5x9x1024x64 ![0, 1, 2, 3, 4] bcast_S2x5x1x1x64_S2x5x9x1024x64_0_1_2_3_4 (broadcastInDim S2x5x1x1x64 ![0, 1, 4] bcast_S2x5x64_S2x5x1x1x64_0_1_4 x5))) bitsLt_bf16_f32) transposes_S2x5x9x1024x64_S2x1024x5x9x64_0_3_1_2_4) shapeCasts_S2x1024x5x9x64_S2x1024x2880

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v17_0` (window 3's): not opened here. -/
def reg_main_v17_0 (c : Dev nD) : Buf (Elt F) ((c.tc : Thread nD τ).loc main_v17_0) := (Gen.dats m 0 c).arrAt 3 cfg0.N
/-- What the kernel region leaves in its result array `main_v17_1` (window 4's): not opened here. -/
def reg_main_v17_1 (c : Dev nD) : Buf (Elt F) ((c.tc : Thread nD τ).loc main_v17_1) := (Gen.dats m 0 c).arrAt 4 cfg0.N
/-- What the kernel region leaves in its result array `main_v17_2` (window 5's): not opened here. -/
def reg_main_v17_2 (c : Dev nD) : Buf (Elt F) ((c.tc : Thread nD τ).loc main_v17_2) := (Gen.dats m 0 c).arrAt 5 cfg0.N

/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v17_0`. -/
theorem exit_main_v17_0 (c : Dev nD) : exitV m c (Proc.devRef .tc main_v17_0) = reg_main_v17_0 m c :=
  Pipeline.withArrays_arr spec0 Gen.launch0.win.arr_inj c (Gen.V0 m c) _ 3
/-- The exit contents at the region's result array `main_v17_1`. -/
theorem exit_main_v17_1 (c : Dev nD) : exitV m c (Proc.devRef .tc main_v17_1) = reg_main_v17_1 m c :=
  Pipeline.withArrays_arr spec0 Gen.launch0.win.arr_inj c (Gen.V0 m c) _ 4
/-- The exit contents at the region's result array `main_v17_2`. -/
theorem exit_main_v17_2 (c : Dev nD) : exitV m c (Proc.devRef .tc main_v17_2) = reg_main_v17_2 m c :=
  Pipeline.withArrays_arr spec0 Gen.launch0.win.arr_inj c (Gen.V0 m c) _ 5
set_option maxHeartbeats 2000000 in
/-- The exit contents at `main_v16`, computed before the region. -/
theorem exit_main_v16 (c : Dev nD) : exitV m c (Proc.devRef .tc main_v16) = aF (m ((c.tc : Thread nD τ).loc main_arg1)) (m ((c.tc : Thread nD τ).loc main_arg3)) :=
  (Pipeline.withArrays_of_ne _ c (Gen.V0 m c) _ main_v16 (by exact (by decide : ∀ w, Pipeline.arrRef spec0 w ≠ main_v16))).trans (by
    show Gen.V0 m c (Proc.devRef .tc main_v16) = _
    simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
    after_results_simp <;> rfl)
set_option maxHeartbeats 2000000 in
/-- The exit contents at `main_v10`, computed before the region. -/
theorem exit_main_v10 (c : Dev nD) : exitV m c (Proc.devRef .tc main_v10) = cF (lsF (fF (m ((c.tc : Thread nD τ).loc main_arg6)) (m ((c.tc : Thread nD τ).loc main_arg7)) (m ((c.tc : Thread nD τ).loc main_arg8)))) :=
  (Pipeline.withArrays_of_ne _ c (Gen.V0 m c) _ main_v10 (by exact (by decide : ∀ w, Pipeline.arrRef spec0 w ≠ main_v10))).trans (by
    show Gen.V0 m c (Proc.devRef .tc main_v10) = _
    simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
    after_results_simp <;> rfl)
set_option maxHeartbeats 2000000 in
/-- The exit contents at `main_v4`, computed before the region. -/
theorem exit_main_v4 (c : Dev nD) : exitV m c (Proc.devRef .tc main_v4) = fF (m ((c.tc : Thread nD τ).loc main_arg6)) (m ((c.tc : Thread nD τ).loc main_arg7)) (m ((c.tc : Thread nD τ).loc main_arg8)) :=
  (Pipeline.withArrays_of_ne _ c (Gen.V0 m c) _ main_v4 (by exact (by decide : ∀ w, Pipeline.arrRef spec0 w ≠ main_v4))).trans (by
    show Gen.V0 m c (Proc.devRef .tc main_v4) = _
    simp only [Gen.V0, Gen.hostOps0, Gen.hostOps0_1, Gen.hostOps0_2, Gen.hostOps0_3, Gen.hostOps0_4, TRef.binary, TRef.nullary, TRef.ternary, TRef.unary, TRef.toBuf, TRef.ofBuf, cast_eq, List.flatten_cons, List.flatten_nil, List.append_nil, List.cons_append, List.nil_append]
    after_results_simp <;> rfl)

/-- The results, as functions of the arguments and of what the region leaves. -/
def resO (c : Dev nD) : FVec F S2x1024x2880 .bf16 := oF (sF (reg_main_v17_0 m c) (reg_main_v17_1 m c) (aF (m ((c.tc : Thread nD τ).loc main_arg1)) (m ((c.tc : Thread nD τ).loc main_arg3))) (cF (lsF (fF (m ((c.tc : Thread nD τ).loc main_arg6)) (m ((c.tc : Thread nD τ).loc main_arg7)) (m ((c.tc : Thread nD τ).loc main_arg8)))))) (reg_main_v17_2 m c) (m ((c.tc : Thread nD τ).loc main_arg5))
def resL (c : Dev nD) : FVec F S2x1024x45 .f32 := lseF (sF (reg_main_v17_0 m c) (reg_main_v17_1 m c) (aF (m ((c.tc : Thread nD τ).loc main_arg1)) (m ((c.tc : Thread nD τ).loc main_arg3))) (cF (lsF (fF (m ((c.tc : Thread nD τ).loc main_arg6)) (m ((c.tc : Thread nD τ).loc main_arg7)) (m ((c.tc : Thread nD τ).loc main_arg8))))))
def resF (c : Dev nD) : FVec F S2x1024x45 .f32 := fF (m ((c.tc : Thread nD τ).loc main_arg6)) (m ((c.tc : Thread nD τ).loc main_arg7)) (m ((c.tc : Thread nD τ).loc main_arg8))

set_option maxHeartbeats 4000000 in
theorem tail_main_v62 (V0 : Valuation τ sig (Elt F)) :
    after (List.flatten [Gen.hostOps1, Gen.hostOps1_1, Gen.hostOps1_2]) V0 (Proc.devRef .tc main_v62) = oF (sF (V0 (Proc.devRef .tc main_v17_0)) (V0 (Proc.devRef .tc main_v17_1)) (V0 (Proc.devRef .tc main_v16)) (V0 (Proc.devRef .tc main_v10))) (V0 (Proc.devRef .tc main_v17_2)) (V0 (Proc.devRef .tc main_arg5)) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
theorem fin_main_v62 (c : Dev nD) :
    Pipeline.afterTail₀ cfgs (Gen.dats m) 0 (Gen.V0 m) [Gen.hostOps1, Gen.hostOps1_1, Gen.hostOps1_2] c main_v62 = resO m c := by
  refine (tail_main_v62 (exitV m c)).trans ?_
  rw [exit_main_arg5, exit_main_v17_0, exit_main_v17_1, exit_main_v17_2, exit_main_v16, exit_main_v10]
  rfl

set_option maxHeartbeats 4000000 in
theorem tail_main_v64 (V0 : Valuation τ sig (Elt F)) :
    after (List.flatten [Gen.hostOps1, Gen.hostOps1_1, Gen.hostOps1_2]) V0 (Proc.devRef .tc main_v64) = lseF (sF (V0 (Proc.devRef .tc main_v17_0)) (V0 (Proc.devRef .tc main_v17_1)) (V0 (Proc.devRef .tc main_v16)) (V0 (Proc.devRef .tc main_v10))) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
theorem fin_main_v64 (c : Dev nD) :
    Pipeline.afterTail₀ cfgs (Gen.dats m) 0 (Gen.V0 m) [Gen.hostOps1, Gen.hostOps1_1, Gen.hostOps1_2] c main_v64 = resL m c := by
  refine (tail_main_v64 (exitV m c)).trans ?_
  rw [exit_main_v17_0, exit_main_v17_1, exit_main_v16, exit_main_v10]
  rfl

set_option maxHeartbeats 4000000 in
theorem tail_main_v4 (V0 : Valuation τ sig (Elt F)) :
    after (List.flatten [Gen.hostOps1, Gen.hostOps1_1, Gen.hostOps1_2]) V0 (Proc.devRef .tc main_v4) = (V0 (Proc.devRef .tc main_v4)) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
theorem fin_main_v4 (c : Dev nD) :
    Pipeline.afterTail₀ cfgs (Gen.dats m) 0 (Gen.V0 m) [Gen.hostOps1, Gen.hostOps1_1, Gen.hostOps1_2] c main_v4 = resF m c := by
  refine (tail_main_v4 (exitV m c)).trans ?_
  rw [exit_main_v4]
  rfl

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v62) = resO m c
      ∧ r.2.mem ((c.tc : Thread nD τ).loc main_v64) = resL m c
      ∧ r.2.mem ((c.tc : Thread nD τ).loc main_v4) = resF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v62 (Pipeline.mem_restRefs_of main_v62 (by decide) (by decide))).trans (fin_main_v62 m c),
      ((h c).2 main_v64 (Pipeline.mem_restRefs_of main_v64 (by decide) (by decide))).trans (fin_main_v64 m c),
      ((h c).2 main_v4 (Pipeline.mem_restRefs_of main_v4 (by decide) (by decide))).trans (fin_main_v4 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c),
      ((h c).1 2).trans (((Gen.dats m 0 c).arrAt_in 2 rfl _).trans ((Gen.A_eq m c 2).trans (Gen.V_main_arg4 m c))),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c)⟩) (Gen.run_main m ρ)

end Cert.ReferenceIdeal.Ref
-- ==== Proof.Val.Ref.lean ====
module

public import proofs.«01_k».proof.Proof.Val.RefRun
public import proofs.«01_k».proof.Proof.Val.Consts
public import Idealize.ShloMosaic.Lib.Pointwise

/-! The reference's stages read at an index, over the extended reals. -/

@[expose] public section
set_option maxRecDepth 8192
noncomputable section

namespace Cert.ReferenceIdeal.Ref

open Cert.ReferenceIdeal Cert.ReferenceIdeal.Gen Idealize.ShloMosaic Idealize.ShloMosaic.TcCoe

/-- The logits, -/
theorem fF_apply (x6 : FVec Ideal S2x1024x2880 .bf16) (x7 : FVec Ideal S2880x45 .f32) (x8 : FVec Ideal S45 .f32)
    (b : Fin 2) (s : Fin 1024) (h : Fin 45) :
    fF x6 x7 x8 (ix3 b s h) = (∑ k : Fin 2880, x6 (ix3 b s k) * x7 (ix2 k h)) + x8 (ix1 h) := by
  pointwise [fF]
/-- their log-sigmoid, -/
theorem lsF_apply (f : FVec Ideal S2x1024x45 .f32) (b : Fin 2) (s : Fin 1024) (h : Fin 45) :
    lsF f (ix3 b s h) = Cert.Row.logSig (f (ix3 b s h)) := by
  pointwise [lsF]
  rw [if_neg (fun h => h rfl)]
  rfl
/-- the scale of the scores, -/
theorem aF_apply (x1 : FVec Ideal S2x45 .f32) (x3 : FVec Ideal S2x5 .f32) (b : Fin 2) (kv : Fin 5) (g : Fin 9) :
    aF x1 x3 (ix3 b kv g) = x1 (ix2 b ⟨kv.val * 9 + g.val, by omega⟩) * x3 (ix2 b kv) * Ideal.ofBits .f32 1040187392#32 := by
  pointwise [aF]
theorem run_apply (f : FVec Ideal S2x1024x45 .f32) (b : Fin 2) (s : Fin 1024) (h : Fin 45) :
    Host.reduceWindowAdd ![1, 1024, 1] ![1, 1, 1] ![0, 1023, 0] ![0, 0, 0] f (broadcastInDim S_ ![] bcast_S_S_ (constant S_ .f32 0x00000000#32)) reduceWindows_S2x1024x45_S2x1024x45_w1s1p0_0_w1024s1p1023_0_w1s1p0_0 h_S_ (ix3 b s h)
      = ∑ j : Fin 1024, if j.val ≤ s.val then f (ix3 b j h) else 0 := by
  unfold Host.reduceWindowAdd
  rw [Ideal.hostReduceWindowAdd_def]
  refine Cert.Row.cumsum_mid (n0 := 2) (n2 := 45) f _ ?_ _ b s h
  exact Ideal.ofBits_zero .f32
theorem heads_apply (y : FVec Ideal S2x1024x45 .f32) (b : Fin 2) (kv : Fin 5) (g : Fin 9) (s : Fin 1024) :
    shapeCast S2x5x9x1024 (transpose S2x45x1024 [0, 2, 1] y transposes_S2x1024x45_S2x45x1024_0_2_1) shapeCasts_S2x45x1024_S2x5x9x1024 (ix4 b kv g s)
      = y (ix3 b s ⟨kv.val * 9 + g.val, by omega⟩) := by
  pointwise
/-- the running sum, -/
theorem cF_apply (f : FVec Ideal S2x1024x45 .f32) (b : Fin 2) (kv : Fin 5) (g : Fin 9) (s : Fin 1024) :
    cF f (ix4 b kv g s) = ∑ j : Fin 1024, if j.val ≤ s.val then f (ix3 b j ⟨kv.val * 9 + g.val, by omega⟩) else 0 := by
  unfold cF
  rw [heads_apply, run_apply]
/-- the masked scores, -/
theorem sF_apply (r0 : FVec Ideal S2x1024x45x64 .f32) (r1 : FVec Ideal S2x1024x5x64 .f32) (e0 : FVec Ideal S2x5x9 .f32) (e1 : FVec Ideal S2x5x9x1024 .f32)
    (b : Fin 2) (kv : Fin 5) (g : Fin 9) (i j : Fin 1024) :
    sF r0 r1 e0 e1 (ix5 b kv g i j) = if j.val ≤ i.val then
      ((∑ x : Fin 64, r0 (ix4 b i ⟨kv.val * 9 + g.val, by omega⟩ x) * r1 (ix4 b j kv x)) * e0 (ix3 b kv g) + e1 (ix4 b kv g i)) - e1 (ix4 b kv g j) else ⊥ := by
  pointwise [sF]
  rw [Cert.Row.cmp_le (by omega) (by omega)]
  exact if_congr Iff.rfl rfl Cert.Row.ninf
/-- the largest, the differences from it, and the logarithm of the sum of their exponentials. -/
theorem mF_apply (s : FVec Ideal S2x5x9x1024x1024 .f32) (b : Fin 2) (kv : Fin 5) (g : Fin 9) (i : Fin 1024) :
    mF s (ix5 b kv g i 0) = Cert.Row.top (fun j => s (ix5 b kv g i j)) := by
  pointwise [mF]
  rw [Cert.Row.ninf]
  rfl
theorem dF_apply (s : FVec Ideal S2x5x9x1024x1024 .f32) (b : Fin 2) (kv : Fin 5) (g : Fin 9) (i j : Fin 1024) :
    dF s (ix5 b kv g i j) = s (ix5 b kv g i j) - mF s (ix5 b kv g i 0) := by
  pointwise [dF]
theorem lF_apply (s : FVec Ideal S2x5x9x1024x1024 .f32) (b : Fin 2) (kv : Fin 5) (g : Fin 9) (i : Fin 1024) :
    lF s (ix5 b kv g i 0) = Ideal.log (∑ j, Ideal.exp (dF s (ix5 b kv g i j))) := by
  pointwise [lF]

/-- A head's place among the key heads and its groups. -/
abbrev kvOf (h : Fin 45) : Fin 5 := ⟨h.val / 9, by omega⟩
abbrev gOf (h : Fin 45) : Fin 9 := ⟨h.val % 9, by omega⟩

theorem lse_inner (y : FVec Ideal S2x5x9x1024x1 .f32) (b : Fin 2) (kv : Fin 5) (g : Fin 9) (i : Fin 1024) :
    shapeCast S2x5x9x1024 y shapeCasts_S2x5x9x1024x1_S2x5x9x1024 (ix4 b kv g i) = y (ix5 b kv g i 0) := by
  pointwise
theorem lse_outer (y : FVec Ideal S2x1024x5x9 .f32) (b : Fin 2) (i : Fin 1024) (h : Fin 45) :
    shapeCast S2x1024x45 y shapeCasts_S2x1024x5x9_S2x1024x45 (ix3 b i h) = y (ix4 b i (kvOf h) (gOf h)) := by
  refine shapeCast_apply _ _ _ _ ?_
  rw [Shape.rowMajor_val_four, Shape.rowMajor_val_three]
  show (((b.val * 1024 + i.val) * 5 + h.val / 9) * 9 + h.val % 9) = (b.val * 1024 + i.val) * 45 + h.val
  omega
theorem lse_mid (y : FVec Ideal S2x5x9x1024 .f32) (b : Fin 2) (i : Fin 1024) (kv : Fin 5) (g : Fin 9) :
    transpose S2x1024x5x9 [0, 3, 1, 2] y transposes_S2x5x9x1024_S2x1024x5x9_0_3_1_2 (ix4 b i kv g) = y (ix4 b kv g i) := by
  pointwise
theorem lse_add (x y : FVec Ideal S2x5x9x1024x1 .f32) (i : S2x5x9x1024x1.Idx) : addf x y i = x i + y i := rfl
/-- The log-sum-exp of a query, -/
theorem lseF_apply (s : FVec Ideal S2x5x9x1024x1024 .f32) (b : Fin 2) (i : Fin 1024) (h : Fin 45) :
    lseF s (ix3 b i h) = Cert.Row.rL (fun j => s (ix5 b (kvOf h) (gOf h) i j)) := by
  unfold lseF
  rw [lse_outer, lse_mid, lse_inner]
  rw [lse_add, mF_apply, lF_apply]
  simp only [dF_apply, mF_apply]
  unfold Cert.Row.rL Cert.Row.rDen
  with_reducible rfl
/-- and its output. -/
theorem oF_apply (s : FVec Ideal S2x5x9x1024x1024 .f32) (r2 : FVec Ideal S2x1024x5x64 .bf16) (x5 : FVec Ideal S2x5x64 .f32) (b : Fin 2) (i : Fin 1024) (h : Fin 2880) :
    oF s r2 x5 (ix3 b i h) = Cert.Row.rO (fun j => s (ix5 b ⟨h.val / 576, by omega⟩ ⟨h.val / 64 % 9, by omega⟩ i j))
      (fun j => r2 (ix4 b j ⟨h.val / 576, by omega⟩ ⟨h.val % 64, by omega⟩)) (x5 (ix3 b ⟨h.val / 576, by omega⟩ ⟨h.val % 64, by omega⟩)) := by
  pointwise [oF]
  simp only [lF_apply, dF_apply, mF_apply]
  rfl
end Cert.ReferenceIdeal.Ref
-- ==== Proof.Val.RefArr.lean ====
module

public import proofs.«01_k».proof.Proof.Val.RefRun
public import Idealize.ShloMosaic.Lib.Pipeline.ValueKit.Geometry
public import Idealize.ShloMosaic.Lib.Pipeline.ValueKit.Point

/-! The reference's one kernel region widens the codes: over the extended reals its results are its arguments. -/

@[expose] public section
set_option maxRecDepth 8192
noncomputable section

namespace Cert.ReferenceIdeal.Ref

open Cert.ReferenceIdeal Cert.ReferenceIdeal.Gen Idealize.ShloMosaic Idealize.ShloMosaic.TcCoe

theorem idx0 : ∀ t : Fin cfg0.N, win0_0.index t = ![0, 0, 0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0, 0] := (by decide +kernel : ∀ t : Fin grid0.N, _)
theorem idx5 : ∀ t : Fin cfg0.N, win0_5.index t = ![0, 0, 0, 0] := (by decide +kernel : ∀ t : Fin grid0.N, _)

variable (m : (ℓ : Loc nD τ sig) → Buf (Elt Ideal) ℓ) (c : Dev nD)

theorem iblk0 (t : Fin cfg0.N) : iblk m c 0 t = (m ((c.tc : Thread nD τ).loc main_arg0) : Vec Ideal S2x1024x45x64 .fp8e4m3) := by
  funext y
  blk_simp [iblk]
  rw [V_main_arg0]
  refine congrArg (m ((c.tc : Thread nD τ).loc main_arg0) : Vec Ideal S2x1024x45x64 .fp8e4m3) ?_
  blk_ext [idx0 t]
theorem iblk1 (t : Fin cfg0.N) : iblk m c 1 t = (m ((c.tc : Thread nD τ).loc main_arg2) : Vec Ideal S2x1024x5x64 .fp8e4m3) := by
  funext y
  blk_simp [iblk]
  rw [V_main_arg2]
  refine congrArg (m ((c.tc : Thread nD τ).loc main_arg2) : Vec Ideal S2x1024x5x64 .fp8e4m3) ?_
  blk_ext [idx1 t]
theorem iblk2 (t : Fin cfg0.N) : iblk m c 2 t = (m ((c.tc : Thread nD τ).loc main_arg4) : Vec Ideal S2x1024x5x64 .fp8e4m3) := by
  funext y
  blk_simp [iblk]
  rw [V_main_arg4]
  refine congrArg (m ((c.tc : Thread nD τ).loc main_arg4) : Vec Ideal S2x1024x5x64 .fp8e4m3) ?_
  blk_ext [idx2 t]

theorem o3 (x0 : Vec Ideal S2x1024x45x64 .fp8e4m3) (x1 x2 : Vec Ideal S2x1024x5x64 .fp8e4m3) (y : S2x1024x45x64.Idx) : (out0_3 x0 x1 x2 y : EReal) = x0 y := by
  unfold out0_3
  rw [View.canon_unit_zero (by decide), View.ld_unit_zero (by decide)]
  rfl
theorem o4 (x0 : Vec Ideal S2x1024x45x64 .fp8e4m3) (x1 x2 : Vec Ideal S2x1024x5x64 .fp8e4m3) (y : S2x1024x5x64.Idx) : (out0_4 x0 x1 x2 y : EReal) = x1 y := by
  unfold out0_4
  rw [View.canon_unit_zero (by decide), View.ld_unit_zero (by decide)]
  rfl
theorem o5 (x0 : Vec Ideal S2x1024x45x64 .fp8e4m3) (x1 x2 : Vec Ideal S2x1024x5x64 .fp8e4m3) (y : S2x1024x5x64.Idx) : (out0_5 x0 x1 x2 y : EReal) = x2 y := by
  unfold out0_5
  rw [View.canon_unit_zero (by decide), View.ld_unit_zero (by decide)]
  rfl

/-- The codes as the region leaves them. -/
def q0 : FVec Ideal S2x1024x45x64 .f32 := fun i => (m ((c.tc : Thread nD τ).loc main_arg0) : Vec Ideal S2x1024x45x64 .fp8e4m3) i
def q1 : FVec Ideal S2x1024x5x64 .f32 := fun i => (m ((c.tc : Thread nD τ).loc main_arg2) : Vec Ideal S2x1024x5x64 .fp8e4m3) i
def q2 : FVec Ideal S2x1024x5x64 .bf16 := fun i => (m ((c.tc : Thread nD τ).loc main_arg4) : Vec Ideal S2x1024x5x64 .fp8e4m3) i

theorem reg0 : reg_main_v17_0 m c = q0 m c := by
  unfold reg_main_v17_0
  refine (Gen.dats m 0 c).arrAt_eq_of_covers 3 _ (by decide +kernel) fun t hf y => ?_
  blk_simp
  rw [after0_3]
  have e : ((win0_3.blk t).view.emb y : S2x1024x45x64.Idx) = y := by blk_ext [idx3 t]
  refine Eq.trans ?_ (congrArg (q0 m c) e.symm)
  exact (o3 _ _ _ y).trans (congrFun (iblk0 m c t) y)
theorem reg1 : reg_main_v17_1 m c = q1 m c := by
  unfold reg_main_v17_1
  refine (Gen.dats m 0 c).arrAt_eq_of_covers 4 _ (by decide +kernel) fun t hf y => ?_
  blk_simp
  rw [after0_4]
  have e : ((win0_4.blk t).view.emb y : S2x1024x5x64.Idx) = y := by blk_ext [idx4 t]
  refine Eq.trans ?_ (congrArg (q1 m c) e.symm)
  exact (o4 _ _ _ y).trans (congrFun (iblk1 m c t) y)
theorem reg2 : reg_main_v17_2 m c = q2 m c := by
  unfold reg_main_v17_2
  refine (Gen.dats m 0 c).arrAt_eq_of_covers 5 _ (by decide +kernel) fun t hf y => ?_
  blk_simp
  rw [after0_5]
  have e : ((win0_5.blk t).view.emb y : S2x1024x5x64.Idx) = y := by blk_ext [idx5 t]
  refine Eq.trans ?_ (congrArg (q2 m c) e.symm)
  exact (o5 _ _ _ y).trans (congrFun (iblk2 m c t) y)

end Cert.ReferenceIdeal.Ref
-- ==== Proof.Val.GateVal.lean ====
module

public import proofs.«01_k».proof.Proof.Ideal.GateRows
public import proofs.«01_k».proof.Proof.Val.Reals
public import Idealize.ShloMosaic.Lib.Pipeline.FrameBody

/-! The gate body's values read at an index: the logits are one product with the weights, and the running sum is the sum
of their log-sigmoids. -/

@[expose] public section
set_option maxRecDepth 8192
noncomputable section

namespace Cert.KernelIdeal.GateVal

open Cert.KernelIdeal Cert.KernelIdeal.Gen Cert.KernelIdeal.Gate Cert.Row Idealize.ShloMosaic Idealize.ShloMosaic.TcCoe

theorem pay8_apply (w : Vec Ideal S45x2880 .f32) (h : Fin 45) (k : Fin 2880) : k0_pay8 w (ix2 h k) = w (ix2 h k) := by
  pointwise [k0_pay8, k0_pay5, k0_pay4]
theorem pay9_apply (w : Vec Ideal S45x2880 .f32) (h : Fin 45) (k : Fin 2880) : k0_pay9 w (ix2 h k) = w (ix2 h k) - w (ix2 h k) := by
  pointwise [k0_pay9, k0_pay7, k0_pay6, k0_pay5, k0_pay4]
theorem pay10_apply (w : Vec Ideal S45x2880 .f32) (h : Fin 45) (k : Fin 2880) :
    k0_pay10 w (ix2 h k) = (w (ix2 h k) - w (ix2 h k)) - (w (ix2 h k) - w (ix2 h k)) := by
  pointwise [k0_pay10, k0_pay7, k0_pay6, k0_pay5, k0_pay4]

theorem pay12_apply (w3 : Vec Ideal S144x2880 .bf16) (x : Vec Ideal S1x2880x512 .bf16) (b : Vec Ideal S45x1 .f32) (h : Fin 45) (s : Fin 512) :
    k0_pay12 w3 x b (ix2 h s) = ((∑ k : Fin 2880, w3 (ix2 ⟨h.val, by omega⟩ k) * x (ix3 0 k s))
      + ((∑ k : Fin 2880, w3 (ix2 ⟨48 + h.val, by omega⟩ k) * x (ix3 0 k s)) + ∑ k : Fin 2880, w3 (ix2 ⟨96 + h.val, by omega⟩ k) * x (ix3 0 k s))) + b (ix2 h 0) := by
  pointwise [k0_pay12]

theorem pay63_apply (v : FVec Ideal S45x512 .f32) (h : Fin 45) (s : Fin 512) : k0_pay63 v (ix2 h s) = logSig (v (ix2 h s)) := by
  pointwise [k0_pay63]
  rw [if_neg (fun h => h rfl)]
  simp only [zero_sub]
  rfl
theorem tri_apply (x l : Fin 128) : k0_pay68 (F := Ideal) (ix2 x l) = if x.val ≤ l.val then 1 else 0 := by
  pointwise [k0_pay68]
  by_cases h : x.val ≤ l.val
  · rw [if_pos h, (WordCmp.cmpi_sle_ofNat_eq_one_iff (w := 32) (by omega) (by omega)).2 h]
    show ((((BitVec.setWidth 32 1#1).toInt : ℤ) : ℝ) : EReal) = 1
    rw [show (BitVec.setWidth 32 1#1).toInt = 1 from by decide, Int.cast_one, EReal.coe_one]
  · rw [if_neg h, (WordCmp.cmpi_sle_ofNat_eq_zero_iff (w := 32) (by omega) (by omega)).2 (by omega)]
    show ((((BitVec.setWidth 32 0#1).toInt : ℤ) : ℝ) : EReal) = 0
    rw [show (BitVec.setWidth 32 0#1).toInt = 0 from by decide, Int.cast_zero, EReal.coe_zero]
theorem pre0_apply (a b c : FVec Ideal S45x512 .bf16) (t : FVec Ideal S128x128 .bf16) (h : Fin 45) (l : Fin 128) :
    k0_pay69 a b c t (ix2 h l) = (∑ x : Fin 128, a (ix2 h ⟨x.val, by omega⟩) * t (ix2 x l))
      + ((∑ x : Fin 128, b (ix2 h ⟨x.val, by omega⟩) * t (ix2 x l)) + ∑ x : Fin 128, c (ix2 h ⟨x.val, by omega⟩) * t (ix2 x l)) := by
  pointwise [k0_pay69]
theorem pre1_apply (a b c : FVec Ideal S45x512 .bf16) (t : FVec Ideal S128x128 .bf16) (h : Fin 45) (l : Fin 128) :
    k0_pay124 a b c t (ix2 h l) = (∑ x : Fin 128, a (ix2 h ⟨128 + x.val, by omega⟩) * t (ix2 x l))
      + ((∑ x : Fin 128, b (ix2 h ⟨128 + x.val, by omega⟩) * t (ix2 x l)) + ∑ x : Fin 128, c (ix2 h ⟨128 + x.val, by omega⟩) * t (ix2 x l)) := by
  pointwise [k0_pay124]
theorem pre2_apply (a b c : FVec Ideal S45x512 .bf16) (t : FVec Ideal S128x128 .bf16) (h : Fin 45) (l : Fin 128) :
    k0_pay176 a b c t (ix2 h l) = (∑ x : Fin 128, a (ix2 h ⟨256 + x.val, by omega⟩) * t (ix2 x l))
      + ((∑ x : Fin 128, b (ix2 h ⟨256 + x.val, by omega⟩) * t (ix2 x l)) + ∑ x : Fin 128, c (ix2 h ⟨256 + x.val, by omega⟩) * t (ix2 x l)) := by
  pointwise [k0_pay176]
theorem pre3_apply (a b c : FVec Ideal S45x512 .bf16) (t : FVec Ideal S128x128 .bf16) (h : Fin 45) (l : Fin 128) :
    k0_pay228 a b c t (ix2 h l) = (∑ x : Fin 128, a (ix2 h ⟨384 + x.val, by omega⟩) * t (ix2 x l))
      + ((∑ x : Fin 128, b (ix2 h ⟨384 + x.val, by omega⟩) * t (ix2 x l)) + ∑ x : Fin 128, c (ix2 h ⟨384 + x.val, by omega⟩) * t (ix2 x l)) := by
  pointwise [k0_pay228]
theorem hi_apply (v : FVec Ideal S45x512 .f32) (i) : k0_pay64 v i = k0_pay63 v i := rfl
theorem mi_apply (v : FVec Ideal S45x512 .f32) (i) : k0_pay66 v i = k0_pay63 v i - k0_pay63 v i := rfl
theorem lo_apply (v : FVec Ideal S45x512 .f32) (i) : k0_pay67 v i = (k0_pay63 v i - k0_pay63 v i) - (k0_pay63 v i - k0_pay63 v i) := rfl
theorem b1_apply (b p : FVec Ideal S45x128 .f32) (h : Fin 45) (l : Fin 128) : k0_pay123 b (k0_pay122 p) (ix2 h l) = b (ix2 h l) + p (ix2 h 127) := by
  pointwise [k0_pay123, k0_pay122]
theorem b2_apply (b p : FVec Ideal S45x128 .f32) (h : Fin 45) (l : Fin 128) : k0_pay175 b p (ix2 h l) = b (ix2 h l) + p (ix2 h 127) := by
  pointwise [k0_pay175]
theorem b3_apply (b p : FVec Ideal S45x128 .f32) (h : Fin 45) (l : Fin 128) : k0_pay227 b p (ix2 h l) = b (ix2 h l) + p (ix2 h 127) := by
  pointwise [k0_pay227]
theorem b4_apply (b p : FVec Ideal S45x128 .f32) (h : Fin 45) (l : Fin 128) : k0_pay2 b p (ix2 h l) = b (ix2 h l) + p (ix2 h 127) := by
  pointwise [k0_pay2]
theorem b0_apply (h : Fin 45) (l : Fin 128) : k0_pay11 (F := Ideal) (ix2 h l) = 0 := by
  pointwise [k0_pay11]

/-- Rows 0..44 of the split weights are the weights, -/
theorem split_hi (w : Vec Ideal S45x2880 .f32) (h : Fin 45) (k : Fin 2880) : split w (ix2 ⟨h.val, by omega⟩ k) = k0_pay8 w (ix2 h k) := by
  unfold split w3d w3c w3b
  rw [View.canon_cons_of_not_mem _ _ (by simp only [Rect.mem_set_unit]; intro q; have := (q 0).1; change 96 ≤ h.val at this; omega),
    View.canon_cons_of_not_mem _ _ (by simp only [Rect.mem_set_unit]; intro q; have := (q 0).1; change 48 ≤ h.val at this; omega)]
  have e : (ix2 ⟨h.val, by omega⟩ k : S144x2880.Idx) = (Rect.unit (s := S144x2880) ![0, 0] S46x2880.size inb_S144x2880_S46x2880_0_0).emb (ix2 (n0 := 46) (n1 := 2880) ⟨h.val, by omega⟩ k) := by
    funext a
    refine Fin.ext (Eq.symm ((ValueKit.rect_emb_unit_val _ _ _ _ _).trans ?_))
    match a with
    | ⟨0, _⟩ => exact Nat.zero_add _
    | ⟨1, _⟩ => exact Nat.zero_add _
  rw [e, View.canon_cons_emb]
  pointwise
/-- rows 48..92 their remainder after one rounding, -/
theorem split_mi (w : Vec Ideal S45x2880 .f32) (h : Fin 45) (k : Fin 2880) : split w (ix2 ⟨48 + h.val, by omega⟩ k) = k0_pay9 w (ix2 h k) := by
  unfold split w3d w3c
  rw [View.canon_cons_of_not_mem _ _ (by simp only [Rect.mem_set_unit]; intro q; have := (q 0).1; change 96 ≤ 48 + h.val at this; omega)]
  have e : (ix2 ⟨48 + h.val, by omega⟩ k : S144x2880.Idx) = (Rect.unit (s := S144x2880) ![48, 0] S46x2880.size inb_S144x2880_S46x2880_48_0).emb (ix2 (n0 := 46) (n1 := 2880) ⟨h.val, by omega⟩ k) := by
    funext a
    refine Fin.ext (Eq.symm ((ValueKit.rect_emb_unit_val _ _ _ _ _).trans ?_))
    match a with
    | ⟨0, _⟩ => rfl
    | ⟨1, _⟩ => exact Nat.zero_add _
  rw [e, View.canon_cons_emb]
  pointwise
/-- and rows 96..140 what a second rounding leaves. -/
theorem split_lo (w : Vec Ideal S45x2880 .f32) (h : Fin 45) (k : Fin 2880) : split w (ix2 ⟨96 + h.val, by omega⟩ k) = k0_pay10 w (ix2 h k) := by
  unfold split w3d
  have e : (ix2 ⟨96 + h.val, by omega⟩ k : S144x2880.Idx) = (Rect.unit (s := S144x2880) ![96, 0] S46x2880.size inb_S144x2880_S46x2880_96_0).emb (ix2 (n0 := 46) (n1 := 2880) ⟨h.val, by omega⟩ k) := by
    funext a
    refine Fin.ext (Eq.symm ((ValueKit.rect_emb_unit_val _ _ _ _ _).trans ?_))
    match a with
    | ⟨0, _⟩ => rfl
    | ⟨1, _⟩ => exact Nat.zero_add _
  rw [e, View.canon_cons_emb]
  pointwise

theorem sub_self_coe (r : ℝ) : (r : EReal) - (r : EReal) = 0 := by rw [← EReal.coe_sub, sub_self, EReal.coe_zero]

/-- With real weights the point's logits are one product. -/
theorem fv_apply (x : Vec Ideal S1x2880x512 .bf16) (b : Vec Ideal S45x1 .f32) (w : Vec Ideal S45x2880 .f32) (hw : ∀ i, ∃ r : ℝ, w i = r) (h : Fin 45) (s : Fin 512) :
    fv x b (split w) (ix2 h s) = (∑ k : Fin 2880, w (ix2 h k) * x (ix3 0 k s)) + b (ix2 h 0) := by
  have z : ∀ k, w (ix2 h k) - w (ix2 h k) = 0 := fun k => by obtain ⟨r, hr⟩ := hw (ix2 h k); rw [hr, sub_self_coe]
  unfold fv
  rw [pay12_apply]
  simp only [split_hi, split_mi, split_lo, pay8_apply, pay9_apply, pay10_apply, z, sub_zero, zero_mul, Finset.sum_const_zero, add_zero]

section Sums
variable (v : FVec Ideal S45x512 .f32) (b : Vec Ideal S45x128 .f32) (o : ℕ) (g : Fin 45 → ℕ → ℝ)

/-- The sum of the first `n` terms. -/
def psum (h : Fin 45) (n : ℕ) : ℝ := ∑ j ∈ Finset.range n, g h j

variable (h : Fin 45) (hv : ∀ s : Fin 512, k0_pay63 v (ix2 h s) = (g h (o + s.val) : EReal)) (hb : ∀ l : Fin 128, b (ix2 h l) = (psum g h o : EReal))

/-- A row of terms against the triangle of ones is a running sum. -/
theorem tri_sum (q : ℕ) (a : Fin 128 → EReal) (ha : ∀ x : Fin 128, a x = (g h (q + x.val) : EReal)) (l : Fin 128) :
    (∑ x : Fin 128, a x * k0_pay68 (F := Ideal) (ix2 x l)) = ((psum g h (q + (l.val + 1)) - psum g h q : ℝ) : EReal) := by
  have e1 : ∀ x : Fin 128, a x * k0_pay68 (F := Ideal) (ix2 x l) = ((if x.val < l.val + 1 then g h (q + x.val) else 0 : ℝ) : EReal) := fun x => by
    rw [tri_apply, ha]
    by_cases hx : x.val ≤ l.val
    · rw [if_pos hx, if_pos (by omega), mul_one]
    · rw [if_neg hx, if_neg (by omega), mul_zero, EReal.coe_zero]
  simp only [e1]
  have cs : ∀ f : Fin 128 → ℝ, (∑ x, ((f x : ℝ) : EReal)) = ((∑ x, f x : ℝ) : EReal) := fun f =>
    (map_sum (⟨⟨Real.toEReal, EReal.coe_zero⟩, EReal.coe_add⟩ : ℝ →+ EReal) f Finset.univ).symm
  rw [cs]
  congr 1
  unfold psum
  rw [Finset.sum_range_add, add_sub_cancel_left, Fin.sum_univ_eq_sum_range (fun x => if x < l.val + 1 then g h (q + x) else 0) 128, ← Finset.sum_filter]
  refine Finset.sum_congr (Finset.ext fun x => ?_) fun _ _ => rfl
  simp only [Finset.mem_filter, Finset.mem_range]
  omega

include hv

theorem mi_zero (s : Fin 512) : k0_pay66 v (ix2 h s) = 0 ∧ k0_pay67 v (ix2 h s) = 0 := by
  rw [mi_apply, lo_apply, hv, sub_self_coe, sub_zero]
  exact ⟨rfl, rfl⟩

theorem pre0_eq (l : Fin 128) : pre0 v (ix2 h l) = ((psum g h (o + (l.val + 1)) - psum g h o : ℝ) : EReal) := by
  unfold pre0
  rw [pre0_apply]
  simp only [(mi_zero v o g h hv _).1, (mi_zero v o g h hv _).2, zero_mul, Finset.sum_const_zero, add_zero]
  exact tri_sum g h o _ (fun x => (hi_apply v _).trans (hv _)) l
theorem pre1_eq (l : Fin 128) : pre1 v (ix2 h l) = ((psum g h (o + 128 + (l.val + 1)) - psum g h (o + 128) : ℝ) : EReal) := by
  unfold pre1
  rw [pre1_apply]
  simp only [(mi_zero v o g h hv _).1, (mi_zero v o g h hv _).2, zero_mul, Finset.sum_const_zero, add_zero]
  exact tri_sum g h (o + 128) _ (fun x => ((hi_apply v _).trans (hv _)).trans (by rw [← Nat.add_assoc])) l
theorem pre2_eq (l : Fin 128) : pre2 v (ix2 h l) = ((psum g h (o + 256 + (l.val + 1)) - psum g h (o + 256) : ℝ) : EReal) := by
  unfold pre2
  rw [pre2_apply]
  simp only [(mi_zero v o g h hv _).1, (mi_zero v o g h hv _).2, zero_mul, Finset.sum_const_zero, add_zero]
  exact tri_sum g h (o + 256) _ (fun x => ((hi_apply v _).trans (hv _)).trans (by rw [← Nat.add_assoc])) l
theorem pre3_eq (l : Fin 128) : pre3 v (ix2 h l) = ((psum g h (o + 384 + (l.val + 1)) - psum g h (o + 384) : ℝ) : EReal) := by
  unfold pre3
  rw [pre3_apply]
  simp only [(mi_zero v o g h hv _).1, (mi_zero v o g h hv _).2, zero_mul, Finset.sum_const_zero, add_zero]
  exact tri_sum g h (o + 384) _ (fun x => ((hi_apply v _).trans (hv _)).trans (by rw [← Nat.add_assoc])) l

include hb

theorem base1_eq (l : Fin 128) : base1 v b (ix2 h l) = (psum g h (o + 128) : EReal) := by
  unfold base1
  rw [b1_apply, hb, pre0_eq v o g h hv, ← EReal.coe_add, add_sub_cancel]
  rfl
theorem base2_eq (l : Fin 128) : base2 v b (ix2 h l) = (psum g h (o + 256) : EReal) := by
  unfold base2
  rw [b2_apply, base1_eq v b o g h hv hb, pre1_eq v o g h hv, ← EReal.coe_add, add_sub_cancel]
  rfl
theorem base3_eq (l : Fin 128) : base3 v b (ix2 h l) = (psum g h (o + 384) : EReal) := by
  unfold base3
  rw [b3_apply, base2_eq v b o g h hv hb, pre2_eq v o g h hv, ← EReal.coe_add, add_sub_cancel]
  rfl
/-- The running sum after the point, -/
theorem next_eq (l : Fin 128) : k0_pay2 (base3 v b) (pre3 v) (ix2 h l) = (psum g h (o + 512) : EReal) := by
  rw [b4_apply, base3_eq v b o g h hv hb, pre3_eq v o g h hv, ← EReal.coe_add, add_sub_cancel]
  rfl
/-- and at each of its columns. -/
theorem cG_eq (s : Fin 512) :
    cG (addf (pre0 v) b) (addf (pre1 v) (base1 v b)) (addf (pre2 v) (base2 v b)) (addf (pre3 v) (base3 v b)) (ix4 (n0 := 1) (n1 := 45) (n2 := 1) (n3 := 512) 0 h 0 s)
      = (psum g h (o + (s.val + 1)) : EReal) := by
  have hs := s.isLt
  have key : ∀ (p q : FVec Ideal S45x128 .f32) (l : Fin 128) (A B : ℝ), p (ix2 h l) = ((A - B : ℝ) : EReal) → q (ix2 h l) = (B : EReal) →
      addf p q (ix2 h l) = (A : EReal) := fun p q l A B hp hq => by
    show p (ix2 h l) + q (ix2 h l) = _
    rw [hp, hq, ← EReal.coe_add, sub_add_cancel]
  have e : ∀ q : ℕ, q + s.val % 128 = s.val → psum g h (o + q + (s.val % 128 + 1)) = psum g h (o + (s.val + 1)) := fun q hq => by
    congr 1; omega
  show (if s.val < 128 then _ else if s.val < 256 then _ else if s.val < 384 then _ else _ : FVec Ideal S45x128 .f32) (ix2 h ⟨s.val % 128, Nat.mod_lt _ (by norm_num)⟩) = _
  by_cases h1 : s.val < 128
  · rw [if_pos h1, ← e 0 (by omega)]
    exact key _ _ _ _ _ (pre0_eq v o g h hv _) (hb _)
  · rw [if_neg h1]
    by_cases h2 : s.val < 256
    · rw [if_pos h2, ← e 128 (by omega)]
      exact key _ _ _ _ _ (pre1_eq v o g h hv _) (base1_eq v b o g h hv hb _)
    · rw [if_neg h2]
      by_cases h3 : s.val < 384
      · rw [if_pos h3, ← e 256 (by omega)]
        exact key _ _ _ _ _ (pre2_eq v o g h hv _) (base2_eq v b o g h hv hb _)
      · rw [if_neg h3, ← e 384 (by omega)]
        exact key _ _ _ _ _ (pre3_eq v o g h hv _) (base3_eq v b o g h hv hb _)
end Sums

section Bot
variable (v : FVec Ideal S45x512 .f32) (h : Fin 45) (hv : ∀ s : Fin 512, k0_pay63 v (ix2 h s) = ⊥)
include hv

/-- A head whose terms are all `⊥` has sums `⊥`. -/
theorem tri_bot (q : Fin 128 → Fin 512) (l : Fin 128) (y : EReal) : (∑ x : Fin 128, k0_pay64 v (ix2 h (q x)) * k0_pay68 (F := Ideal) (ix2 x l)) + y = ⊥ := by
  rw [sum_bot _ 0 (by rw [hi_apply, hv, tri_apply, if_pos (show (0 : Fin 128).val ≤ l.val from Nat.zero_le _), mul_one]), EReal.bot_add]
theorem pre0_bot (l : Fin 128) : pre0 v (ix2 h l) = ⊥ := by
  unfold pre0
  rw [pre0_apply]
  exact tri_bot v h hv _ l _
theorem pre1_bot (l : Fin 128) : pre1 v (ix2 h l) = ⊥ := by
  unfold pre1
  rw [pre1_apply]
  exact tri_bot v h hv _ l _
theorem pre2_bot (l : Fin 128) : pre2 v (ix2 h l) = ⊥ := by
  unfold pre2
  rw [pre2_apply]
  exact tri_bot v h hv _ l _
theorem pre3_bot (l : Fin 128) : pre3 v (ix2 h l) = ⊥ := by
  unfold pre3
  rw [pre3_apply]
  exact tri_bot v h hv _ l _
theorem cG_bot (b : Vec Ideal S45x128 .f32) (s : Fin 512) :
    cG (addf (pre0 v) b) (addf (pre1 v) (base1 v b)) (addf (pre2 v) (base2 v b)) (addf (pre3 v) (base3 v b)) (ix4 (n0 := 1) (n1 := 45) (n2 := 1) (n3 := 512) 0 h 0 s) = ⊥ := by
  have key : ∀ (p q : FVec Ideal S45x128 .f32) (l : Fin 128), p (ix2 h l) = ⊥ → addf p q (ix2 h l) = (⊥ : EReal) := fun p q l hp => by
    show p (ix2 h l) + q (ix2 h l) = _
    rw [hp, EReal.bot_add]
  show (if s.val < 128 then _ else if s.val < 256 then _ else if s.val < 384 then _ else _ : FVec Ideal S45x128 .f32) (ix2 h ⟨s.val % 128, Nat.mod_lt _ (by norm_num)⟩) = _
  by_cases h1 : s.val < 128
  · rw [if_pos h1]
    exact key _ _ _ (pre0_bot v h hv _)
  · rw [if_neg h1]
    by_cases h2 : s.val < 256
    · rw [if_pos h2]
      exact key _ _ _ (pre1_bot v h hv _)
    · rw [if_neg h2]
      by_cases h3 : s.val < 384
      · rw [if_pos h3]
        exact key _ _ _ (pre2_bot v h hv _)
      · rw [if_neg h3]
        exact key _ _ _ (pre3_bot v h hv _)
end Bot

end Cert.KernelIdeal.GateVal
-- ==== Proof.Val.GateArr.lean ====
module

public import proofs.«01_k».proof.Proof.Ideal.GateRun
public import proofs.«01_k».proof.Proof.Val.GateVal
public import proofs.«01_k».proof.Proof.Val.Reals
public import Idealize.ShloMosaic.Lib.Pipeline.ValueKit.Geometry
public import Idealize.ShloMosaic.Lib.Pipeline.ValueKit.Point

/-! The gate call's two result arrays, from what each of its points leaves in its blocks. -/

@[expose] public section
set_option maxRecDepth 8192
noncomputable section

namespace Cert.KernelIdeal.GateArr

open Cert.KernelIdeal Cert.KernelIdeal.Gen Cert.KernelIdeal.Gate Cert.KernelIdeal.GateVal Cert.Row Idealize.ShloMosaic Idealize.ShloMosaic.TcCoe

theorem idx0 : ∀ t : Fin cfg0.N, win0_0.index t = ![t.val / 2, 0, t.val % 2] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 2, 0, 0, t.val % 2] := (by decide +kernel : ∀ t : Fin grid0.N, _)
theorem idx4 : ∀ t : Fin cfg0.N, win0_4.index t = ![t.val / 2, 0, 0, t.val % 2] := (by decide +kernel : ∀ t : Fin grid0.N, _)
theorem lt4 (t : Fin cfg0.N) : t.val < 4 := lt_of_lt_of_eq t.isLt N_0

variable (W : Dev nD → Valuation τ sig (Elt Ideal)) (c : Dev nD)

/-- A block's index by its head and its column. -/
theorem blk_ix (y : S1x45x1x512.Idx) : ∃ (h : Fin 45) (s : Fin 512), y = ix4 (n0 := 1) (n1 := 45) (n2 := 1) (n3 := 512) 0 h 0 s := by
  refine ⟨y 1, y 3, ?_⟩
  funext a
  match a with
  | ⟨0, _⟩ => exact Subsingleton.elim (α := Fin 1) _ _
  | ⟨1, _⟩ => rfl
  | ⟨2, _⟩ => exact Subsingleton.elim (α := Fin 1) _ _
  | ⟨3, _⟩ => rfl

/-- The three operand arrays. -/
abbrev X : Vec Ideal S2x2880x1024 .bf16 := W c (Proc.devRef .tc main_v4)
abbrev Wt : Vec Ideal S45x2880 .f32 := W c (Proc.devRef .tc main_v5)
abbrev B : Vec Ideal S45x1 .f32 := W c (Proc.devRef .tc main_v6)

/-- A point's batch, and a column's place in the sequence. -/
def bt (t : Fin cfg0.N) : Fin 2 := ⟨t.val / 2, by have := lt4 t; omega⟩
def pos (t : Fin cfg0.N) (s : Fin 512) : Fin 1024 := ⟨512 * (t.val % 2) + s.val, by omega⟩

theorem iblk0 (t : Fin cfg0.N) (k : Fin 2880) (s : Fin 512) :
    iblk W c 0 t (ix3 (n0 := 1) (n1 := 2880) (n2 := 512) 0 k s) = X W c (ix3 (bt t) k (pos t s)) := by
  blk_simp [iblk]
  refine congrArg (X W c) ?_
  unfold bt pos
  blk_ext [idx0 t]
theorem iblk1 (t : Fin cfg0.N) : iblk W c 1 t = Wt W c := by
  funext y
  blk_simp [iblk]
  refine congrArg (Wt W c) ?_
  blk_ext [idx1 t]
theorem iblk2 (t : Fin cfg0.N) : iblk W c 2 t = B W c := by
  funext y
  blk_simp [iblk]
  refine congrArg (B W c) ?_
  blk_ext [idx2 t]

/-- The logit of head `h` at position `p`. -/
def lgt (b : Fin 2) (h : Fin 45) (p : Fin 1024) : EReal := (∑ k : Fin 2880, Wt W c (ix2 h k) * X W c (ix3 b k p)) + B W c (ix2 h 0)

variable (hW : ∀ i, Re (Wt W c i)) (hX : ∀ i, Re (X W c i))

include hW

theorem fv_at (t : Fin cfg0.N) (h : Fin 45) (s : Fin 512) : fv (iblk W c 0 t) (iblk W c 2 t) (ws W c) (ix2 h s) = lgt W c (bt t) h (pos t s) := by
  unfold ws
  rw [iblk1, iblk2, fv_apply _ _ _ hW]
  simp only [iblk0]
  rfl

/-- The logits' array. -/
theorem arr3 : (dats W c).arrAt 3 cfg0.N = fun y : S2x45x1x1024.Idx => lgt W c (y 0) (y 1) (y 3) := by
  refine (dats W c).arrAt_eq_of_covers 3 _ (by decide +kernel) fun t hf y => ?_
  blk_simp
  rw [after_3]
  obtain ⟨h, s, rfl⟩ : ∃ (h : Fin 45) (s : Fin 512), y = ix4 (n0 := 1) (n1 := 45) (n2 := 1) (n3 := 512) 0 h 0 s := blk_ix y
  have e : ((win0_3.blk t).view.emb (ix4 (n0 := 1) (n1 := 45) (n2 := 1) (n3 := 512) 0 h 0 s) : S2x45x1x1024.Idx) = ix4 (bt t) h 0 (pos t s) := by
    unfold bt pos
    blk_ext [idx3 t]
  refine Eq.trans ?_ (congrArg (fun y : S2x45x1x1024.Idx => lgt W c (y 0) (y 1) (y 3)) e.symm)
  exact fv_at W c hW t h s

omit hW in
theorem ne_lgt (hW : ∀ i, Re (Wt W c i)) (hX : ∀ i, Re (X W c i)) (b : Fin 2) (h : Fin 45) (hB : B W c (ix2 h 0) ≠ ⊥) (p : Fin 1024) : lgt W c b h p ≠ ⊥ :=
  re_add_ne (Re.sum fun k => Re.mul (hW _) (hX _)) hB
omit hW in
/-- A head whose bias is `⊥` has no other logit. -/
theorem bot_lgt (b : Fin 2) (h : Fin 45) (hB : B W c (ix2 h 0) = ⊥) (p : Fin 1024) : lgt W c b h p = ⊥ := by
  unfold lgt
  rw [hB, EReal.add_bot]

/-- The gate's logarithms as reals, zero beyond the sequence. -/
def gR (b : Fin 2) (h : Fin 45) (n : ℕ) : ℝ := if hn : n < 1024 then (logSig (lgt W c b h ⟨n, hn⟩)).toReal else 0

theorem pay_bot (t : Fin cfg0.N) (h : Fin 45) (hB : B W c (ix2 h 0) = ⊥) (s : Fin 512) :
    k0_pay63 (fv (iblk W c 0 t) (iblk W c 2 t) (ws W c)) (ix2 h s) = ⊥ := by
  rw [pay63_apply, fv_at W c hW, bot_lgt W c _ _ hB, logSig_bot]

include hX

theorem gR_eq (b : Fin 2) (h : Fin 45) (hB : B W c (ix2 h 0) ≠ ⊥) (p : Fin 1024) : logSig (lgt W c b h p) = (gR W c b h p.val : EReal) := by
  obtain ⟨r, hr⟩ := logSig_of_ne (ne_lgt W c hW hX b h hB p)
  unfold gR
  rw [dif_pos p.isLt, Fin.eta, hr, EReal.toReal_coe]

theorem pay_at (t : Fin cfg0.N) (h : Fin 45) (hB : B W c (ix2 h 0) ≠ ⊥) (s : Fin 512) :
    k0_pay63 (fv (iblk W c 0 t) (iblk W c 2 t) (ws W c)) (ix2 h s) = (gR W c (bt t) h (512 * (t.val % 2) + s.val) : EReal) := by
  rw [pay63_apply, fv_at W c hW]
  exact gR_eq W c hW hX (bt t) h hB (pos t s)

/-- The sum carried into a point is the sum of everything before its first column. -/
theorem cin_eq (t : Fin cfg0.N) (h : Fin 45) (hB : B W c (ix2 h 0) ≠ ⊥) (l : Fin 128) : cin W c t.val (ix2 h l) = (psum (gR W c (bt t)) h (512 * (t.val % 2)) : EReal) := by
  have h4 := lt4 t
  unfold cin
  by_cases h0 : t.val % 2 = 0
  · rw [if_pos h0, b0_apply, h0]
    simp [psum]
  · have hp : (pt (t.val - 1)).val = t.val - 1 := by
      have := pt_val ⟨t.val - 1, lt_of_le_of_lt (Nat.sub_le _ _) t.isLt⟩
      exact congrArg Fin.val this
    have hb : bt (pt (t.val - 1)) = bt t := by
      apply Fin.ext; show (pt (t.val - 1)).val / 2 = t.val / 2; omega
    have hz : 512 * ((pt (t.val - 1)).val % 2) = 0 := by omega
    rw [if_neg h0]
    unfold next
    have hv := pay_at W c hW hX (pt (t.val - 1)) h hB
    rw [hb, hz] at hv
    rw [next_eq _ _ 0 (gR W c (bt t)) h hv (fun l => by rw [b0_apply]; simp [psum]) l]
    have : 512 * (t.val % 2) = 0 + 512 := by omega
    rw [this]

/-- What a point leaves of the running sums. -/
theorem cG_at (t : Fin cfg0.N) (h : Fin 45) (hB : B W c (ix2 h 0) ≠ ⊥) (s : Fin 512) :
    outC (iblk W c 0 t) (iblk W c 2 t) (ws W c) (cin W c t.val) (ix4 0 h 0 s) = (psum (gR W c (bt t)) h ((pos t s).val + 1) : EReal) := by
  have e := cG_eq _ _ (512 * (t.val % 2)) (gR W c (bt t)) h (pay_at W c hW hX t h hB) (cin_eq W c hW hX t h hB) s
  rw [← Nat.add_assoc] at e
  exact e

omit hX in
theorem cG_at_bot (t : Fin cfg0.N) (h : Fin 45) (hB : B W c (ix2 h 0) = ⊥) (s : Fin 512) :
    outC (iblk W c 0 t) (iblk W c 2 t) (ws W c) (cin W c t.val) (ix4 0 h 0 s) = ⊥ :=
  cG_bot _ h (pay_bot W c hW t h hB) _ s

omit hW hX in
/-- The running sums by place. -/
def run (y : S2x45x1x1024.Idx) : EReal := if B W c (ix2 (n0 := 45) (n1 := 1) (y 1) 0) = ⊥ then ⊥ else (psum (gR W c (y 0)) (y 1) ((y 3).val + 1) : ℝ)

/-- The running sums' array. -/
theorem arr4 : (dats W c).arrAt 4 cfg0.N = run W c := by
  refine (dats W c).arrAt_eq_of_covers 4 _ (by decide +kernel) fun t hf y => ?_
  blk_simp
  rw [after_4]
  obtain ⟨h, s, rfl⟩ : ∃ (h : Fin 45) (s : Fin 512), y = ix4 (n0 := 1) (n1 := 45) (n2 := 1) (n3 := 512) 0 h 0 s := blk_ix y
  have e : ((win0_4.blk t).view.emb (ix4 (n0 := 1) (n1 := 45) (n2 := 1) (n3 := 512) 0 h 0 s) : S2x45x1x1024.Idx) = ix4 (bt t) h 0 (pos t s) := by
    unfold bt pos
    blk_ext [idx4 t]
  refine Eq.trans ?_ (congrArg (run W c) e.symm)
  by_cases hB : B W c (ix2 h 0) = ⊥
  · exact (cG_at_bot W c hW t h hB s).trans (if_pos hB).symm
  · exact (cG_at W c hW hX t h hB s).trans (if_neg hB).symm

end Cert.KernelIdeal.GateArr
-- ==== Proof.Val.AttnVal.lean ====
module

public import proofs.«01_k».proof.Proof.Gen.KernelIdeal.Skeleton
public import proofs.«01_k».proof.Proof.Val.Consts

/-! The attention body's values read at an index: each query block's output and log-sum-exp are the row functions of
its masked, scaled scores. -/

@[expose] public section
set_option maxRecDepth 8192
noncomputable section

namespace Cert.KernelIdeal.AttnVal

open Cert.KernelIdeal Cert.KernelIdeal.Gen Cert.Row Idealize.ShloMosaic Idealize.ShloMosaic.TcCoe

/-- One head's scaled score of key `r` and query `l`, under the causal mask. -/
abbrev masked (q0 : ℕ) {n : ℕ} (s c : Fin n → EReal) (l : Fin 256) (k : Fin n) : EReal :=
  if k.val ≤ q0 + l.val then s k - c k else ⊥

theorem named_log2e : Named.named (F := Ideal) (φ := .f32) κ "log2e" 1069066811#32 = ((L : ℝ) : EReal) :=
  IdealRules.named_const.ideal_named_scalar _ _ _ _ rfl
theorem named_ln2 : Named.named (F := Ideal) (φ := .f32) κ "ln2" 1060205080#32 = ((Real.log 2 : ℝ) : EReal) :=
  IdealRules.named_const.ideal_named_scalar _ _ _ _ rfl

/-- Two rows of 128 side by side hold one. -/
theorem dlane (f : Fin 128 → EReal) (l : Fin 256) :
    (if h : l.val < 128 then f ⟨l.val, h⟩ else f ⟨l.val - 128, by omega⟩) = f (lane l) := by
  split
  · exact congrArg f (Fin.ext (Nat.mod_eq_of_lt ‹_›).symm)
  · exact congrArg f (Fin.ext (by unfold lane; simp only; omega))

/-- Only the last 256 keys of a block need the comparison. -/
theorem mask_cut {n : ℕ} (q0 : ℕ) (hq : q0 + 256 = n) (hn : n ≤ 1024) (F : Fin n → EReal) (r : Fin n) (l : Fin 256) :
    (if _ : r.val < q0 then F r else
      Scalar.select (IntOp.cmpi .sle (BitVec.ofNat 32 (r.val - q0)) (BitVec.ofNat 32 l.val)) (F ⟨q0 + (r.val - q0), by omega⟩) (Ideal.ofBits .f32 4286578688#32))
      = if r.val ≤ q0 + l.val then F r else ⊥ := by
  have hr := r.isLt
  have hl := l.isLt
  split
  · rw [if_pos (by omega)]
  · rw [cmp_le (by omega) (by omega), ninf, show (⟨q0 + (r.val - q0), by omega⟩ : Fin n) = r from Fin.ext (by simp only; omega)]
    exact if_congr (by omega) rfl rfl

/-- The first block's masked scores, -/
theorem t0_apply (a : Ideal .f32) (K : Vec Ideal S256x64 .fp8e4m3) (Q : Vec Ideal S1x1x64x256 .fp8e4m3) (C : Vec Ideal S256x128 .f32) (r l : Fin 256) :
    k1_pay18 (k1_pay16 a K Q C) k1_pay17 (ix2 r l)
      = masked 0 (fun r => (∑ x : Fin 64, K (ix2 r x) * Q (ix4 0 0 x l)) * a) (fun r => C (ix2 r (lane l))) l r := by
  pointwise [k1_pay16, k1_pay17, k1_pay18]
  rw [cmp_le (by omega) (by omega), ninf, dlane (fun z => C (ix2 r z))]
  exact if_congr (by omega) rfl rfl
/-- the second's, -/
theorem t1_apply (a : Ideal .f32) (K : Vec Ideal S512x64 .fp8e4m3) (Q : Vec Ideal S1x1x64x256 .fp8e4m3) (C : Vec Ideal S512x128 .f32) (r : Fin 512) (l : Fin 256) :
    k1_pay24 a K Q C (ix2 r l)
      = masked 256 (fun r => (∑ x : Fin 64, K (ix2 r x) * Q (ix4 0 0 x l)) * a) (fun r => C (ix2 r (lane l))) l r := by
  pointwise [k1_pay24]
  refine (mask_cut 256 rfl (by norm_num) (fun r : Fin 512 => (∑ x : Fin 64, K (ix2 r x) * Q (ix4 0 0 x l)) * a
    - if h : l.val < 128 then C (ix2 r ⟨l.val, h⟩) else C (ix2 r ⟨l.val - 128, by omega⟩)) r l).trans ?_
  rw [dlane (fun z => C (ix2 r z))]
/-- the third's, -/
theorem t2_apply (a : Ideal .f32) (K : Vec Ideal S768x64 .fp8e4m3) (Q : Vec Ideal S1x1x64x256 .fp8e4m3) (C : Vec Ideal S768x128 .f32) (r : Fin 768) (l : Fin 256) :
    k1_pay30 a K Q C (ix2 r l)
      = masked 512 (fun r => (∑ x : Fin 64, K (ix2 r x) * Q (ix4 0 0 x l)) * a) (fun r => C (ix2 r (lane l))) l r := by
  pointwise [k1_pay30]
  refine (mask_cut 512 rfl (by norm_num) (fun r : Fin 768 => (∑ x : Fin 64, K (ix2 r x) * Q (ix4 0 0 x l)) * a
    - if h : l.val < 128 then C (ix2 r ⟨l.val, h⟩) else C (ix2 r ⟨l.val - 128, by omega⟩)) r l).trans ?_
  rw [dlane (fun z => C (ix2 r z))]
/-- the fourth's, -/
theorem t3_apply (a : Ideal .f32) (K : Vec Ideal S1024x64 .fp8e4m3) (Q : Vec Ideal S1x1x64x256 .fp8e4m3) (C : Vec Ideal S1024x128 .f32) (r : Fin 1024) (l : Fin 256) :
    k1_pay37 a (k1_pay36 K Q) C (ix2 r l)
      = masked 768 (fun r => (∑ x : Fin 64, K (ix2 r x) * Q (ix4 0 0 x l)) * a) (fun r => C (ix2 r (lane l))) l r := by
  pointwise [k1_pay36, k1_pay37]
  refine (mask_cut 768 rfl (by norm_num) (fun r : Fin 1024 => (∑ x : Fin 64, K (ix2 r x) * Q (ix4 0 0 x l)) * a
    - if h : l.val < 128 then C (ix2 r ⟨l.val, h⟩) else C (ix2 r ⟨l.val - 128, by omega⟩)) r l).trans ?_
  rw [dlane (fun z => C (ix2 r z))]
/-- The first block's output and log-sum-exp from its masked scores. -/
theorem o0_apply (t : FVec Ideal S256x256 .f32) (M : IVec S256x256 1) (V : Vec Ideal S64x256 .bf16) (vs : Vec Ideal S64x128 .f32) (r : Fin 64) (l : Fin 256) :
    k1_pay22 t M V vs (ix4 0 0 r l) = kO (fun k => k1_pay18 t M (ix2 k l)) (fun k => V (ix2 r k)) (vs (ix2 r (lane l))) := by
  pointwise [k1_pay22, k1_pay21, k1_pay20, k1_pay19]
  rw [dlane (fun z => vs (ix2 r z)), ninf]
  rfl
theorem l0_apply (t : FVec Ideal S256x256 .f32) (M : IVec S256x256 1) (c : Vec Ideal S1x1x1x256 .f32) (l : Fin 256) :
    k1_pay23 t M c (ix4 0 0 0 l) = kL (fun k => k1_pay18 t M (ix2 k l)) (c (ix4 0 0 0 l)) := by
  pointwise [k1_pay23, k1_pay21, k1_pay20, k1_pay19]
  rw [ninf, named_ln2, named_log2e]
  rfl
/-- The second block's output and log-sum-exp from its masked scores. -/
theorem o1_apply (a : Ideal .f32) (K : Vec Ideal S512x64 .fp8e4m3) (Q : Vec Ideal S1x1x64x256 .fp8e4m3) (C : Vec Ideal S512x128 .f32) (V : Vec Ideal S64x512 .bf16) (vs : Vec Ideal S64x128 .f32) (r : Fin 64) (l : Fin 256) :
    k1_pay28 a K Q C V vs (ix4 0 0 r l) = kO (fun k => k1_pay24 a K Q C (ix2 k l)) (fun k => V (ix2 r k)) (vs (ix2 r (lane l))) := by
  pointwise [k1_pay28, k1_pay27, k1_pay26, k1_pay25]
  rw [dlane (fun z => vs (ix2 r z)), ninf]
  rfl
theorem l1_apply (a : Ideal .f32) (K : Vec Ideal S512x64 .fp8e4m3) (Q : Vec Ideal S1x1x64x256 .fp8e4m3) (C : Vec Ideal S512x128 .f32) (c : Vec Ideal S1x1x1x256 .f32) (l : Fin 256) :
    k1_pay29 (k1_pay25 a K Q C) (k1_pay27 a K Q C) c (ix4 0 0 0 l) = kL (fun k => k1_pay24 a K Q C (ix2 k l)) (c (ix4 0 0 0 l)) := by
  pointwise [k1_pay29, k1_pay27, k1_pay26, k1_pay25]
  rw [ninf, named_ln2, named_log2e]
  rfl
/-- The third block's output and log-sum-exp from its masked scores. -/
theorem o2_apply (a : Ideal .f32) (K : Vec Ideal S768x64 .fp8e4m3) (Q : Vec Ideal S1x1x64x256 .fp8e4m3) (C : Vec Ideal S768x128 .f32) (V : Vec Ideal S64x768 .bf16) (vs : Vec Ideal S64x128 .f32) (r : Fin 64) (l : Fin 256) :
    k1_pay34 (k1_pay32 a K Q C) (k1_pay33 a K Q C) V vs (ix4 0 0 r l) = kO (fun k => k1_pay30 a K Q C (ix2 k l)) (fun k => V (ix2 r k)) (vs (ix2 r (lane l))) := by
  pointwise [k1_pay34, k1_pay33, k1_pay32, k1_pay31]
  rw [dlane (fun z => vs (ix2 r z)), ninf]
  rfl
theorem l2_apply (a : Ideal .f32) (K : Vec Ideal S768x64 .fp8e4m3) (Q : Vec Ideal S1x1x64x256 .fp8e4m3) (C : Vec Ideal S768x128 .f32) (c : Vec Ideal S1x1x1x256 .f32) (l : Fin 256) :
    k1_pay35 (k1_pay31 a K Q C) (k1_pay33 a K Q C) c (ix4 0 0 0 l) = kL (fun k => k1_pay30 a K Q C (ix2 k l)) (c (ix4 0 0 0 l)) := by
  pointwise [k1_pay35, k1_pay33, k1_pay32, k1_pay31]
  rw [ninf, named_ln2, named_log2e]
  rfl
/-- The fourth block's output and log-sum-exp from its masked scores. -/
theorem o3_apply (a : Ideal .f32) (s : FVec Ideal S1024x256 .f32) (C : Vec Ideal S1024x128 .f32) (V : Vec Ideal S64x1024 .bf16) (vs : Vec Ideal S64x128 .f32) (r : Fin 64) (l : Fin 256) :
    k1_pay41 a s C V vs (ix4 0 0 r l) = kO (fun k => k1_pay37 a s C (ix2 k l)) (fun k => V (ix2 r k)) (vs (ix2 r (lane l))) := by
  pointwise [k1_pay41, k1_pay40, k1_pay39, k1_pay38]
  rw [dlane (fun z => vs (ix2 r z)), ninf]
  rfl
theorem l3_apply (a : Ideal .f32) (s : FVec Ideal S1024x256 .f32) (C : Vec Ideal S1024x128 .f32) (c : Vec Ideal S1x1x1x256 .f32) (l : Fin 256) :
    k1_pay4 (k1_pay42 a s C) c (ix4 0 0 0 l) = kL (fun k => k1_pay37 a s C (ix2 k l)) (c (ix4 0 0 0 l)) := by
  pointwise [k1_pay4, k1_pay42, k1_pay40, k1_pay39, k1_pay38]
  rw [ninf, named_ln2, named_log2e]
  rfl

/-- What a point prepares: the keys transposed, the values as they are, the value scales along every lane. -/
theorem kt_apply (v : Vec Ideal S1x1x64x1024 .fp8e4m3) (r : Fin 1024) (d : Fin 64) : k1_pay1 v (ix2 r d) = v (ix4 0 0 d r) := by
  pointwise [k1_pay1]
theorem vt_apply (v : Vec Ideal S1x1x64x1024 .fp8e4m3) (r : Fin 1024) (d : Fin 64) : k1_pay2 v (ix2 d r) = v (ix4 0 0 d r) := by
  pointwise [k1_pay2]
theorem vs_apply (v : Vec Ideal S1x1x64 .f32) (d : Fin 64) (l : Fin 128) : k1_pay3 v (ix2 d l) = v (ix3 0 0 d) := by
  pointwise [k1_pay3]
theorem scl_apply (x y : Ideal .f32) : k1_pay5 x y = (x * y * Ideal.ofBits .f32 1040187392#32) * ((L : ℝ) : EReal) := by
  rw [← named_log2e]; rfl
theorem cb0_apply (v : Vec Ideal S1x1x1x128 .f32) (r l : Fin 128) : k1_pay6 v (ix2 r l) = v (ix4 0 0 0 r) * ((L : ℝ) : EReal) := by
  pointwise [k1_pay6]
  rw [named_log2e]
theorem cb1_apply (v : Vec Ideal S1x1x1x128 .f32) (r l : Fin 128) : k1_pay7 v (ix2 r l) = v (ix4 0 0 0 r) * ((L : ℝ) : EReal) := by
  pointwise [k1_pay7]
  rw [named_log2e]
theorem cb2_apply (v : Vec Ideal S1x1x1x128 .f32) (r l : Fin 128) : k1_pay9 (k1_pay8 v) (ix2 r l) = v (ix4 0 0 0 r) * ((L : ℝ) : EReal) := by
  pointwise [k1_pay9, k1_pay8]
  rw [named_log2e]
theorem cb3_apply (v : Vec Ideal S1x1x1x128 .f32) (r l : Fin 128) : k1_pay10 v (ix2 r l) = v (ix4 0 0 0 r) * ((L : ℝ) : EReal) := by
  pointwise [k1_pay10]
  rw [named_log2e]
theorem cb4_apply (v : Vec Ideal S1x1x1x128 .f32) (r l : Fin 128) : k1_pay11 v (ix2 r l) = v (ix4 0 0 0 r) * ((L : ℝ) : EReal) := by
  pointwise [k1_pay11]
  rw [named_log2e]
theorem cb5_apply (v : Vec Ideal S1x1x1x128 .f32) (r l : Fin 128) : k1_pay13 (k1_pay12 v) (ix2 r l) = v (ix4 0 0 0 r) * ((L : ℝ) : EReal) := by
  pointwise [k1_pay13, k1_pay12]
  rw [named_log2e]
theorem cb6_apply (v : Vec Ideal S1x1x1x128 .f32) (r l : Fin 128) : k1_pay14 v (ix2 r l) = v (ix4 0 0 0 r) * ((L : ℝ) : EReal) := by
  pointwise [k1_pay14]
  rw [named_log2e]
theorem cb7_apply (v : Vec Ideal S1x1x1x128 .f32) (r l : Fin 128) : k1_pay15 v (ix2 r l) = v (ix4 0 0 0 r) * ((L : ℝ) : EReal) := by
  pointwise [k1_pay15]
  rw [named_log2e]

end Cert.KernelIdeal.AttnVal
-- ==== Proof.Val.AttnOut.lean ====
module

public import proofs.«01_k».proof.Proof.Ideal.AttnBody
public import proofs.«01_k».proof.Proof.Val.AttnVal
public import Idealize.ShloMosaic.Lib.Ring

/-! What a grid point of the attention call leaves in its blocks, element by element: the rows of the softmax over the
keys up to the query. -/

@[expose] public section
set_option maxRecDepth 8192
noncomputable section

namespace Cert.KernelIdeal.AttnOut

open Cert.KernelIdeal Cert.KernelIdeal.Gen Cert.KernelIdeal.Attn Cert.KernelIdeal.AttnVal Cert.Row Idealize.ShloMosaic Idealize.ShloMosaic.TcCoe

/-- A load of part of a block reads the block there. -/
theorem ld_at {s : Shape} {e : EltTy} (X : Vec Ideal s e) (off size : Fin s.rank → ℕ) (inb : ∀ a, off a + size a ≤ s.size a)
    (x : (Rect.unit (s := s) off size inb).shape.Idx) (y : s.Idx) (h : ∀ a, (y a).val = off a + (x a).val) :
    View.ld X (Rect.unit (s := s) off size inb) x = X y := by
  show X ((Rect.unit (s := s) off size inb).emb x) = X y
  exact congrArg X (funext fun a => Fin.ext ((ValueKit.rect_emb_unit_val _ _ _ _ _).trans (h a).symm))

/-- The same at an offset known in closed form. -/
theorem ld_at' {s : Shape} {e : EltTy} (X : Vec Ideal s e) (off off' size : Fin s.rank → ℕ) (ho : off = off') (inb : ∀ a, off a + size a ≤ s.size a)
    (x : (Rect.unit (s := s) off size inb).shape.Idx) (y : s.Idx) (h : ∀ a, (y a).val = off' a + (x a).val) :
    View.ld X (Rect.unit (s := s) off size inb) x = X y := ld_at X off size inb x y (ho ▸ h)

theorem ix4_111 (x : S1x1x1x256.Idx) : x = ix4 (n0 := 1) (n1 := 1) (n2 := 1) (n3 := 256) 0 0 0 (x 3) := by
  funext a
  match a with
  | ⟨0, _⟩ => exact Fin.ext (Nat.lt_one_iff.mp (x 0).isLt)
  | ⟨1, _⟩ => exact Fin.ext (Nat.lt_one_iff.mp (x 1).isLt)
  | ⟨2, _⟩ => exact Fin.ext (Nat.lt_one_iff.mp (x 2).isLt)
  | ⟨3, _⟩ => rfl
theorem ix4_11 (x : S1x1x64x256.Idx) : x = ix4 (n0 := 1) (n1 := 1) (n2 := 64) (n3 := 256) 0 0 (x 2) (x 3) := by
  funext a
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl
theorem ix2_of {n m : ℕ} (x : (⟨2, ![n, m]⟩ : Shape).Idx) : x = ix2 (x 0) (x 1) := by
  funext a
  match a with
  | ⟨0, _⟩ => rfl
  | ⟨1, _⟩ => rfl

variable (i : grid1.Coords)

/-- The point's batch and key head, a loop index's group, and its head. -/
def bOf : Fin 2 := ⟨(i 0).val, (i 0).isLt⟩
def kvOf : Fin 5 := ⟨(i 1).val, (i 1).isLt⟩
def gOf (k : Fin k1_t1_loop.trips) : Fin 9 := ⟨k.val, trips_eq ▸ k.isLt⟩
def hd (g : Fin 9) : Fin 45 := ⟨9 * (kvOf i).val + g.val, by omega⟩

variable (x2 : Vec Ideal S2x45 .f32) (x3 : Vec Ideal S2x5 .f32) (x4 : Vec Ideal S1x9x64x1024 .fp8e4m3) (x5 x6 : Vec Ideal S1x1x64x1024 .fp8e4m3)
variable (x7 : Vec Ideal S5x2x64 .f32) (x8 : Vec Ideal S1x45x1x1024 .f32)

/-- The scaled score of key `j` with query `q` in group `g`. -/
def u (g : Fin 9) (q j : Fin 1024) : EReal :=
  (∑ x : Fin 64, x5 (ix4 0 0 x j) * x4 (ix4 0 g x q)) * (x2 (ix2 (bOf i) (hd i g)) * x3 (ix2 (bOf i) (kvOf i)) * Ideal.ofBits .f32 1040187392#32)

theorem scl_eq (k : Fin k1_t1_loop.trips) :
    scl i k x2 x3 = (x2 (ix2 (bOf i) (hd i (gOf k))) * x3 (ix2 (bOf i) (kvOf i)) * Ideal.ofBits .f32 1040187392#32) * ((L : ℝ) : EReal) := by
  unfold scl
  rw [scl_apply]
  congr 3
  · refine ld_at' x2 _ _ _ (k1_off2_eq i k) _ _ _ fun a => ?_
    match a with
    | ⟨0, _⟩ => rfl
    | ⟨1, _⟩ => rfl
  · refine ld_at' x3 _ _ _ (k1_off3_eq i) _ _ _ fun a => ?_
    match a with
    | ⟨0, _⟩ => rfl
    | ⟨1, _⟩ => rfl

theorem kk_at (r : Fin 1024) (d : Fin 64) : kk x5 (ix2 r d) = x5 (ix4 0 0 d r) := by
  unfold kk
  rw [kt_apply]
  exact ld_at x5 _ _ _ _ _ fun a => by
    match a with
    | ⟨0, _⟩ => rfl
    | ⟨1, _⟩ => rfl
    | ⟨2, _⟩ => exact (Nat.zero_add _).symm
    | ⟨3, _⟩ => exact (Nat.zero_add _).symm
theorem vv_at (r : Fin 1024) (d : Fin 64) : vv x6 (ix2 d r) = x6 (ix4 0 0 d r) := by
  unfold vv
  rw [vt_apply]
  exact ld_at x6 _ _ _ _ _ fun a => by
    match a with
    | ⟨0, _⟩ => rfl
    | ⟨1, _⟩ => rfl
    | ⟨2, _⟩ => exact (Nat.zero_add _).symm
    | ⟨3, _⟩ => exact (Nat.zero_add _).symm
theorem vsc_at (d : Fin 64) (l : Fin 128) : vsc i x7 (ix2 d l) = x7 (ix3 (kvOf i) (bOf i) d) := by
  unfold vsc
  rw [vs_apply]
  refine ld_at' x7 _ _ _ (k1_off1_eq i) _ _ _ fun a => ?_
  match a with
  | ⟨0, _⟩ => rfl
  | ⟨1, _⟩ => rfl
  | ⟨2, _⟩ => exact (Nat.zero_add _).symm

/-- One stored block of the key-side decay. -/
theorem cb_piece (h : Fin 45) (t : ℕ) (pay : Vec Ideal S1x1x1x128 .f32 → FVec Ideal S128x128 .f32)
    (hp : ∀ v (r l : Fin 128), pay v (ix2 r l) = v (ix4 0 0 0 r) * ((L : ℝ) : EReal))
    (off : Fin 4 → ℕ) (hoff : off = ![0, h.val, 0, t]) (inb : ∀ a, off a + S1x1x1x128.size a ≤ S1x45x1x1024.size a)
    (inb' : ∀ a, (![t, 0] : Fin 2 → ℕ) a + S128x128.size a ≤ S1024x128.size a) (x : S128x128.Idx) :
    pay (View.ld x8 (Rect.unit (s := S1x45x1x1024) off S1x1x1x128.size inb)) x
      = (fun y : S1024x128.Idx => x8 (ix4 (n0 := 1) (n1 := 45) (n2 := 1) (n3 := 1024) 0 h 0 (y 0)) * ((L : ℝ) : EReal))
        ((Rect.unit (s := S1024x128) ![t, 0] S128x128.size inb').emb x) := by
  subst hoff
  obtain ⟨r, l, rfl⟩ : ∃ r l : Fin 128, x = ix2 r l := ⟨x 0, x 1, ix2_of x⟩
  rw [hp]
  congr 1
  refine ld_at x8 _ _ _ _ _ fun a => ?_
  match a with
  | ⟨0, _⟩ => rfl
  | ⟨1, _⟩ => rfl
  | ⟨2, _⟩ => rfl
  | ⟨3, _⟩ => exact ValueKit.rect_emb_unit_val _ _ _ _ _

theorem cb_cover (k : Fin k1_t1_loop.trips) (y : S1024x128.Idx) : ∃ p ∈ cbPieces i k x8, y ∈ p.1.set :=
  View.cover_of_tiledL _ ![128, 128] (by rfl) y

/-- The key-side decay buffer holds the decay times log2 e. -/
theorem cb_at (k : Fin k1_t1_loop.trips) (r : Fin 1024) (l : Fin 128) :
    cb i k x8 (ix2 r l) = x8 (ix4 0 (hd i (gOf k)) 0 r) * ((L : ℝ) : EReal) := by
  unfold cb
  refine View.canon_apply_of_pieces (fun y : S1024x128.Idx => x8 (ix4 (n0 := 1) (n1 := 45) (n2 := 1) (n3 := 1024) 0 (hd i (gOf k)) 0 (y 0)) * ((L : ℝ) : EReal)) _ ?_ _ (cb_cover i x8 k _)
  unfold cbPieces
  simp only [List.forall_mem_cons, List.not_mem_nil, IsEmpty.forall_iff, implies_true, and_true]
  exact ⟨fun x => cb_piece x8 _ 896 k1_pay15 cb7_apply _ (k1_off11_eq i k) _ _ x,
    fun x => cb_piece x8 _ 768 k1_pay14 cb6_apply _ (k1_off10_eq i k) _ _ x,
    fun x => cb_piece x8 _ 640 (fun v => k1_pay13 (k1_pay12 v)) cb5_apply _ (k1_off9_eq i k) _ _ x,
    fun x => cb_piece x8 _ 512 k1_pay11 cb4_apply _ (k1_off8_eq i k) _ _ x,
    fun x => cb_piece x8 _ 384 k1_pay10 cb3_apply _ (k1_off7_eq i k) _ _ x,
    fun x => cb_piece x8 _ 256 (fun v => k1_pay9 (k1_pay8 v)) cb2_apply _ (k1_off6_eq i k) _ _ x,
    fun x => cb_piece x8 _ 128 k1_pay7 cb1_apply _ (k1_off5_eq i k) _ _ x,
    fun x => cb_piece x8 _ 0 k1_pay6 cb0_apply _ (k1_off4_eq i k) _ _ x⟩

/-- Loads of leading rows, of leading columns, of a query block and of its decays. -/
theorem ldK (X : Vec Ideal S1024x64 .fp8e4m3) {n : ℕ} (hn : n ≤ 1024) (inb) (r : Fin n) (d : Fin 64) :
    View.ld X (Rect.unit (s := S1024x64) ![0, 0] ![n, 64] inb) (ix2 r d) = X (ix2 (Fin.castLE hn r) d) :=
  ld_at X _ _ _ _ _ fun a => by
    match a with
    | ⟨0, _⟩ => exact (Nat.zero_add _).symm
    | ⟨1, _⟩ => exact (Nat.zero_add _).symm
theorem ldC (X : Vec Ideal S1024x128 .f32) {n : ℕ} (hn : n ≤ 1024) (inb) (r : Fin n) (d : Fin 128) :
    View.ld X (Rect.unit (s := S1024x128) ![0, 0] ![n, 128] inb) (ix2 r d) = X (ix2 (Fin.castLE hn r) d) :=
  ld_at X _ _ _ _ _ fun a => by
    match a with
    | ⟨0, _⟩ => exact (Nat.zero_add _).symm
    | ⟨1, _⟩ => exact (Nat.zero_add _).symm
theorem ldV (X : Vec Ideal S64x1024 .bf16) {n : ℕ} (hn : n ≤ 1024) (inb) (r : Fin n) (d : Fin 64) :
    View.ld X (Rect.unit (s := S64x1024) ![0, 0] ![64, n] inb) (ix2 d r) = X (ix2 d (Fin.castLE hn r)) :=
  ld_at X _ _ _ _ _ fun a => by
    match a with
    | ⟨0, _⟩ => exact (Nat.zero_add _).symm
    | ⟨1, _⟩ => exact (Nat.zero_add _).symm
theorem ldQ (X : Vec Ideal S1x9x64x1024 .fp8e4m3) (k : Fin k1_t1_loop.trips) (q0 : ℕ) (off) (hoff : off = ![0, k.val, 0, q0]) (inb) (x : Fin 64) (l : Fin 256) (q : Fin 1024) (hq : q.val = q0 + l.val) :
    View.ld X (Rect.unit (s := S1x9x64x1024) off S1x1x64x256.size inb) (ix4 (n0 := 1) (n1 := 1) (n2 := 64) (n3 := 256) 0 0 x l) = X (ix4 0 (gOf k) x q) := by
  subst hoff
  exact ld_at X _ _ _ _ _ fun a => by
    match a with
    | ⟨0, _⟩ => rfl
    | ⟨1, _⟩ => rfl
    | ⟨2, _⟩ => exact (Nat.zero_add _).symm
    | ⟨3, _⟩ => exact hq
theorem ldCq (h : Fin 45) (q0 : ℕ) (off) (hoff : off = ![0, h.val, 0, q0]) (inb) (l : Fin 256) (q : Fin 1024) (hq : q.val = q0 + l.val) :
    View.ld x8 (Rect.unit (s := S1x45x1x1024) off S1x1x1x256.size inb) (ix4 (n0 := 1) (n1 := 1) (n2 := 1) (n3 := 256) 0 0 0 l) = x8 (ix4 0 h 0 q) := by
  subst hoff
  exact ld_at x8 _ _ _ _ _ fun a => by
    match a with
    | ⟨0, _⟩ => rfl
    | ⟨1, _⟩ => rfl
    | ⟨2, _⟩ => rfl
    | ⟨3, _⟩ => exact hq

variable (cr : Fin 45 → Fin 1024 → EReal) (hc : ∀ h j, x8 (ix4 0 h 0 j) = cr h j) (hs : ∀ h, Sums (cr h))

/-- A block's masked scores are the row's, times log2 e. -/
theorem masked_eq {n : ℕ} (hn : n ≤ 1024) (q0 : ℕ) (g : Fin 9) (q : Fin 1024) (l : Fin 256) (hq : q.val = q0 + l.val)
    (K : Fin n → Fin 64 → EReal) (Q : Fin 64 → EReal) (C : Fin n → EReal) (a : EReal)
    (hK : ∀ k x, K k x = x5 (ix4 0 0 x (Fin.castLE hn k))) (hQ : ∀ x, Q x = x4 (ix4 0 g x q))
    (hC : ∀ k, C k = cr (hd i g) (Fin.castLE hn k) * ((L : ℝ) : EReal))
    (ha : a = (x2 (ix2 (bOf i) (hd i g)) * x3 (ix2 (bOf i) (kvOf i)) * Ideal.ofBits .f32 1040187392#32) * ((L : ℝ) : EReal)) (k : Fin n) :
    masked q0 (fun r => (∑ x : Fin 64, K r x * Q x) * a) C l k
      = if k.val ≤ q.val then u i x2 x3 x4 x5 g q (Fin.castLE hn k) * ((L : ℝ) : EReal) - cr (hd i g) (Fin.castLE hn k) * ((L : ℝ) : EReal) else ⊥ := by
  unfold masked u
  rw [hq]
  simp only [hK, hQ, hC, ha, mul_assoc]

/-- The row of scores of a query. -/
def row (g : Fin 9) (q : Fin 1024) : Fin 1024 → EReal := score q.val (u i x2 x3 x4 x5 g q) (cr (hd i g)) (cr (hd i g) q)

section Blocks
variable (k : Fin k1_t1_loop.trips) (l : Fin 256) (q : Fin 1024)

/-- The masked score, times log2 e, of key `r` with query `q`. -/
def cell (g : Fin 9) (j : Fin 1024) : EReal :=
  if j.val ≤ q.val then u i x2 x3 x4 x5 g q j * ((L : ℝ) : EReal) - cr (hd i g) j * ((L : ℝ) : EReal) else ⊥

include hc

theorem cb_cr (r : Fin 1024) (z : Fin 128) : cb i k x8 (ix2 r z) = cr (hd i (gOf k)) r * ((L : ℝ) : EReal) := by rw [cb_at, hc]

theorem cell_0 (hq : q.val = 0 + l.val) (r : Fin 256) :
    k1_pay18 (t0 i k x2 x3 x4 (kk x5) (ldc_0 i k x8)) k1_pay17 (ix2 r l) = cell i x2 x3 x4 x5 cr q (gOf k) (Fin.castLE (by norm_num) r) := by
  unfold t0 ldc_0
  rw [t0_apply]
  exact masked_eq i x2 x3 x4 x5 cr (by norm_num) 0 (gOf k) q l hq _ _ _ _ (fun r x => (ldK _ _ _ r x).trans (kk_at x5 _ _))
    (fun x => ldQ x4 k 0 _ (k1_off12_eq k) _ x l q hq) (fun r => (ldC _ _ _ r _).trans (cb_cr i x8 cr hc k _ _)) (scl_eq i x2 x3 k) r
theorem cell_1 (hq : q.val = 256 + l.val) (r : Fin 512) :
    k1_pay24 (scl i k x2 x3) (ld11_1 (kk x5)) (ld4_1 k x4) (ldc_1 i k x8) (ix2 r l) = cell i x2 x3 x4 x5 cr q (gOf k) (Fin.castLE (by norm_num) r) := by
  unfold ld11_1 ld4_1 ldc_1
  rw [t1_apply]
  exact masked_eq i x2 x3 x4 x5 cr (by norm_num) 256 (gOf k) q l hq _ _ _ _ (fun r x => (ldK _ _ _ r x).trans (kk_at x5 _ _))
    (fun x => ldQ x4 k 256 _ (k1_off15_eq k) _ x l q hq) (fun r => (ldC _ _ _ r _).trans (cb_cr i x8 cr hc k _ _)) (scl_eq i x2 x3 k) r
theorem cell_2 (hq : q.val = 512 + l.val) (r : Fin 768) :
    k1_pay30 (scl i k x2 x3) (ld11_2 (kk x5)) (ld4_2 k x4) (ldc_2 i k x8) (ix2 r l) = cell i x2 x3 x4 x5 cr q (gOf k) (Fin.castLE (by norm_num) r) := by
  unfold ld11_2 ld4_2 ldc_2
  rw [t2_apply]
  exact masked_eq i x2 x3 x4 x5 cr (by norm_num) 512 (gOf k) q l hq _ _ _ _ (fun r x => (ldK _ _ _ r x).trans (kk_at x5 _ _))
    (fun x => ldQ x4 k 512 _ (k1_off18_eq k) _ x l q hq) (fun r => (ldC _ _ _ r _).trans (cb_cr i x8 cr hc k _ _)) (scl_eq i x2 x3 k) r
theorem cell_3 (hq : q.val = 768 + l.val) (r : Fin 1024) :
    k1_pay37 (scl i k x2 x3) (s3 k x4 (kk x5)) (ldc_3 i k x8) (ix2 r l) = cell i x2 x3 x4 x5 cr q (gOf k) (Fin.castLE (by norm_num) r) := by
  unfold s3 ldc_3
  rw [t3_apply]
  exact masked_eq i x2 x3 x4 x5 cr (by norm_num) 768 (gOf k) q l hq _ _ _ _ (fun r x => (ldK _ _ _ r x).trans (kk_at x5 _ _))
    (fun x => ldQ x4 k 768 _ (k1_off21_eq k) _ x l q hq) (fun r => (ldC _ _ _ r _).trans (cb_cr i x8 cr hc k _ _)) (scl_eq i x2 x3 k) r

omit hc in
include hs in
/-- A block of log-sum-exps is the rows' log-sum-exps. -/
theorem lpiece {n : ℕ} (hn : n ≤ 1024) (q0 : ℕ) (hq0 : q0 + 256 = n) (T : Fin n → Fin 256 → EReal) (cc : Fin 256 → EReal)
    (hT : ∀ (l : Fin 256) (q : Fin 1024), q.val = q0 + l.val → ∀ r, T r l = cell i x2 x3 x4 x5 cr q (gOf k) (Fin.castLE hn r))
    (hcc : ∀ (l : Fin 256) (q : Fin 1024), q.val = q0 + l.val → cc l = cr (hd i (gOf k)) q)
    (P : Vec Ideal S1x1x1x256 .f32) (hP : ∀ l : Fin 256, P (ix4 (n0 := 1) (n1 := 1) (n2 := 1) (n3 := 256) 0 0 0 l) = kL (fun r => T r l) (cc l))
    (off : Fin 4 → ℕ) (hoff : off = ![0, k.val, 0, q0]) (inb : ∀ a, off a + S1x1x1x256.size a ≤ S1x9x1x1024.size a) (x : S1x1x1x256.Idx) :
    P x = (fun y : S1x9x1x1024.Idx => rL (row i x2 x3 x4 x5 cr (y 1) (y 3))) ((Rect.unit (s := S1x9x1x1024) off S1x1x1x256.size inb).emb x) := by
  subst hoff
  obtain ⟨l, rfl⟩ : ∃ l : Fin 256, x = ix4 (n0 := 1) (n1 := 1) (n2 := 1) (n3 := 256) 0 0 0 l := ⟨x 3, ix4_111 x⟩
  rw [hP]
  have hl : l.val < 256 := l.isLt
  have e : (Rect.unit (s := S1x9x1x1024) ![0, k.val, 0, q0] S1x1x1x256.size inb).emb (ix4 (n0 := 1) (n1 := 1) (n2 := 1) (n3 := 256) 0 0 0 l)
      = ix4 (n0 := 1) (n1 := 9) (n2 := 1) (n3 := 1024) 0 (gOf k) 0 ⟨q0 + l.val, by omega⟩ := by
    funext a
    refine Fin.ext ((ValueKit.rect_emb_unit_val _ _ _ _ _).trans ?_)
    match a with
    | ⟨0, _⟩ => rfl
    | ⟨1, _⟩ => rfl
    | ⟨2, _⟩ => rfl
    | ⟨3, _⟩ => rfl
  rw [e]
  show _ = rL (row i x2 x3 x4 x5 cr (gOf k) ⟨q0 + l.val, by omega⟩)
  rw [hcc l ⟨q0 + l.val, by omega⟩ rfl]
  exact kL_eq hn (q0 + l.val) (by omega) _ (cr (hd i (gOf k))) ⟨q0 + l.val, by omega⟩ _ (hs _) (hT l ⟨q0 + l.val, by omega⟩ rfl)

omit hc in
include hs in
/-- A block of outputs is the rows' outputs. -/
theorem opiece {n : ℕ} (hn : n ≤ 1024) (q0 : ℕ) (hq0 : q0 + 256 = n) (T : Fin n → Fin 256 → EReal) (V : Vec Ideal ⟨2, ![64, n]⟩ .bf16) (vs : Fin 64 → Fin 256 → EReal)
    (hT : ∀ (l : Fin 256) (q : Fin 1024), q.val = q0 + l.val → ∀ r, T r l = cell i x2 x3 x4 x5 cr q (gOf k) (Fin.castLE hn r))
    (hV : ∀ d r, V (ix2 d r) = x6 (ix4 0 0 d (Fin.castLE hn r))) (hvs : ∀ d l, vs d l = x7 (ix3 (kvOf i) (bOf i) d))
    (P : Vec Ideal S1x1x64x256 .bf16) (hP : ∀ (d : Fin 64) (l : Fin 256), P (ix4 (n0 := 1) (n1 := 1) (n2 := 64) (n3 := 256) 0 0 d l) = kO (fun r => T r l) (fun r => V (ix2 d r)) (vs d l))
    (off : Fin 4 → ℕ) (hoff : off = ![0, k.val, 0, q0]) (inb : ∀ a, off a + S1x1x64x256.size a ≤ S1x9x64x1024.size a) (x : S1x1x64x256.Idx) :
    P x = (fun y : S1x9x64x1024.Idx => rO (row i x2 x3 x4 x5 cr (y 1) (y 3)) (fun j => x6 (ix4 (n0 := 1) (n1 := 1) (n2 := 64) (n3 := 1024) 0 0 (y 2) j)) (x7 (ix3 (n0 := 5) (n1 := 2) (n2 := 64) (kvOf i) (bOf i) (y 2))))
        ((Rect.unit (s := S1x9x64x1024) off S1x1x64x256.size inb).emb x) := by
  subst hoff
  obtain ⟨d, l, rfl⟩ : ∃ (d : Fin 64) (l : Fin 256), x = ix4 (n0 := 1) (n1 := 1) (n2 := 64) (n3 := 256) 0 0 d l := ⟨x 2, x 3, ix4_11 x⟩
  rw [hP]
  have hl : l.val < 256 := l.isLt
  have e : (Rect.unit (s := S1x9x64x1024) ![0, k.val, 0, q0] S1x1x64x256.size inb).emb (ix4 (n0 := 1) (n1 := 1) (n2 := 64) (n3 := 256) 0 0 d l)
      = ix4 (n0 := 1) (n1 := 9) (n2 := 64) (n3 := 1024) 0 (gOf k) d ⟨q0 + l.val, by omega⟩ := by
    funext a
    refine Fin.ext ((ValueKit.rect_emb_unit_val _ _ _ _ _).trans ?_)
    match a with
    | ⟨0, _⟩ => rfl
    | ⟨1, _⟩ => rfl
    | ⟨2, _⟩ => exact Nat.zero_add _
    | ⟨3, _⟩ => rfl
  rw [e]
  show _ = rO (row i x2 x3 x4 x5 cr (gOf k) ⟨q0 + l.val, by omega⟩) (fun j => x6 (ix4 0 0 d j)) (x7 (ix3 (kvOf i) (bOf i) d))
  rw [hvs]
  have hV' : (fun r => V (ix2 d r)) = fun r => (fun j => x6 (ix4 0 0 d j)) (Fin.castLE hn r) := funext fun r => hV d r
  rw [hV']
  exact kO_eq hn (q0 + l.val) (by omega) _ (cr (hd i (gOf k))) ⟨q0 + l.val, by omega⟩ _ (hs _) (hT l ⟨q0 + l.val, by omega⟩ rfl) (fun j => x6 (ix4 0 0 d j)) _

include hs in
theorem lpieces (p) (hp : p ∈ lPieces i k x2 x3 x4 x8 (kk x5)) (x : p.1.shape.Idx) :
    p.2 x = (fun y : S1x9x1x1024.Idx => rL (row i x2 x3 x4 x5 cr (y 1) (y 3))) (p.1.emb x) := by
  revert p
  unfold lPieces lPiecesL
  simp only [List.forall_mem_cons, List.not_mem_nil, IsEmpty.forall_iff, implies_true, and_true]
  refine ⟨?_, ?_, ?_, ?_⟩
  · exact lpiece i x2 x3 x4 x5 cr hs k (n := 1024) (by norm_num) 768 (by norm_num) _ _ (fun l q hq r => cell_3 i x2 x3 x4 x5 x8 cr hc k l q hq r)
      (fun l q hq => (ldCq x8 (hd i (gOf k)) 768 _ (k1_off22_eq i k) _ l q hq).trans (hc _ _)) _ (fun l => l3_apply _ _ _ _ l) _ (k1_off23_eq k) _
  · exact lpiece i x2 x3 x4 x5 cr hs k (n := 768) (by norm_num) 512 (by norm_num) _ _ (fun l q hq r => cell_2 i x2 x3 x4 x5 x8 cr hc k l q hq r)
      (fun l q hq => (ldCq x8 (hd i (gOf k)) 512 _ (k1_off19_eq i k) _ l q hq).trans (hc _ _)) _ (fun l => l2_apply _ _ _ _ _ l) _ (k1_off20_eq k) _
  · exact lpiece i x2 x3 x4 x5 cr hs k (n := 512) (by norm_num) 256 (by norm_num) _ _ (fun l q hq r => cell_1 i x2 x3 x4 x5 x8 cr hc k l q hq r)
      (fun l q hq => (ldCq x8 (hd i (gOf k)) 256 _ (k1_off16_eq i k) _ l q hq).trans (hc _ _)) _ (fun l => l1_apply _ _ _ _ _ l) _ (k1_off17_eq k) _
  · exact lpiece i x2 x3 x4 x5 cr hs k (n := 256) (by norm_num) 0 (by norm_num) _ _ (fun l q hq r => cell_0 i x2 x3 x4 x5 x8 cr hc k l q hq r)
      (fun l q hq => (ldCq x8 (hd i (gOf k)) 0 _ (k1_off13_eq i k) _ l q hq).trans (hc _ _)) _ (fun l => l0_apply _ _ _ l) _ (k1_off14_eq k) _

omit hc in
theorem vs13 (d : Fin 64) (z : Fin 128) : ld13 (vsc i x7) (ix2 d z) = x7 (ix3 (kvOf i) (bOf i) d) := by
  unfold ld13
  refine (ld_at _ _ _ _ _ (ix2 d z) fun a => ?_).trans (vsc_at i x7 d z)
  match a with
  | ⟨0, _⟩ => exact (Nat.zero_add _).symm
  | ⟨1, _⟩ => exact (Nat.zero_add _).symm

include hs in
theorem opieces (p) (hp : p ∈ oPieces i k x2 x3 x4 x8 (kk x5) (vv x6) (vsc i x7)) (x : p.1.shape.Idx) :
    p.2 x = (fun y : S1x9x64x1024.Idx => rO (row i x2 x3 x4 x5 cr (y 1) (y 3)) (fun j => x6 (ix4 (n0 := 1) (n1 := 1) (n2 := 64) (n3 := 1024) 0 0 (y 2) j)) (x7 (ix3 (n0 := 5) (n1 := 2) (n2 := 64) (kvOf i) (bOf i) (y 2)))) (p.1.emb x) := by
  revert p
  unfold oPieces oPiecesL
  simp only [List.forall_mem_cons, List.not_mem_nil, IsEmpty.forall_iff, implies_true, and_true]
  refine ⟨?_, ?_, ?_, ?_⟩
  · exact opiece i x2 x3 x4 x5 x6 x7 cr hs k (n := 1024) (by norm_num) 768 (by norm_num) _ _ _ (fun l q hq r => cell_3 i x2 x3 x4 x5 x8 cr hc k l q hq r)
      (fun d r => (ldV _ _ _ r d).trans (vv_at x6 _ _)) (fun d l => vs13 i x7 d _) _ (fun d l => o3_apply _ _ _ _ _ d l) _ (k1_off21_eq k) _
  · exact opiece i x2 x3 x4 x5 x6 x7 cr hs k (n := 768) (by norm_num) 512 (by norm_num) _ _ _ (fun l q hq r => cell_2 i x2 x3 x4 x5 x8 cr hc k l q hq r)
      (fun d r => (ldV _ _ _ r d).trans (vv_at x6 _ _)) (fun d l => vs13 i x7 d _) _ (fun d l => o2_apply _ _ _ _ _ _ d l) _ (k1_off18_eq k) _
  · exact opiece i x2 x3 x4 x5 x6 x7 cr hs k (n := 512) (by norm_num) 256 (by norm_num) _ _ _ (fun l q hq r => cell_1 i x2 x3 x4 x5 x8 cr hc k l q hq r)
      (fun d r => (ldV _ _ _ r d).trans (vv_at x6 _ _)) (fun d l => vs13 i x7 d _) _ (fun d l => o1_apply _ _ _ _ _ _ d l) _ (k1_off15_eq k) _
  · exact opiece i x2 x3 x4 x5 x6 x7 cr hs k (n := 256) (by norm_num) 0 (by norm_num) _ _ _ (fun l q hq r => cell_0 i x2 x3 x4 x5 x8 cr hc k l q hq r)
      (fun d r => (ldV _ _ _ r d).trans (vv_at x6 _ _)) (fun d l => vs13 i x7 d _) _ (fun d l => o0_apply _ _ _ _ d l) _ (k1_off12_eq k) _

end Blocks

include hc hs

/-- The point's log-sum-exps are the rows', -/
theorem outL_eq : outL i x2 x3 x4 x5 x8 = fun y : S1x9x1x1024.Idx => rL (row i x2 x3 x4 x5 cr (y 1) (y 3)) := by
  unfold outL
  refine funext fun y => View.canon_apply_of_pieces (fun y : S1x9x1x1024.Idx => rL (row i x2 x3 x4 x5 cr (y 1) (y 3)))
    (lAll i x2 x3 x4 x8 (kk x5) k1_t1_loop.trips) (fun p hp x => ?_) y (cover_l i x2 x3 x4 x8 (kk x5) y)
  obtain ⟨k, hk⟩ := of_mem_lAll i x2 x3 x4 x8 (kk x5) p _ hp
  exact lpieces i x2 x3 x4 x5 x8 cr hc hs k p hk x

/-- and its outputs the rows' outputs. -/
theorem outO_eq : outO i x2 x3 x4 x5 x6 x7 x8 = fun y : S1x9x64x1024.Idx =>
    rO (row i x2 x3 x4 x5 cr (y 1) (y 3)) (fun j => x6 (ix4 (n0 := 1) (n1 := 1) (n2 := 64) (n3 := 1024) 0 0 (y 2) j)) (x7 (ix3 (n0 := 5) (n1 := 2) (n2 := 64) (kvOf i) (bOf i) (y 2))) := by
  unfold outO
  refine funext fun y => View.canon_apply_of_pieces (fun y : S1x9x64x1024.Idx =>
      rO (row i x2 x3 x4 x5 cr (y 1) (y 3)) (fun j => x6 (ix4 (n0 := 1) (n1 := 1) (n2 := 64) (n3 := 1024) 0 0 (y 2) j)) (x7 (ix3 (n0 := 5) (n1 := 2) (n2 := 64) (kvOf i) (bOf i) (y 2))))
    (oAll i x2 x3 x4 x8 (kk x5) (vv x6) (vsc i x7) k1_t1_loop.trips) (fun p hp x => ?_) y (cover_o i x2 x3 x4 x8 (kk x5) (vv x6) (vsc i x7) y)
  obtain ⟨k, hk⟩ := of_mem_oAll i x2 x3 x4 x8 (kk x5) (vv x6) (vsc i x7) p _ hp
  exact opieces i x2 x3 x4 x5 x6 x7 x8 cr hc hs k p hk x

end Cert.KernelIdeal.AttnOut
-- ==== Proof.Val.AttnArr.lean ====
module

public import proofs.«01_k».proof.Proof.Ideal.AttnRun
public import proofs.«01_k».proof.Proof.Val.AttnOut
public import Idealize.ShloMosaic.Lib.Pipeline.ValueKit.Geometry
public import Idealize.ShloMosaic.Lib.Pipeline.ValueKit.Point

/-! The attention call's two result arrays, from what each of its points leaves in its blocks. -/

@[expose] public section
set_option maxRecDepth 8192
noncomputable section

namespace Cert.KernelIdeal.AttnArr

open Cert.KernelIdeal Cert.KernelIdeal.Gen Cert.KernelIdeal.Attn Cert.KernelIdeal.AttnOut Cert.Row Idealize.ShloMosaic Idealize.ShloMosaic.TcCoe

theorem idx0 : ∀ t : Fin cfg1.N, win1_0.index t = ![0, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![t.val / 5, t.val % 5, 0, 0] := (by decide +kernel : ∀ t : Fin grid1.N, _)
theorem idx3 : ∀ t : Fin cfg1.N, win1_3.index t = ![t.val / 5, t.val % 5, 0, 0] := (by decide +kernel : ∀ t : Fin grid1.N, _)
theorem idx4 : ∀ t : Fin cfg1.N, win1_4.index t = ![t.val / 5, t.val % 5, 0, 0] := (by decide +kernel : ∀ t : Fin grid1.N, _)
theorem idx5 : ∀ t : Fin cfg1.N, win1_5.index t = ![0, 0, 0] := (by decide +kernel : ∀ t : Fin grid1.N, _)
theorem idx6 : ∀ t : Fin cfg1.N, win1_6.index t = ![t.val / 5, 0, 0, 0] := (by decide +kernel : ∀ t : Fin grid1.N, _)
theorem idx7 : ∀ t : Fin cfg1.N, win1_7.index t = ![t.val / 5, t.val % 5, 0, 0] := (by decide +kernel : ∀ t : Fin grid1.N, _)
theorem idx8 : ∀ t : Fin cfg1.N, win1_8.index t = ![t.val / 5, t.val % 5, 0, 0] := (by decide +kernel : ∀ t : Fin grid1.N, _)
theorem lt10 (t : Fin cfg1.N) : t.val < 10 := lt_of_lt_of_eq t.isLt N_1
theorem co0 : ∀ t : Fin cfg1.N, (cfg1.grid.coords t 0).val = t.val / 5 := (by decide +kernel : ∀ t : Fin grid1.N, (grid1.coords t 0).val = t.val / 5)
theorem co1 : ∀ t : Fin cfg1.N, (cfg1.grid.coords t 1).val = t.val % 5 := (by decide +kernel : ∀ t : Fin grid1.N, (grid1.coords t 1).val = t.val % 5)

/-- A point's batch and key head, and one of its heads. -/
def bt (t : Fin cfg1.N) : Fin 2 := ⟨t.val / 5, by have := lt10 t; omega⟩
def kvt (t : Fin cfg1.N) : Fin 5 := ⟨t.val % 5, by omega⟩
def hdt (t : Fin cfg1.N) (g : Fin 9) : Fin 45 := ⟨t.val % 5 * 9 + g.val, by omega⟩
/-- The key head of a head. -/
def kvh (h : Fin 45) : Fin 5 := ⟨h.val / 9, by omega⟩

theorem bOf_eq (t : Fin cfg1.N) : bOf (cfg1.grid.coords t) = bt t := Fin.ext (co0 t)
theorem kvOf_eq (t : Fin cfg1.N) : kvOf (cfg1.grid.coords t) = kvt t := Fin.ext (co1 t)
theorem hd_eq (t : Fin cfg1.N) (g : Fin 9) : hd (cfg1.grid.coords t) g = hdt t g := by
  apply Fin.ext
  show 9 * (kvOf (cfg1.grid.coords t)).val + g.val = t.val % 5 * 9 + g.val
  rw [kvOf_eq, Nat.mul_comm]
  rfl
theorem kvh_hdt (t : Fin cfg1.N) (g : Fin 9) : kvh (hdt t g) = kvt t := by
  apply Fin.ext
  show (t.val % 5 * 9 + g.val) / 9 = t.val % 5
  omega

variable (W : Dev nD → Valuation τ sig (Elt Ideal)) (c : Dev nD)

/-- The operand arrays. -/
abbrev Qs : Vec Ideal S2x45 .f32 := W c (Proc.devRef .tc main_arg1)
abbrev Ks : Vec Ideal S2x5 .f32 := W c (Proc.devRef .tc main_arg3)
abbrev Qt : Vec Ideal S2x45x64x1024 .fp8e4m3 := W c (Proc.devRef .tc main_v0)
abbrev Kt : Vec Ideal S2x5x64x1024 .fp8e4m3 := W c (Proc.devRef .tc main_v1)
abbrev Vt : Vec Ideal S2x5x64x1024 .fp8e4m3 := W c (Proc.devRef .tc main_v2)
abbrev Vs : Vec Ideal S5x2x64 .f32 := W c (Proc.devRef .tc main_v3)
abbrev C : Vec Ideal S2x45x1x1024 .f32 := W c (Proc.devRef .tc main_v7_1)

theorem iblk0 (t : Fin cfg1.N) : iblk W c 0 t = Qs W c := by
  funext y
  blk_simp [iblk]
  refine congrArg (Qs W c) ?_
  blk_ext [idx0 t]
theorem iblk1 (t : Fin cfg1.N) : iblk W c 1 t = Ks W c := by
  funext y
  blk_simp [iblk]
  refine congrArg (Ks W c) ?_
  blk_ext [idx1 t]
theorem iblk2 (t : Fin cfg1.N) (g : Fin 9) (x : Fin 64) (q : Fin 1024) :
    iblk W c 2 t (ix4 (n0 := 1) (n1 := 9) (n2 := 64) (n3 := 1024) 0 g x q) = Qt W c (ix4 (bt t) (hdt t g) x q) := by
  blk_simp [iblk]
  refine congrArg (Qt W c) ?_
  unfold bt hdt
  blk_ext [idx2 t]
theorem iblk3 (t : Fin cfg1.N) (x : Fin 64) (q : Fin 1024) :
    iblk W c 3 t (ix4 (n0 := 1) (n1 := 1) (n2 := 64) (n3 := 1024) 0 0 x q) = Kt W c (ix4 (bt t) (kvt t) x q) := by
  blk_simp [iblk]
  refine congrArg (Kt W c) ?_
  unfold bt kvt
  blk_ext [idx3 t]
theorem iblk4 (t : Fin cfg1.N) (x : Fin 64) (q : Fin 1024) :
    iblk W c 4 t (ix4 (n0 := 1) (n1 := 1) (n2 := 64) (n3 := 1024) 0 0 x q) = Vt W c (ix4 (bt t) (kvt t) x q) := by
  blk_simp [iblk]
  refine congrArg (Vt W c) ?_
  unfold bt kvt
  blk_ext [idx4 t]
theorem iblk5 (t : Fin cfg1.N) : iblk W c 5 t = Vs W c := by
  funext y
  blk_simp [iblk]
  refine congrArg (Vs W c) ?_
  blk_ext [idx5 t]
theorem iblk6 (t : Fin cfg1.N) (h : Fin 45) (q : Fin 1024) :
    iblk W c 6 t (ix4 (n0 := 1) (n1 := 45) (n2 := 1) (n3 := 1024) 0 h 0 q) = C W c (ix4 (bt t) h 0 q) := by
  blk_simp [iblk]
  refine congrArg (C W c) ?_
  unfold bt
  blk_ext [idx6 t]

variable (cr : Fin 2 → Fin 45 → Fin 1024 → EReal)

/-- A query's masked scores against every key. -/
def rowH (b : Fin 2) (h : Fin 45) (q : Fin 1024) : Fin 1024 → EReal :=
  score q.val (fun j => (∑ x : Fin 64, Kt W c (ix4 b (kvh h) x j) * Qt W c (ix4 b h x q)) * (Qs W c (ix2 b h) * Ks W c (ix2 b (kvh h)) * Ideal.ofBits .f32 1040187392#32))
    (cr b h) (cr b h q)

theorem row_eq (t : Fin cfg1.N) (g : Fin 9) (q : Fin 1024) :
    row (cfg1.grid.coords t) (iblk W c 0 t) (iblk W c 1 t) (iblk W c 2 t) (iblk W c 3 t) (cr (bt t)) g q = rowH W c cr (bt t) (hdt t g) q := by
  unfold row rowH u
  rw [hd_eq, bOf_eq, kvOf_eq, kvh_hdt, iblk0, iblk1]
  simp only [iblk2, iblk3]

variable (hc : ∀ b h j, C W c (ix4 b h 0 j) = cr b h j) (hs : ∀ b h, Sums (cr b h))

/-- The output and the log-sum by place. -/
def oH (y : S2x45x64x1024.Idx) : EReal := rO (rowH W c cr (y 0) (y 1) (y 3)) (fun j => Vt W c (ix4 (y 0) (kvh (y 1)) (y 2) j)) (Vs W c (ix3 (kvh (y 1)) (y 0) (y 2)))
def lH (y : S2x45x1x1024.Idx) : EReal := rL (rowH W c cr (y 0) (y 1) (y 3))

include hc hs

theorem oH_at (t : Fin cfg1.N) (g : Fin 9) (d : Fin 64) (q : Fin 1024) :
    outO (cfg1.grid.coords t) (iblk W c 0 t) (iblk W c 1 t) (iblk W c 2 t) (iblk W c 3 t) (iblk W c 4 t) (iblk W c 5 t) (iblk W c 6 t) (ix4 0 g d q)
      = oH W c cr (ix4 (bt t) (hdt t g) d q) := by
  rw [outO_eq _ _ _ _ _ _ _ _ (cr (bt t)) (fun h j => (iblk6 W c t h j).trans (hc _ _ _)) (hs _)]
  show rO (row (cfg1.grid.coords t) (iblk W c 0 t) (iblk W c 1 t) (iblk W c 2 t) (iblk W c 3 t) (cr (bt t)) g q) (fun j => iblk W c 4 t (ix4 (n0 := 1) (n1 := 1) (n2 := 64) (n3 := 1024) 0 0 d j)) (iblk W c 5 t (ix3 (kvOf (cfg1.grid.coords t)) (bOf (cfg1.grid.coords t)) d))
    = rO (rowH W c cr (bt t) (hdt t g) q) (fun j => Vt W c (ix4 (bt t) (kvh (hdt t g)) d j)) (Vs W c (ix3 (kvh (hdt t g)) (bt t) d))
  rw [row_eq, iblk5, kvOf_eq, bOf_eq, kvh_hdt]
  simp only [iblk4]

theorem lH_at (t : Fin cfg1.N) (g : Fin 9) (q : Fin 1024) :
    outL (cfg1.grid.coords t) (iblk W c 0 t) (iblk W c 1 t) (iblk W c 2 t) (iblk W c 3 t) (iblk W c 6 t) (ix4 0 g 0 q)
      = lH W c cr (ix4 (bt t) (hdt t g) 0 q) := by
  rw [outL_eq _ _ _ _ _ _ (cr (bt t)) (fun h j => (iblk6 W c t h j).trans (hc _ _ _)) (hs _)]
  show rL (row (cfg1.grid.coords t) (iblk W c 0 t) (iblk W c 1 t) (iblk W c 2 t) (iblk W c 3 t) (cr (bt t)) g q) = rL (rowH W c cr (bt t) (hdt t g) q)
  rw [row_eq]

/-- The outputs' array. -/
theorem arr7 : (dats W c).arrAt 7 cfg1.N = oH W c cr := by
  refine (dats W c).arrAt_eq_of_covers 7 _ (by decide +kernel) fun t hf y => ?_
  blk_simp
  rw [after_7]
  obtain ⟨g, d, q, rfl⟩ : ∃ (g : Fin 9) (d : Fin 64) (q : Fin 1024), y = ix4 (n0 := 1) (n1 := 9) (n2 := 64) (n3 := 1024) 0 g d q := by
    refine ⟨y 1, y 2, y 3, ?_⟩
    funext a
    match a with
    | ⟨0, _⟩ => exact Subsingleton.elim (α := Fin 1) _ _
    | ⟨1, _⟩ => rfl
    | ⟨2, _⟩ => rfl
    | ⟨3, _⟩ => rfl
  have e : ((win1_7.blk t).view.emb (ix4 (n0 := 1) (n1 := 9) (n2 := 64) (n3 := 1024) 0 g d q) : S2x45x64x1024.Idx) = ix4 (bt t) (hdt t g) d q := by
    unfold bt hdt
    blk_ext [idx7 t]
  refine Eq.trans ?_ (congrArg (oH W c cr) e.symm)
  exact oH_at W c cr hc hs t g d q

/-- The log-sums' array. -/
theorem arr8 : (dats W c).arrAt 8 cfg1.N = lH W c cr := by
  refine (dats W c).arrAt_eq_of_covers 8 _ (by decide +kernel) fun t hf y => ?_
  blk_simp
  rw [after_8]
  obtain ⟨g, q, rfl⟩ : ∃ (g : Fin 9) (q : Fin 1024), y = ix4 (n0 := 1) (n1 := 9) (n2 := 1) (n3 := 1024) 0 g 0 q := by
    refine ⟨y 1, y 3, ?_⟩
    funext a
    match a with
    | ⟨0, _⟩ => exact Subsingleton.elim (α := Fin 1) _ _
    | ⟨1, _⟩ => rfl
    | ⟨2, _⟩ => exact Subsingleton.elim (α := Fin 1) _ _
    | ⟨3, _⟩ => rfl
  have e : ((win1_8.blk t).view.emb (ix4 (n0 := 1) (n1 := 9) (n2 := 1) (n3 := 1024) 0 g 0 q) : S2x45x1x1024.Idx) = ix4 (bt t) (hdt t g) 0 q := by
    unfold bt hdt
    blk_ext [idx8 t]
  refine Eq.trans ?_ (congrArg (lH W c cr) e.symm)
  exact lH_at W c cr hc hs t g q

end Cert.KernelIdeal.AttnArr
-- ==== Proof.Val.Ends.lean ====
module

public import proofs.«01_k».proof.Proof.Ideal.Run
public import proofs.«01_k».proof.Proof.Val.GateArr
public import proofs.«01_k».proof.Proof.Val.AttnArr
public import Idealize.ShloMosaic.Lib.StableHlo.ReadAt

/-! The whole kernel's buffers, element by element: the host's transposes before the two calls and after them. -/

@[expose] public section
set_option maxRecDepth 8192
noncomputable section

namespace Cert.KernelIdeal.Ends

open Cert.KernelIdeal Cert.KernelIdeal.Gen Cert.KernelIdeal.Run Cert.Row Idealize.ShloMosaic Idealize.ShloMosaic.TcCoe

/-- A sum up to a place, over the whole axis under its condition. -/
theorem sum_upto (g : ℕ → ℝ) (j : Fin 1024) : ((∑ p ∈ Finset.range (j.val + 1), g p : ℝ) : EReal) = ∑ p : Fin 1024, if p.val ≤ j.val then (g p.val : EReal) else 0 := by
  let φ : ℝ →+ EReal := ⟨⟨Real.toEReal, EReal.coe_zero⟩, EReal.coe_add⟩
  rw [Fin.sum_univ_eq_sum_range (fun p => if p ≤ j.val then (g p : EReal) else 0) 1024, ← Finset.sum_filter]
  have e : (Finset.range 1024).filter (· ≤ j.val) = Finset.range (j.val + 1) := by
    ext p
    simp only [Finset.mem_filter, Finset.mem_range]
    omega
  rw [e]
  exact map_sum φ _ _

variable (m : (ℓ : Loc nD τ sig) → Buf (Elt Ideal) ℓ) (c : Dev nD)

/-- The arguments. -/
abbrev a0 : Vec Ideal S2x1024x45x64 .fp8e4m3 := m ((c.tc : Thread nD τ).loc main_arg0)
abbrev a1 : Vec Ideal S2x45 .f32 := m ((c.tc : Thread nD τ).loc main_arg1)
abbrev a2 : Vec Ideal S2x1024x5x64 .fp8e4m3 := m ((c.tc : Thread nD τ).loc main_arg2)
abbrev a3 : Vec Ideal S2x5 .f32 := m ((c.tc : Thread nD τ).loc main_arg3)
abbrev a4 : Vec Ideal S2x1024x5x64 .fp8e4m3 := m ((c.tc : Thread nD τ).loc main_arg4)
abbrev a5 : Vec Ideal S2x5x64 .f32 := m ((c.tc : Thread nD τ).loc main_arg5)
abbrev a6 : Vec Ideal S2x1024x2880 .bf16 := m ((c.tc : Thread nD τ).loc main_arg6)
abbrev a7 : Vec Ideal S2880x45 .f32 := m ((c.tc : Thread nD τ).loc main_arg7)
abbrev a8 : Vec Ideal S45 .f32 := m ((c.tc : Thread nD τ).loc main_arg8)

theorem v0_at (b : Fin 2) (h : Fin 45) (x : Fin 64) (s : Fin 1024) : (V1 m c (Proc.devRef .tc main_v0) : Vec Ideal S2x45x64x1024 .fp8e4m3) (ix4 b h x s) = a0 m c (ix4 b s h x) := by
  unfold V1
  after_reads_at
theorem v1_at (b : Fin 2) (h : Fin 5) (x : Fin 64) (s : Fin 1024) : (V1 m c (Proc.devRef .tc main_v1) : Vec Ideal S2x5x64x1024 .fp8e4m3) (ix4 b h x s) = a2 m c (ix4 b s h x) := by
  unfold V1
  after_reads_at
theorem v2_at (b : Fin 2) (h : Fin 5) (x : Fin 64) (s : Fin 1024) : (V1 m c (Proc.devRef .tc main_v2) : Vec Ideal S2x5x64x1024 .fp8e4m3) (ix4 b h x s) = a4 m c (ix4 b s h x) := by
  unfold V1
  after_reads_at
theorem v3_at (b : Fin 2) (h : Fin 5) (x : Fin 64) : (V1 m c (Proc.devRef .tc main_v3) : Vec Ideal S5x2x64 .f32) (ix3 h b x) = a5 m c (ix3 b h x) := by
  unfold V1
  after_reads_at
theorem v4_at (b : Fin 2) (k : Fin 2880) (s : Fin 1024) : (V1 m c (Proc.devRef .tc main_v4) : Vec Ideal S2x2880x1024 .bf16) (ix3 b k s) = a6 m c (ix3 b s k) := by
  unfold V1
  after_reads_at
theorem v5_at (h : Fin 45) (k : Fin 2880) : (V1 m c (Proc.devRef .tc main_v5) : Vec Ideal S45x2880 .f32) (ix2 h k) = a7 m c (ix2 k h) := by
  unfold V1
  after_reads_at
theorem v6_at (h : Fin 45) : (V1 m c (Proc.devRef .tc main_v6) : Vec Ideal S45x1 .f32) (ix2 h 0) = a8 m c (ix1 h) := by
  unfold V1
  after_reads_at

theorem v10_at (V : Valuation τ sig (Elt Ideal)) (b : Fin 2) (s : Fin 1024) (h : Fin 2880) :
    (StableHlo.after hostOps2 V (Proc.devRef .tc main_v10) : Vec Ideal S2x1024x2880 .bf16) (ix3 b s h)
      = (V (Proc.devRef .tc main_v8_0) : Vec Ideal S2x45x64x1024 .bf16) (ix4 b ⟨h.val / 64, by omega⟩ ⟨h.val % 64, by omega⟩ s) := by
  after_reads_at
theorem v12_at (V : Valuation τ sig (Elt Ideal)) (b : Fin 2) (s : Fin 1024) (h : Fin 45) :
    (StableHlo.after hostOps2 V (Proc.devRef .tc main_v12) : Vec Ideal S2x1024x45 .f32) (ix3 b s h)
      = (V (Proc.devRef .tc main_v8_1) : Vec Ideal S2x45x1x1024 .f32) (ix4 b h 0 s) := by
  after_reads_at
theorem v14_at (V : Valuation τ sig (Elt Ideal)) (b : Fin 2) (s : Fin 1024) (h : Fin 45) :
    (StableHlo.after hostOps2 V (Proc.devRef .tc main_v14) : Vec Ideal S2x1024x45 .f32) (ix3 b s h)
      = (V (Proc.devRef .tc main_v7_0) : Vec Ideal S2x45x1x1024 .f32) (ix4 b h 0 s) := by
  after_reads_at

/-- The arguments that must be finite are. -/
structure Fin' : Prop where
  x : ∀ i, Re (a6 m c i)
  w : ∀ i, Re (a7 m c i)

/-- The logit of head `h` at position `p`. -/
theorem lgt_eq (b : Fin 2) (h : Fin 45) (p : Fin 1024) :
    GateArr.lgt (V1 m) c b h p = (∑ k : Fin 2880, a7 m c (ix2 k h) * a6 m c (ix3 b p k)) + a8 m c (ix1 h) := by
  unfold GateArr.lgt
  exact congrArg₂ (· + ·) (Finset.sum_congr rfl fun k _ => congrArg₂ (· * ·) (v5_at m c h k) (v4_at m c b k p)) (v6_at m c h)

variable (H : Fin' m c)
include H

theorem hW (i : S45x2880.Idx) : Re (GateArr.Wt (V1 m) c i) := by
  have e : i = ix2 (i 0) (i 1) := AttnOut.ix2_of i
  rw [e]
  exact (congrArg Re (v5_at m c (i 0) (i 1))).mpr (H.w _)
theorem hX (i : S2x2880x1024.Idx) : Re (GateArr.X (V1 m) c i) := by
  have e : i = ix3 (i 0) (i 1) (i 2) := by
    funext a
    match a with
    | ⟨0, _⟩ => rfl
    | ⟨1, _⟩ => rfl
    | ⟨2, _⟩ => rfl
  rw [e]
  exact (congrArg Re (v4_at m c (i 0) (i 1) (i 2))).mpr (H.x _)

/-- The logits after the gate, -/
theorem U2_f : (U2 m c (Proc.devRef .tc main_v7_0) : Vec Ideal S2x45x1x1024 .f32) = fun y : S2x45x1x1024.Idx => GateArr.lgt (V1 m) c (y 0) (y 1) (y 3) :=
  (Pipeline.afterRegion_arr (Gate.dats (V1 m) c) (V1 m c) launch0.win.arr_inj 3).trans (GateArr.arr3 (V1 m) c (hW m c H))
/-- its running sums, -/
theorem U2_c : (U2 m c (Proc.devRef .tc main_v7_1) : Vec Ideal S2x45x1x1024 .f32) = GateArr.run (V1 m) c :=
  (Pipeline.afterRegion_arr (Gate.dats (V1 m) c) (V1 m c) launch0.win.arr_inj 4).trans (GateArr.arr4 (V1 m) c (hW m c H) (hX m c H))
omit H in
/-- and every other buffer as before it. -/
theorem U2_of (r : Ref sig .tc) (h : ∀ w, r ≠ Pipeline.arrRef spec0 w) : U2 m c (Proc.devRef .tc r) = V1 m c (Proc.devRef .tc r) :=
  Pipeline.afterRegion_of_not_arr (Gate.dats (V1 m) c) (V1 m c) h

omit H in
/-- The running sum of a head's gate, as the attention reads it. -/
def cr (b : Fin 2) (h : Fin 45) (j : Fin 1024) : EReal := GateArr.run (V1 m) c (ix4 b h 0 j)
omit H in
theorem cr_bot (b : Fin 2) (h : Fin 45) (j : Fin 1024) (hB : GateArr.B (V1 m) c (ix2 h 0) = ⊥) : cr m c b h j = ⊥ := if_pos hB
omit H in
theorem cr_ne (b : Fin 2) (h : Fin 45) (j : Fin 1024) (hB : GateArr.B (V1 m) c (ix2 h 0) ≠ ⊥) : cr m c b h j = (GateVal.psum (GateArr.gR (V1 m) c b) h (j.val + 1) : EReal) := if_neg hB
omit H in
theorem sums_cr (b : Fin 2) (h : Fin 45) : Sums (cr m c b h) := by
  by_cases hB : GateArr.B (V1 m) c (ix2 h 0) = ⊥
  · exact .inr (funext fun j => cr_bot m c b h j hB)
  · exact .inl ⟨_, funext fun j => cr_ne m c b h j hB⟩

theorem hc (b : Fin 2) (h : Fin 45) (j : Fin 1024) : AttnArr.C (U2 m) c (ix4 b h 0 j) = cr m c b h j := by
  unfold AttnArr.C
  rw [U2_c m c H]
  rfl

omit H in
/-- A query's masked scores against every key, from the arguments. -/
def rowE (b : Fin 2) (h : Fin 45) (q : Fin 1024) : Fin 1024 → EReal :=
  score q.val (fun j => (∑ x : Fin 64, a2 m c (ix4 b j (AttnArr.kvh h) x) * a0 m c (ix4 b q h x)) * (a1 m c (ix2 b h) * a3 m c (ix2 b (AttnArr.kvh h)) * Ideal.ofBits .f32 1040187392#32))
    (cr m c b h) (cr m c b h q)

omit H in
theorem row_eq (b : Fin 2) (h : Fin 45) (q : Fin 1024) : AttnArr.rowH (U2 m) c (cr m c) b h q = rowE m c b h q := by
  unfold AttnArr.rowH rowE
  refine congrArg (fun u => score q.val u (cr m c b h) (cr m c b h q)) (funext fun j => ?_)
  refine congrArg₂ (· * ·) (Finset.sum_congr rfl fun x _ => congrArg₂ (· * ·) ?_ ?_) (congrArg (· * _) (congrArg₂ (· * ·) ?_ ?_))
  · exact (congrFun (U2_of m c main_v1 (by decide)) _).trans (v1_at m c b (AttnArr.kvh h) x j)
  · exact (congrFun (U2_of m c main_v0 (by decide)) _).trans (v0_at m c b h x q)
  · exact congrFun ((U2_of m c main_arg1 (by decide)).trans (V1_of m c main_arg1 (by decide))) _
  · exact congrFun ((U2_of m c main_arg3 (by decide)).trans (V1_of m c main_arg3 (by decide))) _

/-- The last output at an index, -/
theorem o_at (b : Fin 2) (s : Fin 1024) (h : Fin 2880) :
    (U4 m c (Proc.devRef .tc main_v10) : Vec Ideal S2x1024x2880 .bf16) (ix3 b s h)
      = rO (rowE m c b ⟨h.val / 64, by omega⟩ s) (fun j => a4 m c (ix4 b j ⟨h.val / 576, by omega⟩ ⟨h.val % 64, by omega⟩)) (a5 m c (ix3 b ⟨h.val / 576, by omega⟩ ⟨h.val % 64, by omega⟩)) := by
  unfold U4
  rw [v10_at]
  have e : (U3 m c (Proc.devRef .tc main_v8_0) : Vec Ideal S2x45x64x1024 .bf16) = AttnArr.oH (U2 m) c (cr m c) :=
    (Pipeline.afterRegion_arr (Attn.dats (U2 m) c) (U2 m c) launch1.win.arr_inj 7).trans (AttnArr.arr7 (U2 m) c (cr m c) (hc m c H) (sums_cr m c))
  rw [e]
  have hk : AttnArr.kvh ⟨h.val / 64, by omega⟩ = ⟨h.val / 576, by omega⟩ := Fin.ext (Nat.div_div_eq_div_mul h.val 64 9)
  show rO (AttnArr.rowH (U2 m) c (cr m c) b ⟨h.val / 64, _⟩ s) (fun j => AttnArr.Vt (U2 m) c (ix4 b (AttnArr.kvh ⟨h.val / 64, by omega⟩) ⟨h.val % 64, _⟩ j)) (AttnArr.Vs (U2 m) c (ix3 (AttnArr.kvh ⟨h.val / 64, by omega⟩) b ⟨h.val % 64, _⟩)) = _
  rw [row_eq, hk]
  refine congrArg₂ (rO _) (funext fun j => ?_) ?_
  · exact (congrFun (U2_of m c main_v2 (by decide)) _).trans (v2_at m c b _ _ j)
  · exact (congrFun (U2_of m c main_v3 (by decide)) _).trans (v3_at m c b _ _)
/-- the last log-sum, -/
theorem l_at (b : Fin 2) (s : Fin 1024) (h : Fin 45) :
    (U4 m c (Proc.devRef .tc main_v12) : Vec Ideal S2x1024x45 .f32) (ix3 b s h) = rL (rowE m c b h s) := by
  unfold U4
  rw [v12_at]
  have e : (U3 m c (Proc.devRef .tc main_v8_1) : Vec Ideal S2x45x1x1024 .f32) = AttnArr.lH (U2 m) c (cr m c) :=
    (Pipeline.afterRegion_arr (Attn.dats (U2 m) c) (U2 m c) launch1.win.arr_inj 8).trans (AttnArr.arr8 (U2 m) c (cr m c) (hc m c H) (sums_cr m c))
  rw [e, ← row_eq]
  rfl
/-- and the last logit. -/
theorem f_at (b : Fin 2) (s : Fin 1024) (h : Fin 45) :
    (U4 m c (Proc.devRef .tc main_v14) : Vec Ideal S2x1024x45 .f32) (ix3 b s h) = (∑ k : Fin 2880, a7 m c (ix2 k h) * a6 m c (ix3 b s k)) + a8 m c (ix1 h) := by
  unfold U4
  rw [v14_at]
  have e : (U3 m c (Proc.devRef .tc main_v7_0) : Vec Ideal S2x45x1x1024 .f32) = fun y : S2x45x1x1024.Idx => GateArr.lgt (V1 m) c (y 0) (y 1) (y 3) :=
    (Pipeline.afterRegion_of_not_arr (Attn.dats (U2 m) c) (U2 m c) (by decide)).trans (U2_f m c H)
  rw [e, ← lgt_eq]
  rfl

/-- The running sum of a head's gate from the arguments. -/
theorem cr_eq (b : Fin 2) (h : Fin 45) (j : Fin 1024) :
    cr m c b h j = ∑ p : Fin 1024, if p.val ≤ j.val then logSig ((∑ k : Fin 2880, a7 m c (ix2 k h) * a6 m c (ix3 b p k)) + a8 m c (ix1 h)) else 0 := by
  by_cases hB : GateArr.B (V1 m) c (ix2 h 0) = ⊥
  · rw [cr_bot m c b h j hB]
    refine (sum_bot _ 0 ?_).symm
    rw [if_pos (show (0 : Fin 1024).val ≤ j.val from Nat.zero_le _), ← lgt_eq, GateArr.bot_lgt (V1 m) c b h hB, logSig_bot]
  · rw [cr_ne m c b h j hB]
    refine (sum_upto (GateArr.gR (V1 m) c b h) j).trans (Finset.sum_congr rfl fun p _ => ?_)
    rw [← lgt_eq, GateArr.gR_eq (V1 m) c (hW m c H) (hX m c H) b h hB]

end Cert.KernelIdeal.Ends
-- ==== Proof.Val.Match.lean ====
module

public import proofs.«01_k».proof.Proof.Val.Ref
public import proofs.«01_k».proof.Proof.Val.RefArr
public import proofs.«01_k».proof.Proof.Val.Ends

/-! The reference's results, element by element, in the words of the kernel's. -/

@[expose] public section
set_option maxRecDepth 8192
noncomputable section

namespace Cert.ReferenceIdeal.Ref

open Cert.ReferenceIdeal Cert.Row Idealize.ShloMosaic Idealize.ShloMosaic.TcCoe

variable (r0 : FVec Ideal S2x1024x45x64 .f32) (r1 : FVec Ideal S2x1024x5x64 .f32) (x1 : FVec Ideal S2x45 .f32) (x3 : FVec Ideal S2x5 .f32)
variable (x6 : FVec Ideal S2x1024x2880 .bf16) (x7 : FVec Ideal S2880x45 .f32) (x8 : FVec Ideal S45 .f32)

/-- The reference's masked scores. -/
abbrev sc : FVec Ideal S2x5x9x1024x1024 .f32 := sF r0 r1 (aF x1 x3) (cF (lsF (fF x6 x7 x8)))

/-- The key head of a head. -/
def kh (h : Fin 45) : Fin 5 := ⟨h.val / 9, by omega⟩

theorem f_comm (b : Fin 2) (s : Fin 1024) (h : Fin 45) : fF x6 x7 x8 (ix3 b s h) = (∑ k : Fin 2880, x7 (ix2 k h) * x6 (ix3 b s k)) + x8 (ix1 h) := by
  rw [fF_apply]
  exact congrArg (· + _) (Finset.sum_congr rfl fun k _ => mul_comm _ _)

/-- One query's row of them, given the running sums. -/
theorem sc_row (cr : Fin 2 → Fin 45 → Fin 1024 → EReal)
    (hcr : ∀ b h (j : Fin 1024), cr b h j = ∑ p : Fin 1024, if p.val ≤ j.val then logSig ((∑ k : Fin 2880, x7 (ix2 k h) * x6 (ix3 b p k)) + x8 (ix1 h)) else 0)
    (b : Fin 2) (kv : Fin 5) (g : Fin 9) (i : Fin 1024) (h : Fin 45) (hh : h.val = kv.val * 9 + g.val) :
    (fun j => sc r0 r1 x1 x3 x6 x7 x8 (ix5 b kv g i j))
      = score i.val (fun j => (∑ x : Fin 64, r1 (ix4 b j (kh h) x) * r0 (ix4 b i h x)) * (x1 (ix2 b h) * x3 (ix2 b (kh h)) * Ideal.ofBits .f32 1040187392#32)) (cr b h) (cr b h i) := by
  have he : (⟨kv.val * 9 + g.val, by omega⟩ : Fin 45) = h := Fin.ext hh.symm
  have hk : kh h = kv := Fin.ext (by show h.val / 9 = kv.val; omega)
  have hc : ∀ j : Fin 1024, cF (lsF (fF x6 x7 x8)) (ix4 b kv g j) = cr b h j := fun j => by
    rw [cF_apply, hcr, he]
    refine Finset.sum_congr rfl fun p _ => ?_
    rw [lsF_apply, f_comm]
  funext j
  unfold sc
  rw [sF_apply, hc, hc, aF_apply, hk, he]
  unfold score
  refine if_congr Iff.rfl ?_ rfl
  exact congrArg (fun z : EReal => z * _ + _ - _) (Finset.sum_congr rfl fun x _ => mul_comm _ _)

/-- Two memories that agree on the arguments. -/
structure Agree (m : (ℓ : Loc KernelIdeal.nD KernelIdeal.τ KernelIdeal.sig) → Buf (Elt Ideal) ℓ) (m' : (ℓ : Loc nD τ sig) → Buf (Elt Ideal) ℓ) (c : Dev nD) : Prop where
  e0 : (m' ((c.tc : Thread nD τ).loc main_arg0) : Vec Ideal S2x1024x45x64 .fp8e4m3) = KernelIdeal.Ends.a0 m c
  e1 : (m' ((c.tc : Thread nD τ).loc main_arg1) : Vec Ideal S2x45 .f32) = KernelIdeal.Ends.a1 m c
  e2 : (m' ((c.tc : Thread nD τ).loc main_arg2) : Vec Ideal S2x1024x5x64 .fp8e4m3) = KernelIdeal.Ends.a2 m c
  e3 : (m' ((c.tc : Thread nD τ).loc main_arg3) : Vec Ideal S2x5 .f32) = KernelIdeal.Ends.a3 m c
  e4 : (m' ((c.tc : Thread nD τ).loc main_arg4) : Vec Ideal S2x1024x5x64 .fp8e4m3) = KernelIdeal.Ends.a4 m c
  e5 : (m' ((c.tc : Thread nD τ).loc main_arg5) : Vec Ideal S2x5x64 .f32) = KernelIdeal.Ends.a5 m c
  e6 : (m' ((c.tc : Thread nD τ).loc main_arg6) : Vec Ideal S2x1024x2880 .bf16) = KernelIdeal.Ends.a6 m c
  e7 : (m' ((c.tc : Thread nD τ).loc main_arg7) : Vec Ideal S2880x45 .f32) = KernelIdeal.Ends.a7 m c
  e8 : (m' ((c.tc : Thread nD τ).loc main_arg8) : Vec Ideal S45 .f32) = KernelIdeal.Ends.a8 m c

variable (m : (ℓ : Loc KernelIdeal.nD KernelIdeal.τ KernelIdeal.sig) → Buf (Elt Ideal) ℓ) (m' : (ℓ : Loc nD τ sig) → Buf (Elt Ideal) ℓ) (c : Dev nD)
variable (A : Agree m m' c) (H : KernelIdeal.Ends.Fin' m c)

/-- The reference's scores, as `resO` and `resL` spell them. -/
abbrev scR : FVec Ideal S2x5x9x1024x1024 .f32 :=
  sc (reg_main_v17_0 m' c) (reg_main_v17_1 m' c) (m' ((c.tc : Thread nD τ).loc main_arg1)) (m' ((c.tc : Thread nD τ).loc main_arg3)) (m' ((c.tc : Thread nD τ).loc main_arg6)) (m' ((c.tc : Thread nD τ).loc main_arg7)) (m' ((c.tc : Thread nD τ).loc main_arg8))

include A H

/-- The rows of scores agree. -/
theorem row_match (b : Fin 2) (kv : Fin 5) (g : Fin 9) (i : Fin 1024) (h : Fin 45) (hh : h.val = kv.val * 9 + g.val) :
    (fun j => scR m' c (ix5 b kv g i j)) = KernelIdeal.Ends.rowE m c b h i := by
  have e0 : reg_main_v17_0 m' c = fun i => KernelIdeal.Ends.a0 m c i := (reg0 m' c).trans (funext fun i => congrFun A.e0 i)
  have e1 : reg_main_v17_1 m' c = fun i => KernelIdeal.Ends.a2 m c i := (reg1 m' c).trans (funext fun i => congrFun A.e2 i)
  unfold scR
  rw [e0, e1, A.e1, A.e3, A.e6, A.e7, A.e8]
  exact sc_row _ _ _ _ _ _ _ (KernelIdeal.Ends.cr m c) (KernelIdeal.Ends.cr_eq m c H) b kv g i h hh

theorem l_match : resL m' c = (KernelIdeal.Run.U4 m c (Proc.devRef .tc KernelIdeal.main_v12) : Vec Ideal S2x1024x45 .f32) := by
  funext y
  obtain ⟨b, s, h, rfl⟩ : ∃ (b : Fin 2) (s : Fin 1024) (h : Fin 45), y = ix3 b s h := ⟨y 0, y 1, y 2, by
    funext a
    match a with
    | ⟨0, _⟩ => rfl
    | ⟨1, _⟩ => rfl
    | ⟨2, _⟩ => rfl⟩
  refine Eq.trans ?_ (KernelIdeal.Ends.l_at m c H b s h).symm
  unfold resL
  rw [lseF_apply]
  exact congrArg rL (row_match m m' c A H b (kvOf h) (gOf h) s h (by show h.val = h.val / 9 * 9 + h.val % 9; omega))

theorem o_match : resO m' c = (KernelIdeal.Run.U4 m c (Proc.devRef .tc KernelIdeal.main_v10) : Vec Ideal S2x1024x2880 .bf16) := by
  funext y
  obtain ⟨b, s, h, rfl⟩ : ∃ (b : Fin 2) (s : Fin 1024) (h : Fin 2880), y = ix3 b s h := ⟨y 0, y 1, y 2, by
    funext a
    match a with
    | ⟨0, _⟩ => rfl
    | ⟨1, _⟩ => rfl
    | ⟨2, _⟩ => rfl⟩
  refine Eq.trans ?_ (KernelIdeal.Ends.o_at m c H b s h).symm
  have e2 : reg_main_v17_2 m' c = fun i => KernelIdeal.Ends.a4 m c i := (reg2 m' c).trans (funext fun i => congrFun A.e4 i)
  have er := row_match m m' c A H b ⟨h.val / 576, by omega⟩ ⟨h.val / 64 % 9, by omega⟩ s ⟨h.val / 64, by omega⟩ (by show h.val / 64 = h.val / 576 * 9 + h.val / 64 % 9; omega)
  unfold resO
  rw [oF_apply, e2, A.e5]
  exact congrArg (fun r => rO r _ _) er

theorem f_match : resF m' c = (KernelIdeal.Run.U4 m c (Proc.devRef .tc KernelIdeal.main_v14) : Vec Ideal S2x1024x45 .f32) := by
  funext y
  obtain ⟨b, s, h, rfl⟩ : ∃ (b : Fin 2) (s : Fin 1024) (h : Fin 45), y = ix3 b s h := ⟨y 0, y 1, y 2, by
    funext a
    match a with
    | ⟨0, _⟩ => rfl
    | ⟨1, _⟩ => rfl
    | ⟨2, _⟩ => rfl⟩
  refine Eq.trans ?_ (KernelIdeal.Ends.f_at m c H b s h).symm
  unfold resF
  rw [A.e6, A.e7, A.e8, f_comm]

end Cert.ReferenceIdeal.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Bits.Run
public import proofs.«01_k».proof.Proof.Ideal.Run
public import proofs.«01_k».proof.Proof.Val.Pre
public import proofs.«01_k».proof.Proof.Val.Match
public import Idealize.ShloMosaic.Adequacy
public import Idealize.ShloMosaic.Init

@[expose] public section

noncomputable section

namespace Cert.Proof

open Idealize.ShloMosaic Idealize.SL.Sem Cert.Kernel

/-- From memories that agree on the arguments, the gate's finite, the kernel and the reference end with equal results. -/
theorem values : Cert.algebraic_KernelIdeal_ReferenceIdeal_pre_finite := fun m g m' g' hp ha => by
  have H : ∀ c, Cert.KernelIdeal.Ends.Fin' m c := fun c => by
    obtain ⟨h6, h7⟩ := Cert.Pre_finite.decode _ _ _ _ _ _ _ _ _ (hp c)
    exact ⟨h6, h7⟩
  have A : ∀ c, Cert.ReferenceIdeal.Ref.Agree m m' c := fun c => by
    obtain ⟨h0, h1, h2, h3, h4, h5, h6, h7, h8⟩ := ha c
    exact ⟨h0, h1, h2, h3, h4, h5, h6, h7, h8⟩
  refine ⟨fun c => Cert.KernelIdeal.Run.U4 m c (Proc.devRef .tc Cert.KernelIdeal.main_v10), fun c => Cert.KernelIdeal.Run.U4 m c (Proc.devRef .tc Cert.KernelIdeal.main_v12),
    fun c => Cert.KernelIdeal.Run.U4 m c (Proc.devRef .tc Cert.KernelIdeal.main_v14), ?_, ?_⟩
  · exact (θ_run _ _ _).mono (fun _ h c => ⟨Cert.KernelIdeal.Run.at_end m (h.1 c) Cert.KernelIdeal.main_v10 rfl, Cert.KernelIdeal.Run.at_end m (h.1 c) Cert.KernelIdeal.main_v12 rfl,
      Cert.KernelIdeal.Run.at_end m (h.1 c) Cert.KernelIdeal.main_v14 rfl, Cert.KernelIdeal.Run.args_kept m (h.1 c)⟩) (Cert.KernelIdeal.Run.ends m g)
  · exact (θ_run _ _ _).mono (fun _ h c => ⟨(h c).1.trans (Cert.ReferenceIdeal.Ref.o_match m m' c (A c) (H c)), (h c).2.1.trans (Cert.ReferenceIdeal.Ref.l_match m m' c (A c) (H c)),
      (h c).2.2.1.trans (Cert.ReferenceIdeal.Ref.f_match m m' c (A c) (H c)), (h c).2.2.2⟩) (Cert.ReferenceIdeal.Ref.run m' g')

theorem claim : Cert.Claim := ⟨Cert.Kernel.Gen.facts, Cert.KernelIdeal.Gen.facts, Cert.ReferenceIdeal.Gen.facts, Cert.Pre_finite.facts,
  fun m g _ => (θ_run _ _ _).mono (fun _ h => ⟨fun c => Cert.Kernel.Run.args_kept m (h.1 c), h.2⟩) (Cert.Kernel.Run.ends m g),
  fun m g _ => (θ_run _ _ _).mono (fun _ h => ⟨fun c => Cert.KernelIdeal.Run.args_kept m (h.1 c), h.2⟩) (Cert.KernelIdeal.Run.ends m g),
  fun m g _ => (θ_run _ _ _).mono (fun _ h => ⟨fun c => Cert.KernelIdeal.Run.args_kept m (h.1 c), h.2⟩) (Cert.KernelIdeal.Run.ends m g),
  fun m g _ => Cert.ReferenceIdeal.Gen.frame m g,
  fun m g _ => Cert.ReferenceIdeal.Gen.frame m g,
  ⟨IdealRules.named_const.statement Cert.KernelIdeal.κ "log2e" .f32 0x3FB8AA3B#32 _ rfl,
    IdealRules.named_const.statement Cert.KernelIdeal.κ "ln2" .f32 0x3F317218#32 _ rfl⟩,
  values⟩

end Cert.Proof

end
